-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v104)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v248) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x4096x1024 : Shape := ⟨3, ![4, 4096, 1024]⟩
abbrev S1x1024 : Shape := ⟨2, ![1, 1024]⟩
abbrev S1x1024x1536 : Shape := ⟨3, ![1, 1024, 1536]⟩
abbrev S1x4x128x128 : Shape := ⟨4, ![1, 4, 128, 128]⟩
abbrev S1x512 : Shape := ⟨2, ![1, 512]⟩
abbrev S1x4x512 : Shape := ⟨3, ![1, 4, 512]⟩
abbrev S1x8x64x64 : Shape := ⟨4, ![1, 8, 64, 64]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S1x1024x512 : Shape := ⟨3, ![1, 1024, 512]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  slices_S1x1024x1536_S1x1024x512_0_0_0 : S1x1024x1536.Slices ![0, 0, 0] S1x1024x512
  bcast_S_S1x1024x512 : S_.BroadcastsInDim S1x1024x512 (![] : Fin 0 → Fin S1x1024x512.rank)
  reducesTo_S1x1024x512_S_d0_1_2 : S1x1024x512.ReducesTo [0, 1, 2] S_

variable [Facts]

def fn {F : FTy → Type} [FloatOps F] (main_arg0 : FVec F S4x4096x1024 .f32) (main_arg1 : FVec F S1x1024 .f32) (main_arg2 : FVec F S1x1024x1536 .f32) (main_arg3 : FVec F S1x4x128x128 .f32) (main_arg4 : FVec F S1x512 .f32) (main_arg5 : FVec F S1x4x512 .f32) (main_arg6 : FVec F S1x512 .f32) (main_arg7 : FVec F S1x8x64x64 .f32) (main_arg8 : FVec F S1x512 .f32) (main_arg9 : FVec F S1x8x64x64 .f32) (main_arg10 : FVec F S1x512 .f32) (main_arg11 : FVec F S1x512 .f32) (main_arg12 : FVec F S1x512 .f32) (main_arg13 : FVec F S1x512 .f32) (main_arg14 : FVec F S1x1024x1024 .f32) (main_arg15 : FVec F S1x1024 .f32) (main_arg16 : FVec F S1x1024x2816 .f32) (main_arg17 : FVec F S1x1024x2816 .f32) (main_arg18 : FVec F S1x2816x1024 .f32) (main_arg19 : FVec F S1024 .f32) : IVec S_ 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1x1024x512 .f32 := (extractStridedSlice S1x1024x512 ![0, 0, 0] · slices_S1x1024x1536_S1x1024x512_0_0_0) main_arg2
  let main_v5 : FVec F S1x1024x512 .f32 := Host.absf main_v4
  let main_cst_0 : FVec F S_ .f32 := constant S_ .f32 0x7F800000#32
  let main_v6 : FVec F S1x1024x512 .f32 := broadcastInDim S1x1024x512 ![] bcast_S_S1x1024x512 main_cst_0
  let main_v7 : IVec S1x1024x512 1 := cmpf .olt main_v5 main_v6
  let main_c_1 : IVec S_ 1 := constantI S_ 1 1#1
  let main_v8 : IVec S_ 1 := (fun x v => Host.reduce IntOp.andi x v reducesTo_S1x1024x512_S_d0_1_2 h_S_) main_v7 main_c_1
  let main_v9 : IVec S_ 1 := andi main_v3 main_v8
  main_v9
-- ==== Kernel.lean ====
abbrev S4x4096x1024 : Shape := ⟨3, ![4, 4096, 1024]⟩
abbrev S1x1024 : Shape := ⟨2, ![1, 1024]⟩
abbrev S1x1024x1536 : Shape := ⟨3, ![1, 1024, 1536]⟩
abbrev S1x4x128x128 : Shape := ⟨4, ![1, 4, 128, 128]⟩
abbrev S1x512 : Shape := ⟨2, ![1, 512]⟩
abbrev S1x4x512 : Shape := ⟨3, ![1, 4, 512]⟩
abbrev S1x8x64x64 : Shape := ⟨4, ![1, 8, 64, 64]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S1024 : Shape := ⟨1, ![1024]⟩
abbrev S4x128x128 : Shape := ⟨3, ![4, 128, 128]⟩
abbrev S2x128x128 : Shape := ⟨3, ![2, 128, 128]⟩
abbrev S2x2 : Shape := ⟨2, ![2, 2]⟩
abbrev S_ : Shape := ⟨0, ![]⟩
abbrev S2x1x2x1 : Shape := ⟨4, ![2, 1, 2, 1]⟩
abbrev S2x128x1x128 : Shape := ⟨4, ![2, 128, 1, 128]⟩
abbrev S2x128x2x128 : Shape := ⟨4, ![2, 128, 2, 128]⟩
abbrev S256x256 : Shape := ⟨2, ![256, 256]⟩
abbrev S1x256x256 : Shape := ⟨3, ![1, 256, 256]⟩
abbrev S2x256x256 : Shape := ⟨3, ![2, 256, 256]⟩
abbrev S8x64x64 : Shape := ⟨3, ![8, 64, 64]⟩
abbrev S4x64x64 : Shape := ⟨3, ![4, 64, 64]⟩
abbrev S4x4 : Shape := ⟨2, ![4, 4]⟩
abbrev S4x1x4x1 : Shape := ⟨4, ![4, 1, 4, 1]⟩
abbrev S4x64x1x64 : Shape := ⟨4, ![4, 64, 1, 64]⟩
abbrev S4x64x4x64 : Shape := ⟨4, ![4, 64, 4, 64]⟩
abbrev S256x512 : Shape := ⟨2, ![256, 512]⟩
abbrev S1x256x512 : Shape := ⟨3, ![1, 256, 512]⟩
abbrev S2x256x512 : Shape := ⟨3, ![2, 256, 512]⟩
abbrev S1024x1536 : Shape := ⟨2, ![1024, 1536]⟩
abbrev S4x512 : Shape := ⟨2, ![4, 512]⟩
abbrev S1024x1024 : Shape := ⟨2, ![1024, 1024]⟩
abbrev S1024x2816 : Shape := ⟨2, ![1024, 2816]⟩
abbrev S2816x1024 : Shape := ⟨2, ![2816, 1024]⟩
abbrev S1x512x1024 : Shape := ⟨3, ![1, 512, 1024]⟩
abbrev S528x512 : Shape := ⟨2, ![528, 512]⟩
abbrev S520x512 : Shape := ⟨2, ![520, 512]⟩
abbrev S4x576x128 : Shape := ⟨3, ![4, 576, 128]⟩
abbrev S16x512 : Shape := ⟨2, ![16, 512]⟩
abbrev S8x512 : Shape := ⟨2, ![8, 512]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S512x128 : Shape := ⟨2, ![512, 128]⟩
abbrev S512x256 : Shape := ⟨2, ![512, 256]⟩
abbrev S64x128 : Shape := ⟨2, ![64, 128]⟩
abbrev S1x64x128 : Shape := ⟨3, ![1, 64, 128]⟩
abbrev S8x128 : Shape := ⟨2, ![8, 128]⟩
abbrev S1x8x128 : Shape := ⟨3, ![1, 8, 128]⟩
abbrev S1x128 : Shape := ⟨2, ![1, 128]⟩
abbrev S1024x768 : Shape := ⟨2, ![1024, 768]⟩
abbrev S512x768 : Shape := ⟨2, ![512, 768]⟩
abbrev S768x1024 : Shape := ⟨2, ![768, 1024]⟩

abbrev nBuf : Space → Nat
  | .hbm => 131
  | .vmem => 28
  | .smem => 0
  | _ => 0

abbrev hbmTy0_0 (i : Nat) : BufTy := match i % 128 with
  | 0 => ⟨S4x4096x1024, .f32⟩
  | 1 => ⟨S1x1024, .f32⟩
  | 2 => ⟨S1x1024x1536, .f32⟩
  | 3 => ⟨S1x4x128x128, .f32⟩
  | 4 => ⟨S1x512, .f32⟩
  | 5 => ⟨S1x4x512, .f32⟩
  | 6 => ⟨S1x512, .f32⟩
  | 7 => ⟨S1x8x64x64, .f32⟩
  | 8 => ⟨S1x512, .f32⟩
  | 9 => ⟨S1x8x64x64, .f32⟩
  | 10 => ⟨S1x512, .f32⟩
  | 11 => ⟨S1x512, .f32⟩
  | 12 => ⟨S1x512, .f32⟩
  | 13 => ⟨S1x512, .f32⟩
  | 14 => ⟨S1x1024x1024, .f32⟩
  | 15 => ⟨S1x1024, .f32⟩
  | 16 => ⟨S1x1024x2816, .f32⟩
  | 17 => ⟨S1x1024x2816, .f32⟩
  | 18 => ⟨S1x2816x1024, .f32⟩
  | 19 => ⟨S1024, .f32⟩
  | 20 => ⟨S4x128x128, .f32⟩
  | 21 => ⟨S4x128x128, .bf16⟩
  | 22 => ⟨S2x128x128, .bf16⟩
  | 23 => ⟨S2x2, .i32⟩
  | 24 => ⟨S2x2, .i32⟩
  | 25 => ⟨S_, .i32⟩
  | 26 => ⟨S2x2, .i32⟩
  | 27 => ⟨S2x2, .i32⟩
  | 28 => ⟨S2x2, .i1⟩
  | 29 => ⟨S2x2, .bf16⟩
  | 30 => ⟨S2x1x2x1, .bf16⟩
  | 31 => ⟨S2x128x1x128, .bf16⟩
  | 32 => ⟨S2x128x2x128, .bf16⟩
  | 33 => ⟨S2x128x2x128, .bf16⟩
  | 34 => ⟨S2x128x2x128, .bf16⟩
  | 35 => ⟨S256x256, .bf16⟩
  | 36 => ⟨S2x128x128, .bf16⟩
  | 37 => ⟨S2x2, .i32⟩
  | 38 => ⟨S2x2, .i32⟩
  | 39 => ⟨S_, .i32⟩
  | 40 => ⟨S2x2, .i32⟩
  | 41 => ⟨S2x2, .i32⟩
  | 42 => ⟨S2x2, .i1⟩
  | 43 => ⟨S2x2, .bf16⟩
  | 44 => ⟨S2x1x2x1, .bf16⟩
  | 45 => ⟨S2x128x1x128, .bf16⟩
  | 46 => ⟨S2x128x2x128, .bf16⟩
  | 47 => ⟨S2x128x2x128, .bf16⟩
  | 48 => ⟨S2x128x2x128, .bf16⟩
  | 49 => ⟨S256x256, .bf16⟩
  | 50 => ⟨S1x256x256, .bf16⟩
  | 51 => ⟨S1x256x256, .bf16⟩
  | 52 => ⟨S2x256x256, .bf16⟩
  | 53 => ⟨S8x64x64, .f32⟩
  | 54 => ⟨S8x64x64, .bf16⟩
  | 55 => ⟨S8x64x64, .f32⟩
  | 56 => ⟨S8x64x64, .bf16⟩
  | 57 => ⟨S4x64x64, .bf16⟩
  | 58 => ⟨S4x4, .i32⟩
  | 59 => ⟨S4x4, .i32⟩
  | 60 => ⟨S_, .i32⟩
  | 61 => ⟨S4x4, .i32⟩
  | 62 => ⟨S4x4, .i32⟩
  | 63 => ⟨S4x4, .i1⟩
  | 64 => ⟨S4x4, .bf16⟩
  | 65 => ⟨S4x1x4x1, .bf16⟩
  | 66 => ⟨S4x64x1x64, .bf16⟩
  | 67 => ⟨S4x64x4x64, .bf16⟩
  | 68 => ⟨S4x64x4x64, .bf16⟩
  | 69 => ⟨S4x64x4x64, .bf16⟩
  | 70 => ⟨S256x256, .bf16⟩
  | 71 => ⟨S4x64x64, .bf16⟩
  | 72 => ⟨S4x4, .i32⟩
  | 73 => ⟨S4x4, .i32⟩
  | 74 => ⟨S_, .i32⟩
  | 75 => ⟨S4x4, .i32⟩
  | 76 => ⟨S4x4, .i32⟩
  | 77 => ⟨S4x4, .i1⟩
  | 78 => ⟨S4x4, .bf16⟩
  | 79 => ⟨S4x1x4x1, .bf16⟩
  | 80 => ⟨S4x64x1x64, .bf16⟩
  | 81 => ⟨S4x64x4x64, .bf16⟩
  | 82 => ⟨S4x64x4x64, .bf16⟩
  | 83 => ⟨S4x64x4x64, .bf16⟩
  | 84 => ⟨S256x256, .bf16⟩
  | 85 => ⟨S256x512, .bf16⟩
  | 86 => ⟨S4x64x64, .bf16⟩
  | 87 => ⟨S4x4, .i32⟩
  | 88 => ⟨S4x4, .i32⟩
  | 89 => ⟨S_, .i32⟩
  | 90 => ⟨S4x4, .i32⟩
  | 91 => ⟨S4x4, .i32⟩
  | 92 => ⟨S4x4, .i1⟩
  | 93 => ⟨S4x4, .bf16⟩
  | 94 => ⟨S4x1x4x1, .bf16⟩
  | 95 => ⟨S4x64x1x64, .bf16⟩
  | 96 => ⟨S4x64x4x64, .bf16⟩
  | 97 => ⟨S4x64x4x64, .bf16⟩
  | 98 => ⟨S4x64x4x64, .bf16⟩
  | 99 => ⟨S256x256, .bf16⟩
  | 100 => ⟨S4x64x64, .bf16⟩
  | 101 => ⟨S4x4, .i32⟩
  | 102 => ⟨S4x4, .i32⟩
  | 103 => ⟨S_, .i32⟩
  | 104 => ⟨S4x4, .i32⟩
  | 105 => ⟨S4x4, .i32⟩
  | 106 => ⟨S4x4, .i1⟩
  | 107 => ⟨S4x4, .bf16⟩
  | 108 => ⟨S4x1x4x1, .bf16⟩
  | 109 => ⟨S4x64x1x64, .bf16⟩
  | 110 => ⟨S4x64x4x64, .bf16⟩
  | 111 => ⟨S4x64x4x64, .bf16⟩
  | 112 => ⟨S4x64x4x64, .bf16⟩
  | 113 => ⟨S256x256, .bf16⟩
  | 114 => ⟨S256x512, .bf16⟩
  | 115 => ⟨S1x256x512, .bf16⟩
  | 116 => ⟨S1x256x512, .bf16⟩
  | 117 => ⟨S2x256x512, .bf16⟩
  | 118 => ⟨S1024x1536, .f32⟩
  | 119 => ⟨S1024x1536, .bf16⟩
  | 120 => ⟨S4x512, .f32⟩
  | 121 => ⟨S1024x1024, .f32⟩
  | 122 => ⟨S1024x1024, .bf16⟩
  | 123 => ⟨S1024x2816, .f32⟩
  | 124 => ⟨S1024x2816, .bf16⟩
  | 125 => ⟨S1024x2816, .f32⟩
  | 126 => ⟨S1024x2816, .bf16⟩
  | 127 => ⟨S2816x1024, .f32⟩
  | _ => ⟨S4x4096x1024, .f32⟩

abbrev hbmTy0_1 (i : Nat) : BufTy := match i % 128 with
  | 0 => ⟨S2816x1024, .bf16⟩
  | 1 => ⟨S1x1024, .f32⟩
  | 2 => ⟨S4x4096x1024, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x1536, .bf16⟩
  | .local _ .vmem, ⟨4, _⟩ => ⟨S2x256x256, .bf16⟩
  | .local _ .vmem, ⟨5, _⟩ => ⟨S1x512, .f32⟩
  | .local _ .vmem, ⟨6, _⟩ => ⟨S4x512, .f32⟩
  | .local _ .vmem, ⟨7, _⟩ => ⟨S1x512, .f32⟩
  | .local _ .vmem, ⟨8, _⟩ => ⟨S2x256x512, .bf16⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1024x1024, .bf16⟩
  | .local _ .vmem, ⟨15, _⟩ => ⟨S1x1024, .f32⟩
  | .local _ .vmem, ⟨16, _⟩ => ⟨S1024x2816, .bf16⟩
  | .local _ .vmem, ⟨17, _⟩ => ⟨S1024x2816, .bf16⟩
  | .local _ .vmem, ⟨18, _⟩ => ⟨S2816x1024, .bf16⟩
  | .local _ .vmem, ⟨19, _⟩ => ⟨S1x1024, .f32⟩
  | .local _ .vmem, ⟨20, _⟩ => ⟨S1x512x1024, .f32⟩
  | .local _ .vmem, ⟨21, _⟩ => ⟨S1x512x1024, .f32⟩
  | .local _ .vmem, ⟨22, _⟩ => ⟨S528x512, .f32⟩
  | .local _ .vmem, ⟨23, _⟩ => ⟨S520x512, .f32⟩
  | .local _ .vmem, ⟨24, _⟩ => ⟨S4x576x128, .f32⟩
  | .local _ .vmem, ⟨25, _⟩ => ⟨S4x576x128, .f32⟩
  | .local _ .vmem, ⟨26, _⟩ => ⟨S4x576x128, .f32⟩
  | .local _ .vmem, ⟨27, _⟩ => ⟨S1x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_c : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_c_0 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_1 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_2 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_3 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_c_4 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg19_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem19_1 : DmaSem sig := 21

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2x256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x2816 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1024x2816 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S2816x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S1x512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== ReferenceIdeal.lean ====
abbrev S4x4096x1024 : Shape := ⟨3, ![4, 4096, 1024]⟩
abbrev S1x1024 : Shape := ⟨2, ![1, 1024]⟩
abbrev S1x1024x1536 : Shape := ⟨3, ![1, 1024, 1536]⟩
abbrev S1x4x128x128 : Shape := ⟨4, ![1, 4, 128, 128]⟩
abbrev S1x512 : Shape := ⟨2, ![1, 512]⟩
abbrev S1x4x512 : Shape := ⟨3, ![1, 4, 512]⟩
abbrev S1x8x64x64 : Shape := ⟨4, ![1, 8, 64, 64]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x1536 : Shape := ⟨2, ![1024, 1536]⟩
abbrev S4x4096x1536 : Shape := ⟨3, ![4, 4096, 1536]⟩
abbrev S4x4096x512 : Shape := ⟨3, ![4, 4096, 512]⟩
abbrev S4x128x128 : Shape := ⟨3, ![4, 128, 128]⟩
abbrev S512 : Shape := ⟨1, ![512]⟩
abbrev S4096 : Shape := ⟨1, ![4096]⟩
abbrev S1x4096x1 : Shape := ⟨3, ![1, 4096, 1]⟩
abbrev S4x4096x128 : Shape := ⟨3, ![4, 4096, 128]⟩
abbrev S4x4094x128 : Shape := ⟨3, ![4, 4094, 128]⟩
abbrev S4x4092x128 : Shape := ⟨3, ![4, 4092, 128]⟩
abbrev S4x4088x128 : Shape := ⟨3, ![4, 4088, 128]⟩
abbrev S4x4080x128 : Shape := ⟨3, ![4, 4080, 128]⟩
abbrev S4x4096x1x128 : Shape := ⟨4, ![4, 4096, 1, 128]⟩
abbrev S4x4096x4x128 : Shape := ⟨4, ![4, 4096, 4, 128]⟩
abbrev S4x128x4x4096 : Shape := ⟨4, ![4, 128, 4, 4096]⟩
abbrev S1x1x512 : Shape := ⟨3, ![1, 1, 512]⟩
abbrev S4x512 : Shape := ⟨2, ![4, 512]⟩
abbrev S4x4099x512 : Shape := ⟨3, ![4, 4099, 512]⟩
abbrev S8x64x64 : Shape := ⟨3, ![8, 64, 64]⟩
abbrev S4x4096x8x64 : Shape := ⟨4, ![4, 4096, 8, 64]⟩
abbrev S8x64x4x4096 : Shape := ⟨4, ![8, 64, 4, 4096]⟩
abbrev S4096x4x512 : Shape := ⟨3, ![4096, 4, 512]⟩
abbrev S4x1x512 : Shape := ⟨3, ![4, 1, 512]⟩
abbrev S4096x4x1024 : Shape := ⟨3, ![4096, 4, 1024]⟩
abbrev S4x1024 : Shape := ⟨2, ![4, 1024]⟩
abbrev S1x4x1024 : Shape := ⟨3, ![1, 4, 1024]⟩
abbrev S1024x1024 : Shape := ⟨2, ![1024, 1024]⟩
abbrev S1024x2816 : Shape := ⟨2, ![1024, 2816]⟩
abbrev S4x4096x2816 : Shape := ⟨3, ![4, 4096, 2816]⟩
abbrev S2816x1024 : Shape := ⟨2, ![2816, 1024]⟩

abbrev nBuf : Space → Nat
  | .hbm => 376
  | .vmem => 0
  | .smem => 0
  | _ => 0

abbrev hbmTy0_0 (i : Nat) : BufTy := match i % 128 with
  | 0 => ⟨S4x4096x1024, .f32⟩
  | 1 => ⟨S1x1024, .f32⟩
  | 2 => ⟨S1x1024x1536, .f32⟩
  | 3 => ⟨S1x4x128x128, .f32⟩
  | 4 => ⟨S1x512, .f32⟩
  | 5 => ⟨S1x4x512, .f32⟩
  | 6 => ⟨S1x512, .f32⟩
  | 7 => ⟨S1x8x64x64, .f32⟩
  | 8 => ⟨S1x512, .f32⟩
  | 9 => ⟨S1x8x64x64, .f32⟩
  | 10 => ⟨S1x512, .f32⟩
  | 11 => ⟨S1x512, .f32⟩
  | 12 => ⟨S1x512, .f32⟩
  | 13 => ⟨S1x512, .f32⟩
  | 14 => ⟨S1x1024x1024, .f32⟩
  | 15 => ⟨S1x1024, .f32⟩
  | 16 => ⟨S1x1024x2816, .f32⟩
  | 17 => ⟨S1x1024x2816, .f32⟩
  | 18 => ⟨S1x2816x1024, .f32⟩
  | 19 => ⟨S1024, .f32⟩
  | 20 => ⟨S1024, .f32⟩
  | 21 => ⟨S4x4096x1024, .f32⟩
  | 22 => ⟨S_, .f32⟩
  | 23 => ⟨S4x4096, .f32⟩
  | 24 => ⟨S4x4096x1, .f32⟩
  | 25 => ⟨S_, .f32⟩
  | 26 => ⟨S4x4096x1, .f32⟩
  | 27 => ⟨S4x4096x1, .f32⟩
  | 28 => ⟨S_, .f32⟩
  | 29 => ⟨S4x4096x1, .f32⟩
  | 30 => ⟨S4x4096x1, .f32⟩
  | 31 => ⟨S4x4096x1, .f32⟩
  | 32 => ⟨S4x4096x1024, .f32⟩
  | 33 => ⟨S4x4096x1024, .f32⟩
  | 34 => ⟨S1x1x1024, .f32⟩
  | 35 => ⟨S4x4096x1024, .f32⟩
  | 36 => ⟨S4x4096x1024, .f32⟩
  | 37 => ⟨S1024x1536, .f32⟩
  | 38 => ⟨S4x4096x1536, .f32⟩
  | 39 => ⟨S4x4096x512, .f32⟩
  | 40 => ⟨S4x4096x512, .f32⟩
  | 41 => ⟨S4x4096x512, .f32⟩
  | 42 => ⟨S4x128x128, .f32⟩
  | 43 => ⟨S512, .f32⟩
  | 44 => ⟨S4096, .f32⟩
  | 45 => ⟨S_, .f32⟩
  | 46 => ⟨S4096, .f32⟩
  | 47 => ⟨S4096, .f32⟩
  | 48 => ⟨S1x4096x1, .f32⟩
  | 49 => ⟨S4x4096x128, .f32⟩
  | 50 => ⟨S_, .f32⟩
  | 51 => ⟨S_, .f32⟩
  | 52 => ⟨S4x4096x128, .f32⟩
  | 53 => ⟨S4x4094x128, .f32⟩
  | 54 => ⟨S_, .i32⟩
  | 55 => ⟨S_, .f32⟩
  | 56 => ⟨S4x4096x128, .f32⟩
  | 57 => ⟨S4x4096x128, .f32⟩
  | 58 => ⟨S_, .f32⟩
  | 59 => ⟨S1x4096x1, .f32⟩
  | 60 => ⟨S1x4096x1, .f32⟩
  | 61 => ⟨S4x4096x128, .f32⟩
  | 62 => ⟨S4x4096x128, .f32⟩
  | 63 => ⟨S4x4096x128, .f32⟩
  | 64 => ⟨S4x4096x128, .f32⟩
  | 65 => ⟨S_, .f32⟩
  | 66 => ⟨S_, .f32⟩
  | 67 => ⟨S4x4096x128, .f32⟩
  | 68 => ⟨S4x4092x128, .f32⟩
  | 69 => ⟨S_, .i32⟩
  | 70 => ⟨S_, .f32⟩
  | 71 => ⟨S4x4096x128, .f32⟩
  | 72 => ⟨S4x4096x128, .f32⟩
  | 73 => ⟨S_, .f32⟩
  | 74 => ⟨S1x4096x1, .f32⟩
  | 75 => ⟨S1x4096x1, .f32⟩
  | 76 => ⟨S4x4096x128, .f32⟩
  | 77 => ⟨S4x4096x128, .f32⟩
  | 78 => ⟨S4x4096x128, .f32⟩
  | 79 => ⟨S4x4096x128, .f32⟩
  | 80 => ⟨S_, .f32⟩
  | 81 => ⟨S_, .f32⟩
  | 82 => ⟨S4x4096x128, .f32⟩
  | 83 => ⟨S4x4088x128, .f32⟩
  | 84 => ⟨S_, .i32⟩
  | 85 => ⟨S_, .f32⟩
  | 86 => ⟨S4x4096x128, .f32⟩
  | 87 => ⟨S4x4096x128, .f32⟩
  | 88 => ⟨S_, .f32⟩
  | 89 => ⟨S1x4096x1, .f32⟩
  | 90 => ⟨S1x4096x1, .f32⟩
  | 91 => ⟨S4x4096x128, .f32⟩
  | 92 => ⟨S4x4096x128, .f32⟩
  | 93 => ⟨S4x4096x128, .f32⟩
  | 94 => ⟨S4x4096x128, .f32⟩
  | 95 => ⟨S_, .f32⟩
  | 96 => ⟨S_, .f32⟩
  | 97 => ⟨S4x4096x128, .f32⟩
  | 98 => ⟨S4x4080x128, .f32⟩
  | 99 => ⟨S_, .i32⟩
  | 100 => ⟨S_, .f32⟩
  | 101 => ⟨S4x4096x128, .f32⟩
  | 102 => ⟨S4x4096x128, .f32⟩
  | 103 => ⟨S_, .f32⟩
  | 104 => ⟨S1x4096x1, .f32⟩
  | 105 => ⟨S1x4096x1, .f32⟩
  | 106 => ⟨S4x4096x128, .f32⟩
  | 107 => ⟨S4x4096x128, .f32⟩
  | 108 => ⟨S4x4096x128, .f32⟩
  | 109 => ⟨S4x4096x1x128, .f32⟩
  | 110 => ⟨S4x4096x1x128, .f32⟩
  | 111 => ⟨S4x4096x1x128, .f32⟩
  | 112 => ⟨S4x4096x1x128, .f32⟩
  | 113 => ⟨S4x4096x4x128, .f32⟩
  | 114 => ⟨S4x128x4x4096, .f32⟩
  | 115 => ⟨S4x4096x4x128, .f32⟩
  | 116 => ⟨S4x4096x512, .f32⟩
  | 117 => ⟨S1x1x512, .f32⟩
  | 118 => ⟨S4x4096x512, .f32⟩
  | 119 => ⟨S4x4096x512, .f32⟩
  | 120 => ⟨S4x512, .f32⟩
  | 121 => ⟨S512, .f32⟩
  | 122 => ⟨S_, .i32⟩
  | 123 => ⟨S_, .f32⟩
  | 124 => ⟨S4x4099x512, .f32⟩
  | 125 => ⟨S4x4096x512, .f32⟩
  | 126 => ⟨S1x512, .f32⟩
  | 127 => ⟨S512, .f32⟩
  | _ => ⟨S4x4096x1024, .f32⟩

abbrev hbmTy0_1 (i : Nat) : BufTy := match i % 128 with
  | 0 => ⟨S1x1x512, .f32⟩
  | 1 => ⟨S4x4096x512, .f32⟩
  | 2 => ⟨S4x4096x512, .f32⟩
  | 3 => ⟨S4x4096x512, .f32⟩
  | 4 => ⟨S1x512, .f32⟩
  | 5 => ⟨S512, .f32⟩
  | 6 => ⟨S1x1x512, .f32⟩
  | 7 => ⟨S4x4096x512, .f32⟩
  | 8 => ⟨S4x4096x512, .f32⟩
  | 9 => ⟨S4x4096x512, .f32⟩
  | 10 => ⟨S4x4096x512, .f32⟩
  | 11 => ⟨S1x512, .f32⟩
  | 12 => ⟨S512, .f32⟩
  | 13 => ⟨S1x1x512, .f32⟩
  | 14 => ⟨S4x4096x512, .f32⟩
  | 15 => ⟨S4x4096x512, .f32⟩
  | 16 => ⟨S4x4096x512, .f32⟩
  | 17 => ⟨S4x4096x512, .f32⟩
  | 18 => ⟨S1x512, .f32⟩
  | 19 => ⟨S512, .f32⟩
  | 20 => ⟨S1x1x512, .f32⟩
  | 21 => ⟨S4x4096x512, .f32⟩
  | 22 => ⟨S4x4096x512, .f32⟩
  | 23 => ⟨S4x4096x512, .f32⟩
  | 24 => ⟨S1x1x512, .f32⟩
  | 25 => ⟨S4x4096x512, .f32⟩
  | 26 => ⟨S4x4096x512, .f32⟩
  | 27 => ⟨S8x64x64, .f32⟩
  | 28 => ⟨S512, .f32⟩
  | 29 => ⟨S8x64x64, .f32⟩
  | 30 => ⟨S512, .f32⟩
  | 31 => ⟨S512, .f32⟩
  | 32 => ⟨S4x4096x8x64, .f32⟩
  | 33 => ⟨S8x64x4x4096, .f32⟩
  | 34 => ⟨S4x4096x8x64, .f32⟩
  | 35 => ⟨S4x4096x512, .f32⟩
  | 36 => ⟨S1x1x512, .f32⟩
  | 37 => ⟨S4x4096x512, .f32⟩
  | 38 => ⟨S4x4096x512, .f32⟩
  | 39 => ⟨S4x4096x512, .f32⟩
  | 40 => ⟨S4x4096x512, .f32⟩
  | 41 => ⟨S_, .f32⟩
  | 42 => ⟨S4x4096x512, .f32⟩
  | 43 => ⟨S4x4096x512, .f32⟩
  | 44 => ⟨S_, .f32⟩
  | 45 => ⟨S4x4096x512, .f32⟩
  | 46 => ⟨S4x4096x512, .f32⟩
  | 47 => ⟨S8x64x4x4096, .f32⟩
  | 48 => ⟨S4x4096x8x64, .f32⟩
  | 49 => ⟨S4x4096x512, .f32⟩
  | 50 => ⟨S1x1x512, .f32⟩
  | 51 => ⟨S4x4096x512, .f32⟩
  | 52 => ⟨S4x4096x512, .f32⟩
  | 53 => ⟨S4x4096x512, .f32⟩
  | 54 => ⟨S4x4096x512, .f32⟩
  | 55 => ⟨S_, .f32⟩
  | 56 => ⟨S4x4096x512, .f32⟩
  | 57 => ⟨S4x4096x512, .f32⟩
  | 58 => ⟨S_, .f32⟩
  | 59 => ⟨S4x4096x512, .f32⟩
  | 60 => ⟨S4x4096x512, .f32⟩
  | 61 => ⟨S_, .f32⟩
  | 62 => ⟨S4x4096x512, .f32⟩
  | 63 => ⟨S4x4096x512, .f32⟩
  | 64 => ⟨S512, .f32⟩
  | 65 => ⟨S_, .f32⟩
  | 66 => ⟨S512, .f32⟩
  | 67 => ⟨S512, .f32⟩
  | 68 => ⟨S512, .f32⟩
  | 69 => ⟨S512, .f32⟩
  | 70 => ⟨S512, .i1⟩
  | 71 => ⟨S512, .f32⟩
  | 72 => ⟨S512, .f32⟩
  | 73 => ⟨S512, .f32⟩
  | 74 => ⟨S512, .f32⟩
  | 75 => ⟨S512, .f32⟩
  | 76 => ⟨S512, .f32⟩
  | 77 => ⟨S512, .f32⟩
  | 78 => ⟨S512, .f32⟩
  | 79 => ⟨S1x1x512, .f32⟩
  | 80 => ⟨S4x4096x512, .f32⟩
  | 81 => ⟨S4x4096x512, .f32⟩
  | 82 => ⟨S4x4096x512, .f32⟩
  | 83 => ⟨S_, .f32⟩
  | 84 => ⟨S4x4096x512, .f32⟩
  | 85 => ⟨S4x4096x512, .f32⟩
  | 86 => ⟨S4x4096x512, .f32⟩
  | 87 => ⟨S4x4096x512, .f32⟩
  | 88 => ⟨S_, .f32⟩
  | 89 => ⟨S4x4096x512, .f32⟩
  | 90 => ⟨S4x4096x512, .f32⟩
  | 91 => ⟨S4x4096x512, .f32⟩
  | 92 => ⟨S4x4096x512, .f32⟩
  | 93 => ⟨S4x4096x512, .f32⟩
  | 94 => ⟨S4x4096x512, .f32⟩
  | 95 => ⟨S4x4096x512, .f32⟩
  | 96 => ⟨S_, .f32⟩
  | 97 => ⟨S4x4096x512, .f32⟩
  | 98 => ⟨S4x4096x512, .f32⟩
  | 99 => ⟨S4x4096x512, .f32⟩
  | 100 => ⟨S_, .f32⟩
  | 101 => ⟨S4x4096x512, .f32⟩
  | 102 => ⟨S4x4096x512, .f32⟩
  | 103 => ⟨S4x4096x512, .f32⟩
  | 104 => ⟨S_, .f32⟩
  | 105 => ⟨S4x4096x512, .f32⟩
  | 106 => ⟨S4x4096x512, .f32⟩
  | 107 => ⟨S_, .f32⟩
  | 108 => ⟨S4x4096x512, .f32⟩
  | 109 => ⟨S4x4096x512, .f32⟩
  | 110 => ⟨S4x4096x512, .f32⟩
  | 111 => ⟨S4096x4x512, .f32⟩
  | 112 => ⟨S4096x4x512, .f32⟩
  | 113 => ⟨S4096x4x512, .f32⟩
  | 114 => ⟨S4096x4x512, .f32⟩
  | 115 => ⟨S4x1x512, .f32⟩
  | 116 => ⟨S4x512, .f32⟩
  | 117 => ⟨S_, .f32⟩
  | 118 => ⟨S4x512, .f32⟩
  | 119 => ⟨S_, .f32⟩
  | 120 => ⟨S4096x4x1024, .f32⟩
  | 121 => ⟨S_, .i32⟩
  | 122 => ⟨S4096x4x512, .f32⟩
  | 123 => ⟨S4096x4x512, .f32⟩
  | 124 => ⟨S4096x4x512, .f32⟩
  | 125 => ⟨S4096x4x512, .f32⟩
  | 126 => ⟨S_, .i32⟩
  | 127 => ⟨S4x512, .f32⟩
  | _ => ⟨S4x4096x1024, .f32⟩

abbrev hbmTy0_2 (i : Nat) : BufTy := match i % 128 with
  | 0 => ⟨S4096x4x1024, .f32⟩
  | 1 => ⟨S_, .i32⟩
  | 2 => ⟨S_, .i1⟩
  | 3 => ⟨S_, .i32⟩
  | 4 => ⟨S_, .i32⟩
  | 5 => ⟨S1x4x512, .f32⟩
  | 6 => ⟨S4x512, .f32⟩
  | 7 => ⟨S_, .i32⟩
  | 8 => ⟨S_, .i32⟩
  | 9 => ⟨S1x4x512, .f32⟩
  | 10 => ⟨S4x512, .f32⟩
  | 11 => ⟨S_, .i32⟩
  | 12 => ⟨S_, .i32⟩
  | 13 => ⟨S1x4x512, .f32⟩
  | 14 => ⟨S4x512, .f32⟩
  | 15 => ⟨S_, .i32⟩
  | 16 => ⟨S_, .i32⟩
  | 17 => ⟨S1x4x512, .f32⟩
  | 18 => ⟨S4x512, .f32⟩
  | 19 => ⟨S4x512, .f32⟩
  | 20 => ⟨S4x512, .f32⟩
  | 21 => ⟨S4x512, .f32⟩
  | 22 => ⟨S4x1024, .f32⟩
  | 23 => ⟨S1x4x1024, .f32⟩
  | 24 => ⟨S_, .i32⟩
  | 25 => ⟨S_, .i32⟩
  | 26 => ⟨S4096x4x1024, .f32⟩
  | 27 => ⟨S_, .i32⟩
  | 28 => ⟨S_, .i32⟩
  | 29 => ⟨S4x4096x1024, .f32⟩
  | 30 => ⟨S4x4096x512, .f32⟩
  | 31 => ⟨S512, .f32⟩
  | 32 => ⟨S4x4096x512, .f32⟩
  | 33 => ⟨S_, .f32⟩
  | 34 => ⟨S4x4096, .f32⟩
  | 35 => ⟨S4x4096x1, .f32⟩
  | 36 => ⟨S_, .f32⟩
  | 37 => ⟨S4x4096x1, .f32⟩
  | 38 => ⟨S4x4096x1, .f32⟩
  | 39 => ⟨S_, .f32⟩
  | 40 => ⟨S4x4096x1, .f32⟩
  | 41 => ⟨S4x4096x1, .f32⟩
  | 42 => ⟨S4x4096x1, .f32⟩
  | 43 => ⟨S4x4096x512, .f32⟩
  | 44 => ⟨S4x4096x512, .f32⟩
  | 45 => ⟨S1x1x512, .f32⟩
  | 46 => ⟨S4x4096x512, .f32⟩
  | 47 => ⟨S4x4096x512, .f32⟩
  | 48 => ⟨S4x4096x512, .f32⟩
  | 49 => ⟨S512, .f32⟩
  | 50 => ⟨S4x4096x512, .f32⟩
  | 51 => ⟨S_, .f32⟩
  | 52 => ⟨S4x4096, .f32⟩
  | 53 => ⟨S4x4096x1, .f32⟩
  | 54 => ⟨S_, .f32⟩
  | 55 => ⟨S4x4096x1, .f32⟩
  | 56 => ⟨S4x4096x1, .f32⟩
  | 57 => ⟨S_, .f32⟩
  | 58 => ⟨S4x4096x1, .f32⟩
  | 59 => ⟨S4x4096x1, .f32⟩
  | 60 => ⟨S4x4096x1, .f32⟩
  | 61 => ⟨S4x4096x512, .f32⟩
  | 62 => ⟨S4x4096x512, .f32⟩
  | 63 => ⟨S1x1x512, .f32⟩
  | 64 => ⟨S4x4096x512, .f32⟩
  | 65 => ⟨S4x4096x512, .f32⟩
  | 66 => ⟨S4x4096x1024, .f32⟩
  | 67 => ⟨S1024x1024, .f32⟩
  | 68 => ⟨S4x4096x1024, .f32⟩
  | 69 => ⟨S4x4096x1024, .f32⟩
  | 70 => ⟨S1024, .f32⟩
  | 71 => ⟨S4x4096x1024, .f32⟩
  | 72 => ⟨S_, .f32⟩
  | 73 => ⟨S4x4096, .f32⟩
  | 74 => ⟨S4x4096x1, .f32⟩
  | 75 => ⟨S_, .f32⟩
  | 76 => ⟨S4x4096x1, .f32⟩
  | 77 => ⟨S4x4096x1, .f32⟩
  | 78 => ⟨S_, .f32⟩
  | 79 => ⟨S4x4096x1, .f32⟩
  | 80 => ⟨S4x4096x1, .f32⟩
  | 81 => ⟨S4x4096x1, .f32⟩
  | 82 => ⟨S4x4096x1024, .f32⟩
  | 83 => ⟨S4x4096x1024, .f32⟩
  | 84 => ⟨S1x1x1024, .f32⟩
  | 85 => ⟨S4x4096x1024, .f32⟩
  | 86 => ⟨S4x4096x1024, .f32⟩
  | 87 => ⟨S1024x2816, .f32⟩
  | 88 => ⟨S4x4096x2816, .f32⟩
  | 89 => ⟨S4x4096x2816, .f32⟩
  | 90 => ⟨S4x4096x2816, .f32⟩
  | 91 => ⟨S_, .f32⟩
  | 92 => ⟨S4x4096x2816, .f32⟩
  | 93 => ⟨S4x4096x2816, .f32⟩
  | 94 => ⟨S_, .f32⟩
  | 95 => ⟨S4x4096x2816, .f32⟩
  | 96 => ⟨S4x4096x2816, .f32⟩
  | 97 => ⟨S4x4096x2816, .f32⟩
  | 98 => ⟨S1024x2816, .f32⟩
  | 99 => ⟨S4x4096x2816, .f32⟩
  | 100 => ⟨S4x4096x2816, .f32⟩
  | 101 => ⟨S2816x1024, .f32⟩
  | 102 => ⟨S4x4096x1024, .f32⟩
  | 103 => ⟨S4x4096x1024, .f32⟩
  | 104 => ⟨S4x4096x1024, .f32⟩
  | 105 => ⟨S_, .f32⟩
  | 106 => ⟨S4x4096, .f32⟩
  | 107 => ⟨S4x4096x1, .f32⟩
  | 108 => ⟨S_, .f32⟩
  | 109 => ⟨S4x4096x1, .f32⟩
  | 110 => ⟨S4x4096x1, .f32⟩
  | 111 => ⟨S_, .f32⟩
  | 112 => ⟨S4x4096x1, .f32⟩
  | 113 => ⟨S4x4096x1, .f32⟩
  | 114 => ⟨S4x4096x1, .f32⟩
  | 115 => ⟨S4x4096x1024, .f32⟩
  | 116 => ⟨S4x4096x1024, .f32⟩
  | 117 => ⟨S1x1x1024, .f32⟩
  | 118 => ⟨S4x4096x1024, .f32⟩
  | 119 => ⟨S4x4096x1024, .f32⟩
  | _ => ⟨S4x4096x1024, .f32⟩

abbrev hbmTy (i : Nat) : BufTy := match i / 128 with
  | 0 => hbmTy0_0 i
  | 1 => hbmTy0_1 i
  | 2 => hbmTy0_2 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_cst : Ref sig .tc := ⟨.hbm, 22, rfl⟩
abbrev main_v2 : Ref sig .tc := ⟨.hbm, 23, rfl⟩
abbrev main_v3 : Ref sig .tc := ⟨.hbm, 24, rfl⟩
abbrev main_cst_0 : Ref sig .tc := ⟨.hbm, 25, rfl⟩
abbrev main_v4 : Ref sig .tc := ⟨.hbm, 26, rfl⟩
abbrev main_v5 : Ref sig .tc := ⟨.hbm, 27, rfl⟩
abbrev main_cst_1 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_2 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_call0_call0_cst : Ref sig .tc := ⟨.hbm, 50, rfl⟩
abbrev main_call0_call0_v0 : Ref sig .tc := ⟨.hbm, 51, rfl⟩
abbrev main_v26 : Ref sig .tc := ⟨.hbm, 52, rfl⟩
abbrev main_v27 : Ref sig .tc := ⟨.hbm, 53, rfl⟩
abbrev main_c : Ref sig .tc := ⟨.hbm, 54, rfl⟩
abbrev main_call1_v0 : Ref sig .tc := ⟨.hbm, 55, rfl⟩
abbrev main_v28 : Ref sig .tc := ⟨.hbm, 56, rfl⟩
abbrev main_v29 : Ref sig .tc := ⟨.hbm, 57, rfl⟩
abbrev main_cst_3 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_call2_call0_cst : Ref sig .tc := ⟨.hbm, 65, rfl⟩
abbrev main_call2_call0_v0 : Ref sig .tc := ⟨.hbm, 66, rfl⟩
abbrev main_v36 : Ref sig .tc := ⟨.hbm, 67, rfl⟩
abbrev main_v37 : Ref sig .tc := ⟨.hbm, 68, rfl⟩
abbrev main_c_4 : Ref sig .tc := ⟨.hbm, 69, rfl⟩
abbrev main_call3_v0 : Ref sig .tc := ⟨.hbm, 70, rfl⟩
abbrev main_v38 : Ref sig .tc := ⟨.hbm, 71, rfl⟩
abbrev main_v39 : Ref sig .tc := ⟨.hbm, 72, rfl⟩
abbrev main_cst_5 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_call4_call0_cst : Ref sig .tc := ⟨.hbm, 80, rfl⟩
abbrev main_call4_call0_v0 : Ref sig .tc := ⟨.hbm, 81, rfl⟩
abbrev main_v46 : Ref sig .tc := ⟨.hbm, 82, rfl⟩
abbrev main_v47 : Ref sig .tc := ⟨.hbm, 83, rfl⟩
abbrev main_c_6 : Ref sig .tc := ⟨.hbm, 84, rfl⟩
abbrev main_call5_v0 : Ref sig .tc := ⟨.hbm, 85, rfl⟩
abbrev main_v48 : Ref sig .tc := ⟨.hbm, 86, rfl⟩
abbrev main_v49 : Ref sig .tc := ⟨.hbm, 87, rfl⟩
abbrev main_cst_7 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_call6_call0_cst : Ref sig .tc := ⟨.hbm, 95, rfl⟩
abbrev main_call6_call0_v0 : Ref sig .tc := ⟨.hbm, 96, rfl⟩
abbrev main_v56 : Ref sig .tc := ⟨.hbm, 97, rfl⟩
abbrev main_v57 : Ref sig .tc := ⟨.hbm, 98, rfl⟩
abbrev main_c_8 : Ref sig .tc := ⟨.hbm, 99, rfl⟩
abbrev main_call7_v0 : Ref sig .tc := ⟨.hbm, 100, rfl⟩
abbrev main_v58 : Ref sig .tc := ⟨.hbm, 101, rfl⟩
abbrev main_v59 : Ref sig .tc := ⟨.hbm, 102, rfl⟩
abbrev main_cst_9 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_c_10 : Ref sig .tc := ⟨.hbm, 122, rfl⟩
abbrev main_call8_v0 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_cst_11 : Ref sig .tc := ⟨.hbm, 169, rfl⟩
abbrev main_v123 : Ref sig .tc := ⟨.hbm, 170, rfl⟩
abbrev main_v124 : Ref sig .tc := ⟨.hbm, 171, rfl⟩
abbrev main_cst_12 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_cst_13 : Ref sig .tc := ⟨.hbm, 183, rfl⟩
abbrev main_v135 : Ref sig .tc := ⟨.hbm, 184, rfl⟩
abbrev main_v136 : Ref sig .tc := ⟨.hbm, 185, rfl⟩
abbrev main_cst_14 : Ref sig .tc := ⟨.hbm, 186, rfl⟩
abbrev main_v137 : Ref sig .tc := ⟨.hbm, 187, rfl⟩
abbrev main_v138 : Ref sig .tc := ⟨.hbm, 188, rfl⟩
abbrev main_cst_15 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_call9_cst : Ref sig .tc := ⟨.hbm, 193, rfl⟩
abbrev main_call9_v0 : Ref sig .tc := ⟨.hbm, 194, rfl⟩
abbrev main_call9_v1 : Ref sig .tc := ⟨.hbm, 195, rfl⟩
abbrev main_call9_v2 : Ref sig .tc := ⟨.hbm, 196, rfl⟩
abbrev main_call9_v3 : Ref sig .tc := ⟨.hbm, 197, rfl⟩
abbrev main_call9_v4 : Ref sig .tc := ⟨.hbm, 198, rfl⟩
abbrev main_call9_v5 : Ref sig .tc := ⟨.hbm, 199, rfl⟩
abbrev main_call9_v6 : Ref sig .tc := ⟨.hbm, 200, rfl⟩
abbrev main_call9_v7 : Ref sig .tc := ⟨.hbm, 201, rfl⟩
abbrev main_call9_v8 : Ref sig .tc := ⟨.hbm, 202, rfl⟩
abbrev main_call9_v9 : Ref sig .tc := ⟨.hbm, 203, rfl⟩
abbrev main_call9_v10 : Ref sig .tc := ⟨.hbm, 204, rfl⟩
abbrev main_call9_v11 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_cst_16 : Ref sig .tc := ⟨.hbm, 211, rfl⟩
abbrev main_v147 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_cst_17 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_cst_18 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_cst_19 : Ref sig .tc := ⟨.hbm, 228, rfl⟩
abbrev main_v161 : Ref sig .tc := ⟨.hbm, 229, rfl⟩
abbrev main_v162 : Ref sig .tc := ⟨.hbm, 230, rfl⟩
abbrev main_v163 : Ref sig .tc := ⟨.hbm, 231, rfl⟩
abbrev main_cst_20 : Ref sig .tc := ⟨.hbm, 232, rfl⟩
abbrev main_v164 : Ref sig .tc := ⟨.hbm, 233, rfl⟩
abbrev main_v165 : Ref sig .tc := ⟨.hbm, 234, rfl⟩
abbrev main_cst_21 : Ref sig .tc := ⟨.hbm, 235, rfl⟩
abbrev main_v166 : Ref sig .tc := ⟨.hbm, 236, rfl⟩
abbrev main_v167 : Ref sig .tc := ⟨.hbm, 237, rfl⟩
abbrev main_v168 : Ref sig .tc := ⟨.hbm, 238, rfl⟩
abbrev main_v169 : Ref sig .tc := ⟨.hbm, 239, rfl⟩
abbrev main_v170 : Ref sig .tc := ⟨.hbm, 240, rfl⟩
abbrev main_v171 : Ref sig .tc := ⟨.hbm, 241, rfl⟩
abbrev main_v172 : Ref sig .tc := ⟨.hbm, 242, rfl⟩
abbrev main_v173 : Ref sig .tc := ⟨.hbm, 243, rfl⟩
abbrev main_v174 : Ref sig .tc := ⟨.hbm, 244, rfl⟩
abbrev main_cst_22 : Ref sig .tc := ⟨.hbm, 245, rfl⟩
abbrev main_v175 : Ref sig .tc := ⟨.hbm, 246, rfl⟩
abbrev main_cst_23 : Ref sig .tc := ⟨.hbm, 247, rfl⟩
abbrev main_v176 : Ref sig .tc := ⟨.hbm, 248, rfl⟩
abbrev main_c_24 : Ref sig .tc := ⟨.hbm, 249, rfl⟩
abbrev main_v177_0 : Ref sig .tc := ⟨.hbm, 250, rfl⟩
abbrev main_v177_1 : Ref sig .tc := ⟨.hbm, 251, rfl⟩
abbrev main_v177_2 : Ref sig .tc := ⟨.hbm, 252, rfl⟩
abbrev main_v177_3 : Ref sig .tc := ⟨.hbm, 253, rfl⟩
abbrev main_v177_4 : Ref sig .tc := ⟨.hbm, 254, rfl⟩
abbrev main_v177_5 : Ref sig .tc := ⟨.hbm, 255, rfl⟩
abbrev main_v177_6 : Ref sig .tc := ⟨.hbm, 256, rfl⟩
abbrev main_while0c_c_43 : Ref sig .tc := ⟨.hbm, 257, rfl⟩
abbrev main_while0c_v249 : Ref sig .tc := ⟨.hbm, 258, rfl⟩
abbrev main_while0b_call10_c : Ref sig .tc := ⟨.hbm, 259, rfl⟩
abbrev main_while0b_call10_c_0 : Ref sig .tc := ⟨.hbm, 260, rfl⟩
abbrev main_while0b_call10_v0 : Ref sig .tc := ⟨.hbm, 261, rfl⟩
abbrev main_while0b_v249 : Ref sig .tc := ⟨.hbm, 262, rfl⟩
abbrev main_while0b_call11_c : Ref sig .tc := ⟨.hbm, 263, rfl⟩
abbrev main_while0b_call11_c_0 : Ref sig .tc := ⟨.hbm, 264, rfl⟩
abbrev main_while0b_call11_v0 : Ref sig .tc := ⟨.hbm, 265, rfl⟩
abbrev main_while0b_v250 : Ref sig .tc := ⟨.hbm, 266, rfl⟩
abbrev main_while0b_call12_c : Ref sig .tc := ⟨.hbm, 267, rfl⟩
abbrev main_while0b_call12_c_0 : Ref sig .tc := ⟨.hbm, 268, rfl⟩
abbrev main_while0b_call12_v0 : Ref sig .tc := ⟨.hbm, 269, rfl⟩
abbrev main_while0b_v251 : Ref sig .tc := ⟨.hbm, 270, rfl⟩
abbrev main_while0b_call13_c : Ref sig .tc := ⟨.hbm, 271, rfl⟩
abbrev main_while0b_call13_c_0 : Ref sig .tc := ⟨.hbm, 272, rfl⟩
abbrev main_while0b_call13_v0 : Ref sig .tc := ⟨.hbm, 273, rfl⟩
abbrev main_while0b_v252 : Ref sig .tc := ⟨.hbm, 274, rfl⟩
abbrev main_while0b_v253 : Ref sig .tc := ⟨.hbm, 275, rfl⟩
abbrev main_while0b_v254 : Ref sig .tc := ⟨.hbm, 276, rfl⟩
abbrev main_while0b_v255 : Ref sig .tc := ⟨.hbm, 277, rfl⟩
abbrev main_while0b_v256 : Ref sig .tc := ⟨.hbm, 278, rfl⟩
abbrev main_while0b_call14_v0 : Ref sig .tc := ⟨.hbm, 279, rfl⟩
abbrev main_while0b_call14_c : Ref sig .tc := ⟨.hbm, 280, rfl⟩
abbrev main_while0b_call14_c_0 : Ref sig .tc := ⟨.hbm, 281, rfl⟩
abbrev main_while0b_v257 : Ref sig .tc := ⟨.hbm, 282, rfl⟩
abbrev main_while0b_c_43 : Ref sig .tc := ⟨.hbm, 283, rfl⟩
abbrev main_while0b_v258 : Ref sig .tc := ⟨.hbm, 284, rfl⟩
abbrev main_v178 : Ref sig .tc := ⟨.hbm, 285, rfl⟩
abbrev main_v179 : Ref sig .tc := ⟨.hbm, 286, rfl⟩
abbrev main_v180 : Ref sig .tc := ⟨.hbm, 287, rfl⟩
abbrev main_v181 : Ref sig .tc := ⟨.hbm, 288, rfl⟩
abbrev main_cst_25 : Ref sig .tc := ⟨.hbm, 289, rfl⟩
abbrev main_v182 : Ref sig .tc := ⟨.hbm, 290, rfl⟩
abbrev main_v183 : Ref sig .tc := ⟨.hbm, 291, rfl⟩
abbrev main_cst_26 : Ref sig .tc := ⟨.hbm, 292, rfl⟩
abbrev main_v184 : Ref sig .tc := ⟨.hbm, 293, rfl⟩
abbrev main_v185 : Ref sig .tc := ⟨.hbm, 294, rfl⟩
abbrev main_cst_27 : Ref sig .tc := ⟨.hbm, 295, rfl⟩
abbrev main_v186 : Ref sig .tc := ⟨.hbm, 296, rfl⟩
abbrev main_v187 : Ref sig .tc := ⟨.hbm, 297, rfl⟩
abbrev main_v188 : Ref sig .tc := ⟨.hbm, 298, rfl⟩
abbrev main_v189 : Ref sig .tc := ⟨.hbm, 299, rfl⟩
abbrev main_v190 : Ref sig .tc := ⟨.hbm, 300, rfl⟩
abbrev main_v191 : Ref sig .tc := ⟨.hbm, 301, rfl⟩
abbrev main_v192 : Ref sig .tc := ⟨.hbm, 302, rfl⟩
abbrev main_v193 : Ref sig .tc := ⟨.hbm, 303, rfl⟩
abbrev main_v194 : Ref sig .tc := ⟨.hbm, 304, rfl⟩
abbrev main_v195 : Ref sig .tc := ⟨.hbm, 305, rfl⟩
abbrev main_v196 : Ref sig .tc := ⟨.hbm, 306, rfl⟩
abbrev main_cst_28 : Ref sig .tc := ⟨.hbm, 307, rfl⟩
abbrev main_v197 : Ref sig .tc := ⟨.hbm, 308, rfl⟩
abbrev main_v198 : Ref sig .tc := ⟨.hbm, 309, rfl⟩
abbrev main_cst_29 : Ref sig .tc := ⟨.hbm, 310, rfl⟩
abbrev main_v199 : Ref sig .tc := ⟨.hbm, 311, rfl⟩
abbrev main_v200 : Ref sig .tc := ⟨.hbm, 312, rfl⟩
abbrev main_cst_30 : Ref sig .tc := ⟨.hbm, 313, rfl⟩
abbrev main_v201 : Ref sig .tc := ⟨.hbm, 314, rfl⟩
abbrev main_v202 : Ref sig .tc := ⟨.hbm, 315, rfl⟩
abbrev main_v203 : Ref sig .tc := ⟨.hbm, 316, rfl⟩
abbrev main_v204 : Ref sig .tc := ⟨.hbm, 317, rfl⟩
abbrev main_v205 : Ref sig .tc := ⟨.hbm, 318, rfl⟩
abbrev main_v206 : Ref sig .tc := ⟨.hbm, 319, rfl⟩
abbrev main_v207 : Ref sig .tc := ⟨.hbm, 320, rfl⟩
abbrev main_v208 : Ref sig .tc := ⟨.hbm, 321, rfl⟩
abbrev main_v209 : Ref sig .tc := ⟨.hbm, 322, rfl⟩
abbrev main_v210 : Ref sig .tc := ⟨.hbm, 323, rfl⟩
abbrev main_v211 : Ref sig .tc := ⟨.hbm, 324, rfl⟩
abbrev main_v212 : Ref sig .tc := ⟨.hbm, 325, rfl⟩
abbrev main_v213 : Ref sig .tc := ⟨.hbm, 326, rfl⟩
abbrev main_v214 : Ref sig .tc := ⟨.hbm, 327, rfl⟩
abbrev main_cst_31 : Ref sig .tc := ⟨.hbm, 328, rfl⟩
abbrev main_v215 : Ref sig .tc := ⟨.hbm, 329, rfl⟩
abbrev main_v216 : Ref sig .tc := ⟨.hbm, 330, rfl⟩
abbrev main_cst_32 : Ref sig .tc := ⟨.hbm, 331, rfl⟩
abbrev main_v217 : Ref sig .tc := ⟨.hbm, 332, rfl⟩
abbrev main_v218 : Ref sig .tc := ⟨.hbm, 333, rfl⟩
abbrev main_cst_33 : Ref sig .tc := ⟨.hbm, 334, rfl⟩
abbrev main_v219 : Ref sig .tc := ⟨.hbm, 335, rfl⟩
abbrev main_v220 : Ref sig .tc := ⟨.hbm, 336, rfl⟩
abbrev main_v221 : Ref sig .tc := ⟨.hbm, 337, rfl⟩
abbrev main_v222 : Ref sig .tc := ⟨.hbm, 338, rfl⟩
abbrev main_v223 : Ref sig .tc := ⟨.hbm, 339, rfl⟩
abbrev main_v224 : Ref sig .tc := ⟨.hbm, 340, rfl⟩
abbrev main_v225 : Ref sig .tc := ⟨.hbm, 341, rfl⟩
abbrev main_v226 : Ref sig .tc := ⟨.hbm, 342, rfl⟩
abbrev main_v227 : Ref sig .tc := ⟨.hbm, 343, rfl⟩
abbrev main_v228 : Ref sig .tc := ⟨.hbm, 344, rfl⟩
abbrev main_call15_v0 : Ref sig .tc := ⟨.hbm, 345, rfl⟩
abbrev main_call15_v1 : Ref sig .tc := ⟨.hbm, 346, rfl⟩
abbrev main_call15_cst : Ref sig .tc := ⟨.hbm, 347, rfl⟩
abbrev main_call15_v2 : Ref sig .tc := ⟨.hbm, 348, rfl⟩
abbrev main_call15_v3 : Ref sig .tc := ⟨.hbm, 349, rfl⟩
abbrev main_call15_cst_0 : Ref sig .tc := ⟨.hbm, 350, rfl⟩
abbrev main_call15_v4 : Ref sig .tc := ⟨.hbm, 351, rfl⟩
abbrev main_call15_v5 : Ref sig .tc := ⟨.hbm, 352, rfl⟩
abbrev main_v229 : Ref sig .tc := ⟨.hbm, 353, rfl⟩
abbrev main_v230 : Ref sig .tc := ⟨.hbm, 354, rfl⟩
abbrev main_v231 : Ref sig .tc := ⟨.hbm, 355, rfl⟩
abbrev main_v232 : Ref sig .tc := ⟨.hbm, 356, rfl⟩
abbrev main_v233 : Ref sig .tc := ⟨.hbm, 357, rfl⟩
abbrev main_v234 : Ref sig .tc := ⟨.hbm, 358, rfl⟩
abbrev main_v235 : Ref sig .tc := ⟨.hbm, 359, rfl⟩
abbrev main_v236 : Ref sig .tc := ⟨.hbm, 360, rfl⟩
abbrev main_cst_34 : Ref sig .tc := ⟨.hbm, 361, rfl⟩
abbrev main_v237 : Ref sig .tc := ⟨.hbm, 362, rfl⟩
abbrev main_v238 : Ref sig .tc := ⟨.hbm, 363, rfl⟩
abbrev main_cst_35 : Ref sig .tc := ⟨.hbm, 364, rfl⟩
abbrev main_v239 : Ref sig .tc := ⟨.hbm, 365, rfl⟩
abbrev main_v240 : Ref sig .tc := ⟨.hbm, 366, rfl⟩
abbrev main_cst_36 : Ref sig .tc := ⟨.hbm, 367, rfl⟩
abbrev main_v241 : Ref sig .tc := ⟨.hbm, 368, rfl⟩
abbrev main_v242 : Ref sig .tc := ⟨.hbm, 369, rfl⟩
abbrev main_v243 : Ref sig .tc := ⟨.hbm, 370, rfl⟩
abbrev main_v244 : Ref sig .tc := ⟨.hbm, 371, rfl⟩
abbrev main_v245 : Ref sig .tc := ⟨.hbm, 372, rfl⟩
abbrev main_v246 : Ref sig .tc := ⟨.hbm, 373, rfl⟩
abbrev main_v247 : Ref sig .tc := ⟨.hbm, 374, rfl⟩
abbrev main_v248 : Ref sig .tc := ⟨.hbm, 375, rfl⟩

abbrev nD : Nat := 1
abbrev τ : Topo := Topo.v7x

variable {F : FTy → Type} [FloatOps F]

abbrev main_while0_count : Scf.Loop 32 := ⟨0#32, 4096#32, 1#32⟩
-- ==== Proof.RefFrame.lean ====
module

public import proofs.«01_k».proof.Defs
public import proofs.«01_k».proof.Proof.Gen.ReferenceIdeal
public import proofs.«01_k».proof.Proof.Gen.ReferenceIdeal.Run
public import Idealize.ShloMosaic.Lib.Quiescent

@[expose] public section

noncomputable section

/-! The reference's frame: its run keeps its arguments, and it has no semaphores. -/

namespace Cert.Proof

open Idealize.ShloMosaic Idealize.SL.Sem

theorem frame_reference : Cert.quiescent_ReferenceIdeal (hReferenceIdeal := Cert.ReferenceIdeal.Gen.facts) := fun m g _ =>
  (θ_run (Cert.ReferenceIdeal.defs (F := Ideal)) _ _).mono
    (fun r h => And.intro (fun c => (h c).2) (sem_eq_zero_of_no_sems (by decide) r.2)) (Cert.ReferenceIdeal.Value.run m g)

end Cert.Proof

end
-- ==== Proof.Block.lean ====
module

public import proofs.«01_k».proof.Proof.Gen.KernelIdeal.Frame.RunB

@[expose] public section

set_option maxRecDepth 16384

noncomputable section

/-! The kernel's body as a short family of vector terms: what is read from the inputs, the two branches up to the
    recurrence, the recurrence as recursive families over its 64 rows and 8 segments, and the block written. -/

namespace Cert.Proof.Block

open Cert.KernelIdeal Cert.KernelIdeal.Gen Idealize.ShloMosaic Idealize.ShloMosaic.TcCoe

variable {F : FTy → Type} [FloatOps F]

/-- What the body reads of its inputs. -/
structure Ins (F : FTy → Type) [FloatOps F] where
  x : Vec F S1x512x1024 .f32
  n1 : Vec F S1x1024 .f32
  wp : Vec F S1024x512 .bf16
  wl : Vec F S1024x512 .bf16
  wg : Vec F S1024x512 .bf16
  pw0 : Vec F S1x256x256 .bf16
  pw1 : Vec F S1x256x256 .bf16
  ps : Vec F S1x512 .f32
  np : Vec F S1x512 .f32
  cb : Vec F S1x512 .f32
  c3 : Vec F S1x512 .f32
  c0 : Vec F S1x512 .f32
  c1 : Vec F S1x512 .f32
  c2 : Vec F S1x512 .f32
  g0 : Vec F S1x256x512 .bf16
  g1 : Vec F S1x256x512 .bf16
  ba : Vec F S1x512 .f32
  bi : Vec F S1x512 .f32
  lam : Vec F S1x512 .f32
  nl : Vec F S1x512 .f32
  wo : Vec F S1024x1024 .bf16
  n2 : Vec F S1x1024 .f32
  a0 : Vec F S1024x768 .bf16
  a1 : Vec F S1024x768 .bf16
  a2 : Vec F S1024x768 .bf16
  a3 : Vec F S1024x512 .bf16
  b0 : Vec F S1024x768 .bf16
  b1 : Vec F S1024x768 .bf16
  b2 : Vec F S1024x768 .bf16
  b3 : Vec F S1024x512 .bf16
  d0 : Vec F S768x1024 .bf16
  d1 : Vec F S768x1024 .bf16
  d2 : Vec F S768x1024 .bf16
  d3 : Vec F S512x1024 .bf16
  nf : Vec F S1x1024 .f32

variable (I : Ins F)

/-- The four windowed means (each less the row), from the rows read at each lag. -/
def dm0 (s : BitVec 32) (p : ℕ → ℕ → Vec F S512x128 .f32) : FVec F S512x128 .bf16 := k0_pay13 s (p 0 0) (p 0 1)
def dm1 (s : BitVec 32) (p : ℕ → ℕ → Vec F S512x128 .f32) : FVec F S512x128 .bf16 :=
  k0_pay14 s (p 1 0) (p 1 1) (p 1 2) (p 1 3)
def dm2 (s : BitVec 32) (p : ℕ → ℕ → Vec F S512x128 .f32) : FVec F S512x128 .bf16 :=
  k0_pay16 (k0_pay12 s) (p 2 0) (k0_pay15 (p 2 0) (p 2 1) (p 2 2) (p 2 3)) (p 2 4) (p 2 5) (p 2 6) (p 2 7)

/-- The pooling branch. -/
def yp (s : BitVec 32) (p : ℕ → ℕ → Vec F S512x128 .f32) : FVec F S512x512 .f32 :=
  k0_pay18 (k0_pay12 s) (dm0 s p) (dm1 s p) (dm2 s p) (p 3 0)
    (k0_pay17 (p 3 0) (p 3 1) (p 3 2) (p 3 3) (p 3 4) (p 3 5) (p 3 6) (p 3 7) (p 3 8) (p 3 9))
    (p 3 10) (p 3 11) (p 3 12) (p 3 13) (p 3 14) (p 3 15) I.pw0 I.pw1 I.ps

def ypSq (s : BitVec 32) (p : ℕ → ℕ → Vec F S512x128 .f32) : FVec F S512x1 .f32 :=
  k0_pay19 (k0_pay12 s) (dm0 s p) (dm1 s p) (dm2 s p) (p 3 0)
    (k0_pay17 (p 3 0) (p 3 1) (p 3 2) (p 3 3) (p 3 4) (p 3 5) (p 3 6) (p 3 7) (p 3 8) (p 3 9))
    (p 3 10) (p 3 11) (p 3 12) (p 3 13) (p 3 14) (p 3 15) I.pw0 I.pw1 I.ps

def mixP (s : BitVec 32) (p : ℕ → ℕ → Vec F S512x128 .f32) : FVec F S512x512 .bf16 :=
  k0_pay20 (yp I s p) I.np (ypSq I s p) (Scalar.ofBits .f32 0x44000000#32)

/-- The convolution, and the recurrence's coefficients. -/
def xc (q : ℕ → Vec F S512x512 .f32) : FVec F S512x512 .f32 := k0_pay21 I.cb I.c3 (q 0) I.c0 (q 3) I.c1 (q 2) I.c2 (q 1)
def xcB (q : ℕ → Vec F S512x512 .f32) : FVec F S512x512 .bf16 := k0_pay22 I.cb I.c3 (q 0) I.c0 (q 3) I.c1 (q 2) I.c2 (q 1)
def xcH (q : ℕ → Vec F S512x512 .f32) : FVec F S512x256 .bf16 := k0_pay23 I.cb I.c3 (q 0) I.c0 (q 3) I.c1 (q 2) I.c2 (q 1)
def gr (q : ℕ → Vec F S512x512 .f32) : FVec F S512x512 .f32 := k0_pay26 (xcB I q) (xcH I q) I.g0 I.g1 I.ba
def gi (q : ℕ → Vec F S512x512 .f32) : FVec F S512x512 .f32 := k0_pay27 (xcB I q) (xcH I q) I.g0 I.g1 I.bi
def av (q : ℕ → Vec F S512x512 .f32) : FVec F S512x512 .f32 := k0_pay33 (gr I q) (k0_pay29 I.lam) (k0_pay30 I.lam) k0_pay31
def bv (q : ℕ → Vec F S512x512 .f32) : FVec F S512x512 .f32 :=
  k0_pay34 (xc I q) (gr I q) (gi I q) (k0_pay29 I.lam) (k0_pay30 I.lam) k0_pay31

/-! The recurrence: rows of the coefficients kept by segment, then read back eight rows (one of each segment) at a
    time. -/

theorem slices_seg (q j : ℕ) : S512x512.Slices ![64 * (j % 8), 128 * (q % 4)] S64x128 := by
  refine ⟨rfl, fun a => ?_⟩
  fin_cases a
  · show 64 * (j % 8) + 64 ≤ 512; omega
  · show 128 * (q % 4) + 128 ≤ 512; omega

theorem inb_seg (q j : ℕ) : ∀ a, (![q % 4, 72 * (j % 8), 0] : Fin 3 → Nat) a + S1x64x128.size a ≤ S4x576x128.size a := by
  intro a
  fin_cases a
  · show q % 4 + 1 ≤ 4; omega
  · show 72 * (j % 8) + 64 ≤ 576; omega
  · show 0 + 128 ≤ 128; omega

theorem inb_row (q m : ℕ) : ∀ a, S1x8x128.size a = 0 ∨ (![q % 4, m % 64, 0] : Fin 3 → Nat) a + (![1, 72, 1] : Fin 3 → Nat) a * (S1x8x128.size a - 1) < S4x576x128.size a := by
  intro a
  right
  fin_cases a
  · show q % 4 + 1 * 0 < 4; omega
  · show m % 64 + 72 * 7 < 576; omega
  · show 0 + 1 * 127 < 128; omega

theorem slices_car (j : ℕ) : S8x128.Slices ![j % 8, 0] S1x128 := by
  refine ⟨rfl, fun a => ?_⟩
  fin_cases a
  · show j % 8 + 1 ≤ 8; omega
  · show 0 + 128 ≤ 128; omega

theorem inb_car (q : ℕ) : ∀ a, (![0, 128 * (q % 4)] : Fin 2 → Nat) a + S1x128.size a ≤ S1x512.size a := by
  intro a
  fin_cases a
  · show 0 + 1 ≤ 1; omega
  · show 128 * (q % 4) + 128 ≤ 512; omega

/-- The 32 stored segments of a coefficient. -/
def segs (X : FVec F S512x512 .f32) : List (View.Piece (Elt F) S4x576x128 .f32) :=
  List.ofFn fun k : Fin 32 => ⟨Rect.unit (s := S4x576x128) ![((31 - k.val) / 8) % 4, 72 * ((31 - k.val) % 8), 0] S1x64x128.size (inb_seg _ _),
    shapeCast S1x64x128 (extractStridedSlice S64x128 ![64 * ((31 - k.val) % 8), 128 * (((31 - k.val) / 8) % 4)] X
      (slices_seg _ _)) shapeCasts_S64x128_S1x64x128⟩

/-- Row `m` of every segment, of column group `q`. -/
def rowOf (v : View sig .tc .vmem S4x576x128 .f32) (X : FVec F S512x512 .f32) (q m : ℕ) : FVec F S8x128 .f32 :=
  shapeCast S8x128 (v.readCov (segs X) ⟨![q % 4, m % 64, 0], S1x8x128.size, ![1, 72, 1], inb_row q m⟩ :
    Vec F S1x8x128 .f32) shapeCasts_S1x8x128_S8x128

section Recurrence

variable (va vb vh : View sig .tc .vmem S4x576x128 .f32) (A B : FVec F S512x512 .f32) (hl : ℕ → Vec F S1x128 .f32)

/-- Each segment's own state after `m` rows, from zero, and the product of its decays. -/
def loc (q : ℕ) : ℕ → FVec F S8x128 .f32
  | 0 => broadcast S8x128 (Scalar.ofBits .f32 0x00000000#32)
  | m + 1 => addf (mulf (rowOf va A q m) (loc q m)) (rowOf vb B q m)

def prod (q : ℕ) : ℕ → FVec F S8x128 .f32
  | 0 => broadcast S8x128 (Scalar.ofBits .f32 0x3F800000#32)
  | m + 1 => mulf (rowOf va A q m) (prod q m)

/-- The state at the start of segment `j`, from `h` at the start of the block. -/
def car (q : ℕ) (h : Vec F S1x128 .f32) : ℕ → FVec F S1x128 .f32
  | 0 => h
  | j + 1 => addf (mulf (extractStridedSlice S1x128 ![j % 8, 0] (prod va A q 64) (slices_car j)) (car q h j))
      (extractStridedSlice S1x128 ![j % 8, 0] (loc va vb A B q 64) (slices_car j))

/-- The starts of the first `j` segments, one a row. -/
def starts (q : ℕ) : ℕ → FVec F S8x128 .f32
  | 0 => broadcast S8x128 (Scalar.ofBits .f32 0x00000000#32)
  | j + 1 => select (cmpi .eq (iota .tc S8x128 32 [0] iota_S8x128_d0_w32) (broadcast S8x128 (BitVec.ofNat 32 j)))
      (broadcastTo S8x128 (shapeCast S1x128 (car va vb A B q (hl q) j) shapeCasts_S1x128_S1x128) broadcasts_S1x128_S8x128)
      (starts q j)

/-- The state after `m` rows of each segment. -/
def hh (q : ℕ) : ℕ → FVec F S8x128 .f32
  | 0 => starts va vb A B hl q 8
  | m + 1 => addf (mulf (rowOf va A q m) (hh q m)) (rowOf vb B q m)

/-- The states stored, and read back a segment at a time. -/
def hs : List (View.Piece (Elt F) S4x576x128 .f32) :=
  List.ofFn fun k : Fin 256 => ⟨⟨⟨![(255 - k.val) % 4, ((255 - k.val) / 4) % 64, 0], S1x8x128.size, ![1, 72, 1], inb_row _ _⟩, spos_1_72_1⟩,
    shapeCast S1x8x128 (hh va vb A B hl ((255 - k.val) % 4) ((255 - k.val) / 4 + 1)) shapeCasts_S8x128_S1x8x128⟩

def hseg (q j : ℕ) : Vec F S1x64x128 .f32 :=
  vh.readCov (hs va vb A B hl) (Rect.unit (s := S4x576x128) ![q % 4, 72 * (j % 8), 0] S1x64x128.size (inb_seg q j)).toLoadRect

def hsegC (q j : ℕ) : FVec F S64x128 .f32 := shapeCast S64x128 (hseg va vb vh A B hl q j) shapeCasts_S1x64x128_S64x128

def hcol (q : ℕ) : FVec F S512x128 .f32 :=
  concatenate S512x128 0 [⟨S64x128, hsegC va vb vh A B hl q 0⟩, ⟨S64x128, hsegC va vb vh A B hl q 1⟩,
    ⟨S64x128, hsegC va vb vh A B hl q 2⟩, ⟨S64x128, hsegC va vb vh A B hl q 3⟩, ⟨S64x128, hsegC va vb vh A B hl q 4⟩,
    ⟨S64x128, hsegC va vb vh A B hl q 5⟩, ⟨S64x128, hsegC va vb vh A B hl q 6⟩, ⟨S64x128, hsegC va vb vh A B hl q 7⟩]
    concatenates_S64x128_S64x128_S64x128_S64x128_S64x128_S64x128_S64x128_S64x128_S512x128_d0

/-- The state left for the next block: `n` of the four column groups stored over what was there. -/
def cars (base : List (View.Piece (Elt F) S1x512 .f32)) : ℕ → List (View.Piece (Elt F) S1x512 .f32)
  | 0 => base
  | q + 1 => ⟨Rect.unit (s := S1x512) ![0, 128 * (q % 4)] S1x128.size (inb_car q),
      shapeCast S1x128 (car va vb A B q (hl q) 8) shapeCasts_S1x128_S1x128⟩ :: cars base q

/-- The same when the block starts a sequence: the state at a group is read over the zeros just stored, past the
    groups already replaced. -/
def cars0 (vc : View sig .tc .vmem S1x512 .f32) : ℕ → List (View.Piece (Elt F) S1x512 .f32)
  | 0 => [⟨Rect.unit (s := S1x512) ![0, 0] S1x512.size inb_S1x512_S1x512_0_0, k0_pay5⟩]
  | q + 1 => ⟨Rect.unit (s := S1x512) ![0, 128 * (q % 4)] S1x128.size (inb_car q),
      shapeCast S1x128 (car va vb A B q
        (vc.readCov (cars0 vc q) (Rect.unit (s := S1x512) ![0, 128 * (q % 4)] S1x128.size (inb_car q)).toLoadRect) 8)
        shapeCasts_S1x128_S1x128⟩ :: cars0 vc q

def hl0 (vc : View sig .tc .vmem S1x512 .f32) (q : ℕ) : Vec F S1x128 .f32 :=
  vc.readCov (cars0 va vb A B vc q) (Rect.unit (s := S1x512) ![0, 128 * (q % 4)] S1x128.size (inb_car q)).toLoadRect

/-! The recurrence branch gated, the mix, the feed-forward layer and the block written. -/

def yl (ug : FVec F S512x512 .f32) : FVec F S512x512 .f32 :=
  k0_pay1410 ug (hcol va vb vh A B hl 0) (hcol va vb vh A B hl 1) (hcol va vb vh A B hl 2) (hsegC va vb vh A B hl 3 0)
    (hseg va vb vh A B hl 3 1) (hseg va vb vh A B hl 3 2) (hseg va vb vh A B hl 3 3) (hseg va vb vh A B hl 3 4)
    (hseg va vb vh A B hl 3 5) (hseg va vb vh A B hl 3 6) (hseg va vb vh A B hl 3 7)

def ylSq (ug : FVec F S512x512 .f32) : FVec F S512x1 .f32 :=
  k0_pay1411 ug (hcol va vb vh A B hl 0) (hcol va vb vh A B hl 1) (hcol va vb vh A B hl 2) (hsegC va vb vh A B hl 3 0)
    (hseg va vb vh A B hl 3 1) (hseg va vb vh A B hl 3 2) (hseg va vb vh A B hl 3 3) (hseg va vb vh A B hl 3 4)
    (hseg va vb vh A B hl 3 5) (hseg va vb vh A B hl 3 6) (hseg va vb vh A B hl 3 7)

end Recurrence

def ug : FVec F S512x512 .f32 := k0_pay11 (k0_pay7 I.x I.n1) (k0_pay10 I.wg)

section Rest

variable (mp : FVec F S512x512 .bf16) (y : FVec F S512x512 .f32) (ys : FVec F S512x1 .f32)

def h1 : FVec F S512x1024 .f32 := k0_pay1412 (k0_pay6 I.x) mp y I.nl ys I.wo
def nrm : FVec F S512x1024 .bf16 := k0_pay1413 (k0_pay6 I.x) mp y I.nl ys I.wo I.n2

def ff01 : FVec F S512x1024 .f32 :=
  k0_pay1418 (nrm I mp y ys) (k0_pay1414 (k0_pay6 I.x) mp y I.nl ys I.wo I.n2 I.a0)
    (k0_pay1415 (k0_pay6 I.x) mp y I.nl ys I.wo I.n2 I.b0) (k0_pay1416 (k0_pay6 I.x) mp y I.nl ys I.wo I.n2 I.a0)
    k0_pay1417 I.d0 I.a1 I.b1 I.d1

def h2 : FVec F S512x1024 .f32 :=
  k0_pay1423 (h1 I mp y ys) (nrm I mp y ys) (ff01 I mp y ys) (k0_pay1419 (nrm I mp y ys) I.a2)
    (k0_pay1420 (nrm I mp y ys) I.b2) (k0_pay1421 (nrm I mp y ys) I.a2) k0_pay1422 I.d2 I.a3 I.b3 I.d3

def h2Sq : FVec F S512x1 .f32 :=
  k0_pay1425 (h1 I mp y ys) (nrm I mp y ys) (ff01 I mp y ys) (k0_pay1419 (nrm I mp y ys) I.a2)
    (k0_pay1420 (nrm I mp y ys) I.b2) (k0_pay1421 (nrm I mp y ys) I.a2) k0_pay1422 I.d2 I.a3 I.b3 I.d3

def out : FVec F S1x512x1024 .f32 := k0_pay1427 (h2 I mp y ys) (k0_pay1424 I.nf) (h2Sq I mp y ys) k0_pay1426

end Rest

/-- The whole block written. -/
def blockOut (va vb vh : View sig .tc .vmem S4x576x128 .f32) (s : BitVec 32) (p : ℕ → ℕ → Vec F S512x128 .f32)
    (q : ℕ → Vec F S512x512 .f32) (hl : ℕ → Vec F S1x128 .f32) : FVec F S1x512x1024 .f32 :=
  out I (mixP I s p) (yl va vb vh (av I q) (bv I q) hl (ug I)) (ylSq va vb vh (av I q) (bv I q) hl (ug I))

/-! The lists of rows stored in the two carried windows, and the reads at each lag. -/

def pst : View.Piece (Elt F) S528x512 .f32 :=
  ⟨Rect.unit (s := S528x512) ![16, 0] S512x512.size inb_S528x512_S512x512_16_0, k0_pay8 I.x I.n1 I.wp⟩
def lst : View.Piece (Elt F) S520x512 .f32 :=
  ⟨Rect.unit (s := S520x512) ![8, 0] S512x512.size inb_S520x512_S512x512_8_0, k0_pay9 I.x I.n1 I.wl⟩

theorem inb_lagP (g k : ℕ) : ∀ a, (![16 - k % 16, 128 * (g % 4)] : Fin 2 → Nat) a + S512x128.size a ≤ S528x512.size a := by
  intro a
  fin_cases a
  · show 16 - k % 16 + 512 ≤ 528; omega
  · show 128 * (g % 4) + 128 ≤ 512; omega

theorem inb_lagL (k : ℕ) : ∀ a, (![8 - k % 8, 0] : Fin 2 → Nat) a + S512x512.size a ≤ S520x512.size a := by
  intro a
  fin_cases a
  · show 8 - k % 8 + 512 ≤ 520; omega
  · show 0 + 512 ≤ 512; omega

abbrev lagP (g k : ℕ) : LoadRect S528x512 := (Rect.unit (s := S528x512) ![16 - k % 16, 128 * (g % 4)] S512x128.size (inb_lagP g k)).toLoadRect
abbrev lagL (k : ℕ) : LoadRect S520x512 := (Rect.unit (s := S520x512) ![8 - k % 8, 0] S512x512.size (inb_lagL k)).toLoadRect

end Cert.Proof.Block
-- ==== Proof.Tie.lean ====
module

public import proofs.«01_k».proof.Proof.Block

@[expose] public section

set_option maxRecDepth 65536
set_option maxHeartbeats 1000000

noncomputable section

/-! The pieces a run of the body leaves are those of the short vector terms. -/

namespace Cert.Proof.Block

open Cert.KernelIdeal Cert.KernelIdeal.Gen Idealize.ShloMosaic Idealize.ShloMosaic.TcCoe

variable {F : FTy → Type} [FloatOps F]

variable (c : Dev nD) (i : grid0.Coords) (arg2 : Memref sig .tc .vmem S1x512x1024 .f32) (harg2 : arg2.IsWhole)
    (arg3 : Memref sig .tc .vmem S1x1024 .f32) (harg3 : arg3.IsWhole)
    (arg4 : Memref sig .tc .vmem S1024x1536 .bf16) (harg4 : arg4.IsWhole)
    (arg5 : Memref sig .tc .vmem S2x256x256 .bf16) (harg5 : arg5.IsWhole)
    (arg6 : Memref sig .tc .vmem S1x512 .f32) (harg6 : arg6.IsWhole) (arg7 : Memref sig .tc .vmem S4x512 .f32)
    (harg7 : arg7.IsWhole) (arg8 : Memref sig .tc .vmem S1x512 .f32) (harg8 : arg8.IsWhole)
    (arg9 : Memref sig .tc .vmem S2x256x512 .bf16) (harg9 : arg9.IsWhole)
    (arg10 : Memref sig .tc .vmem S1x512 .f32) (harg10 : arg10.IsWhole) (arg11 : Memref sig .tc .vmem S1x512 .f32)
    (harg11 : arg11.IsWhole) (arg12 : Memref sig .tc .vmem S1x512 .f32) (harg12 : arg12.IsWhole)
    (arg13 : Memref sig .tc .vmem S1x512 .f32) (harg13 : arg13.IsWhole) (arg14 : Memref sig .tc .vmem S1x512 .f32)
    (harg14 : arg14.IsWhole) (arg15 : Memref sig .tc .vmem S1024x1024 .bf16) (harg15 : arg15.IsWhole)
    (arg16 : Memref sig .tc .vmem S1x1024 .f32) (harg16 : arg16.IsWhole)
    (arg17 : Memref sig .tc .vmem S1024x2816 .bf16) (harg17 : arg17.IsWhole)
    (arg18 : Memref sig .tc .vmem S1024x2816 .bf16) (harg18 : arg18.IsWhole)
    (arg19 : Memref sig .tc .vmem S2816x1024 .bf16) (harg19 : arg19.IsWhole)
    (arg20 : Memref sig .tc .vmem S1x1024 .f32) (harg20 : arg20.IsWhole)
    (arg21 : Memref sig .tc .vmem S1x512x1024 .f32) (harg21 : arg21.IsWhole)
    (arg22 : Memref sig .tc .vmem S528x512 .f32) (harg22 : arg22.IsWhole)
    (arg23 : Memref sig .tc .vmem S520x512 .f32) (harg23 : arg23.IsWhole)
    (arg24 : Memref sig .tc .vmem S4x576x128 .f32) (harg24 : arg24.IsWhole)
    (arg25 : Memref sig .tc .vmem S4x576x128 .f32) (harg25 : arg25.IsWhole)
    (arg26 : Memref sig .tc .vmem S4x576x128 .f32) (harg26 : arg26.IsWhole)
    (arg27 : Memref sig .tc .vmem S1x512 .f32) (harg27 : arg27.IsWhole)

variable (x0 : Vec F S1x512x1024 .f32) (x1 : Vec F S1x1024 .f32) (x2 : Vec F S1024x1536 .bf16)
    (x3 : Vec F S2x256x256 .bf16) (x4 : Vec F S1x512 .f32) (x5 : Vec F S4x512 .f32) (x6 : Vec F S1x512 .f32)
    (x7 : Vec F S2x256x512 .bf16) (x8 : Vec F S1x512 .f32) (x9 : Vec F S1x512 .f32) (x10 : Vec F S1x512 .f32)
    (x11 : Vec F S1x512 .f32) (x12 : Vec F S1x512 .f32) (x13 : Vec F S1024x1024 .bf16) (x14 : Vec F S1x1024 .f32)
    (x15 : Vec F S1024x2816 .bf16) (x16 : Vec F S1024x2816 .bf16) (x17 : Vec F S2816x1024 .bf16)
    (x18 : Vec F S1x1024 .f32)

/-- What the body reads of its inputs, as it reads them. -/
def rawIns : Ins F where
    x := View.readAt (Elt F) arg2.view (Rect.unit (s := S1x512x1024) ![0, 0, 0] S1x512x1024.size inb_S1x512x1024_S1x512x1024_0_0_0).toLoadRect (harg2.unread x0)
    n1 := View.readAt (Elt F) arg3.view (Rect.unit (s := S1x1024) ![0, 0] S1x1024.size inb_S1x1024_S1x1024_0_0).toLoadRect (harg3.unread x1)
    wp := View.readAt (Elt F) arg4.view (Rect.unit (s := S1024x1536) ![0, 0] S1024x512.size inb_S1024x1536_S1024x512_0_0).toLoadRect (harg4.unread x2)
    wl := View.readAt (Elt F) arg4.view (Rect.unit (s := S1024x1536) ![0, 512] S1024x512.size inb_S1024x1536_S1024x512_0_512).toLoadRect (harg4.unread x2)
    wg := View.readAt (Elt F) arg4.view (Rect.unit (s := S1024x1536) ![0, 1024] S1024x512.size inb_S1024x1536_S1024x512_0_1024).toLoadRect (harg4.unread x2)
    pw0 := View.readAt (Elt F) arg5.view (Rect.unit (s := S2x256x256) ![0, 0, 0] S1x256x256.size inb_S2x256x256_S1x256x256_0_0_0).toLoadRect (harg5.unread x3)
    pw1 := View.readAt (Elt F) arg5.view (Rect.unit (s := S2x256x256) ![1, 0, 0] S1x256x256.size inb_S2x256x256_S1x256x256_1_0_0).toLoadRect (harg5.unread x3)
    ps := View.readAt (Elt F) arg6.view (Rect.unit (s := S1x512) ![0, 0] S1x512.size inb_S1x512_S1x512_0_0).toLoadRect (harg6.unread x4)
    np := View.readAt (Elt F) arg13.view (Rect.unit (s := S1x512) ![0, 0] S1x512.size inb_S1x512_S1x512_0_0).toLoadRect (harg13.unread x11)
    cb := View.readAt (Elt F) arg8.view (Rect.unit (s := S1x512) ![0, 0] S1x512.size inb_S1x512_S1x512_0_0).toLoadRect (harg8.unread x6)
    c3 := View.readAt (Elt F) arg7.view (Rect.unit (s := S4x512) ![3, 0] S1x512.size inb_S4x512_S1x512_3_0).toLoadRect (harg7.unread x5)
    c0 := View.readAt (Elt F) arg7.view (Rect.unit (s := S4x512) ![0, 0] S1x512.size inb_S4x512_S1x512_0_0).toLoadRect (harg7.unread x5)
    c1 := View.readAt (Elt F) arg7.view (Rect.unit (s := S4x512) ![1, 0] S1x512.size inb_S4x512_S1x512_1_0).toLoadRect (harg7.unread x5)
    c2 := View.readAt (Elt F) arg7.view (Rect.unit (s := S4x512) ![2, 0] S1x512.size inb_S4x512_S1x512_2_0).toLoadRect (harg7.unread x5)
    g0 := View.readAt (Elt F) arg9.view (Rect.unit (s := S2x256x512) ![0, 0, 0] S1x256x512.size inb_S2x256x512_S1x256x512_0_0_0).toLoadRect (harg9.unread x7)
    g1 := View.readAt (Elt F) arg9.view (Rect.unit (s := S2x256x512) ![1, 0, 0] S1x256x512.size inb_S2x256x512_S1x256x512_1_0_0).toLoadRect (harg9.unread x7)
    ba := View.readAt (Elt F) arg10.view (Rect.unit (s := S1x512) ![0, 0] S1x512.size inb_S1x512_S1x512_0_0).toLoadRect (harg10.unread x8)
    bi := View.readAt (Elt F) arg11.view (Rect.unit (s := S1x512) ![0, 0] S1x512.size inb_S1x512_S1x512_0_0).toLoadRect (harg11.unread x9)
    lam := View.readAt (Elt F) arg12.view (Rect.unit (s := S1x512) ![0, 0] S1x512.size inb_S1x512_S1x512_0_0).toLoadRect (harg12.unread x10)
    nl := View.readAt (Elt F) arg14.view (Rect.unit (s := S1x512) ![0, 0] S1x512.size inb_S1x512_S1x512_0_0).toLoadRect (harg14.unread x12)
    wo := View.readAt (Elt F) arg15.view (Rect.unit (s := S1024x1024) ![0, 0] S1024x1024.size inb_S1024x1024_S1024x1024_0_0).toLoadRect (harg15.unread x13)
    n2 := View.readAt (Elt F) arg16.view (Rect.unit (s := S1x1024) ![0, 0] S1x1024.size inb_S1x1024_S1x1024_0_0).toLoadRect (harg16.unread x14)
    a0 := View.readAt (Elt F) arg17.view (Rect.unit (s := S1024x2816) ![0, 0] S1024x768.size inb_S1024x2816_S1024x768_0_0).toLoadRect (harg17.unread x15)
    a1 := View.readAt (Elt F) arg17.view (Rect.unit (s := S1024x2816) ![0, 768] S1024x768.size inb_S1024x2816_S1024x768_0_768).toLoadRect (harg17.unread x15)
    a2 := View.readAt (Elt F) arg17.view (Rect.unit (s := S1024x2816) ![0, 1536] S1024x768.size inb_S1024x2816_S1024x768_0_1536).toLoadRect (harg17.unread x15)
    a3 := View.readAt (Elt F) arg17.view (Rect.unit (s := S1024x2816) ![0, 2304] S1024x512.size inb_S1024x2816_S1024x512_0_2304).toLoadRect (harg17.unread x15)
    b0 := View.readAt (Elt F) arg18.view (Rect.unit (s := S1024x2816) ![0, 0] S1024x768.size inb_S1024x2816_S1024x768_0_0).toLoadRect (harg18.unread x16)
    b1 := View.readAt (Elt F) arg18.view (Rect.unit (s := S1024x2816) ![0, 768] S1024x768.size inb_S1024x2816_S1024x768_0_768).toLoadRect (harg18.unread x16)
    b2 := View.readAt (Elt F) arg18.view (Rect.unit (s := S1024x2816) ![0, 1536] S1024x768.size inb_S1024x2816_S1024x768_0_1536).toLoadRect (harg18.unread x16)
    b3 := View.readAt (Elt F) arg18.view (Rect.unit (s := S1024x2816) ![0, 2304] S1024x512.size inb_S1024x2816_S1024x512_0_2304).toLoadRect (harg18.unread x16)
    d0 := View.readAt (Elt F) arg19.view (Rect.unit (s := S2816x1024) ![0, 0] S768x1024.size inb_S2816x1024_S768x1024_0_0).toLoadRect (harg19.unread x17)
    d1 := View.readAt (Elt F) arg19.view (Rect.unit (s := S2816x1024) ![768, 0] S768x1024.size inb_S2816x1024_S768x1024_768_0).toLoadRect (harg19.unread x17)
    d2 := View.readAt (Elt F) arg19.view (Rect.unit (s := S2816x1024) ![1536, 0] S768x1024.size inb_S2816x1024_S768x1024_1536_0).toLoadRect (harg19.unread x17)
    d3 := View.readAt (Elt F) arg19.view (Rect.unit (s := S2816x1024) ![2304, 0] S512x1024.size inb_S2816x1024_S512x1024_2304_0).toLoadRect (harg19.unread x17)
    nf := View.readAt (Elt F) arg20.view (Rect.unit (s := S1x1024) ![0, 0] S1x1024.size inb_S1x1024_S1x1024_0_0).toLoadRect (harg20.unread x18)

/-- The same, of the inputs' contents. -/
def insOf : Ins F where
    x := View.ld x0 (Rect.unit (s := S1x512x1024) ![0, 0, 0] S1x512x1024.size inb_S1x512x1024_S1x512x1024_0_0_0)
    n1 := View.ld x1 (Rect.unit (s := S1x1024) ![0, 0] S1x1024.size inb_S1x1024_S1x1024_0_0)
    wp := View.ld x2 (Rect.unit (s := S1024x1536) ![0, 0] S1024x512.size inb_S1024x1536_S1024x512_0_0)
    wl := View.ld x2 (Rect.unit (s := S1024x1536) ![0, 512] S1024x512.size inb_S1024x1536_S1024x512_0_512)
    wg := View.ld x2 (Rect.unit (s := S1024x1536) ![0, 1024] S1024x512.size inb_S1024x1536_S1024x512_0_1024)
    pw0 := View.ld x3 (Rect.unit (s := S2x256x256) ![0, 0, 0] S1x256x256.size inb_S2x256x256_S1x256x256_0_0_0)
    pw1 := View.ld x3 (Rect.unit (s := S2x256x256) ![1, 0, 0] S1x256x256.size inb_S2x256x256_S1x256x256_1_0_0)
    ps := View.ld x4 (Rect.unit (s := S1x512) ![0, 0] S1x512.size inb_S1x512_S1x512_0_0)
    np := View.ld x11 (Rect.unit (s := S1x512) ![0, 0] S1x512.size inb_S1x512_S1x512_0_0)
    cb := View.ld x6 (Rect.unit (s := S1x512) ![0, 0] S1x512.size inb_S1x512_S1x512_0_0)
    c3 := View.ld x5 (Rect.unit (s := S4x512) ![3, 0] S1x512.size inb_S4x512_S1x512_3_0)
    c0 := View.ld x5 (Rect.unit (s := S4x512) ![0, 0] S1x512.size inb_S4x512_S1x512_0_0)
    c1 := View.ld x5 (Rect.unit (s := S4x512) ![1, 0] S1x512.size inb_S4x512_S1x512_1_0)
    c2 := View.ld x5 (Rect.unit (s := S4x512) ![2, 0] S1x512.size inb_S4x512_S1x512_2_0)
    g0 := View.ld x7 (Rect.unit (s := S2x256x512) ![0, 0, 0] S1x256x512.size inb_S2x256x512_S1x256x512_0_0_0)
    g1 := View.ld x7 (Rect.unit (s := S2x256x512) ![1, 0, 0] S1x256x512.size inb_S2x256x512_S1x256x512_1_0_0)
    ba := View.ld x8 (Rect.unit (s := S1x512) ![0, 0] S1x512.size inb_S1x512_S1x512_0_0)
    bi := View.ld x9 (Rect.unit (s := S1x512) ![0, 0] S1x512.size inb_S1x512_S1x512_0_0)
    lam := View.ld x10 (Rect.unit (s := S1x512) ![0, 0] S1x512.size inb_S1x512_S1x512_0_0)
    nl := View.ld x12 (Rect.unit (s := S1x512) ![0, 0] S1x512.size inb_S1x512_S1x512_0_0)
    wo := View.ld x13 (Rect.unit (s := S1024x1024) ![0, 0] S1024x1024.size inb_S1024x1024_S1024x1024_0_0)
    n2 := View.ld x14 (Rect.unit (s := S1x1024) ![0, 0] S1x1024.size inb_S1x1024_S1x1024_0_0)
    a0 := View.ld x15 (Rect.unit (s := S1024x2816) ![0, 0] S1024x768.size inb_S1024x2816_S1024x768_0_0)
    a1 := View.ld x15 (Rect.unit (s := S1024x2816) ![0, 768] S1024x768.size inb_S1024x2816_S1024x768_0_768)
    a2 := View.ld x15 (Rect.unit (s := S1024x2816) ![0, 1536] S1024x768.size inb_S1024x2816_S1024x768_0_1536)
    a3 := View.ld x15 (Rect.unit (s := S1024x2816) ![0, 2304] S1024x512.size inb_S1024x2816_S1024x512_0_2304)
    b0 := View.ld x16 (Rect.unit (s := S1024x2816) ![0, 0] S1024x768.size inb_S1024x2816_S1024x768_0_0)
    b1 := View.ld x16 (Rect.unit (s := S1024x2816) ![0, 768] S1024x768.size inb_S1024x2816_S1024x768_0_768)
    b2 := View.ld x16 (Rect.unit (s := S1024x2816) ![0, 1536] S1024x768.size inb_S1024x2816_S1024x768_0_1536)
    b3 := View.ld x16 (Rect.unit (s := S1024x2816) ![0, 2304] S1024x512.size inb_S1024x2816_S1024x512_0_2304)
    d0 := View.ld x17 (Rect.unit (s := S2816x1024) ![0, 0] S768x1024.size inb_S2816x1024_S768x1024_0_0)
    d1 := View.ld x17 (Rect.unit (s := S2816x1024) ![768, 0] S768x1024.size inb_S2816x1024_S768x1024_768_0)
    d2 := View.ld x17 (Rect.unit (s := S2816x1024) ![1536, 0] S768x1024.size inb_S2816x1024_S768x1024_1536_0)
    d3 := View.ld x17 (Rect.unit (s := S2816x1024) ![2304, 0] S512x1024.size inb_S2816x1024_S512x1024_2304_0)
    nf := View.ld x18 (Rect.unit (s := S1x1024) ![0, 0] S1x1024.size inb_S1x1024_S1x1024_0_0)

theorem rawIns_eq : rawIns arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19
    arg20 harg20 x0 x1 x2 x3 x4 x5 x6 x7 x8 x9 x10 x11 x12 x13 x14 x15 x16 x17 x18 = insOf x0 x1 x2 x3 x4 x5 x6 x7 x8 x9 x10 x11 x12 x13 x14 x15 x16 x17 x18 := by
  simp only [rawIns, insOf, View.readAt_eq_ld, Memref.IsWhole.read_unread]

/-- The stored zeros under the first block's windows, and the rows each lag reads: over the zeros, or over what the
    block before left. -/
def zP : View.Piece (Elt F) S528x512 .f32 := ⟨Rect.unit (s := S528x512) ![0, 0] S16x512.size inb_S528x512_S16x512_0_0, k0_pay3⟩
def zL : View.Piece (Elt F) S520x512 .f32 := ⟨Rect.unit (s := S520x512) ![0, 0] S8x512.size inb_S520x512_S8x512_0_0, k0_pay4⟩

def pA (v : View sig .tc .vmem S528x512 .f32) (I : Ins F) (g k : ℕ) : Vec F S512x128 .f32 := v.readCov [pst I, zP] (lagP g k)
def qA (v : View sig .tc .vmem S520x512 .f32) (I : Ins F) (k : ℕ) : Vec F S512x512 .f32 := v.readCov [lst I, zL] (lagL k)

def pB (M : Memref sig .tc .vmem S528x512 .f32) (h : M.IsWhole) (xs : Vec F S528x512 .f32) (I : Ins F) (g : ℕ) :
    ℕ → Vec F S512x128 .f32
  | 0 => M.view.readCov [pst I] (lagP g 0)
  | k + 1 => View.readAt (Elt F) M.view (lagP g (k + 1)) (M.view.writes (Elt F) (h.unread xs) [pst I])
def qB (M : Memref sig .tc .vmem S520x512 .f32) (h : M.IsWhole) (xs : Vec F S520x512 .f32) (I : Ins F) :
    ℕ → Vec F S512x512 .f32
  | 0 => M.view.readCov [lst I] (lagL 0)
  | k + 1 => View.readAt (Elt F) M.view (lagL (k + 1)) (M.view.writes (Elt F) (h.unread xs) [lst I])
def hB (M : Memref sig .tc .vmem S1x512 .f32) (h : M.IsWhole) (xs : Vec F S1x512 .f32) (q : ℕ) : Vec F S1x128 .f32 :=
  View.readAt (Elt F) M.view (Rect.unit (s := S1x512) ![0, 128 * (q % 4)] S1x128.size (inb_car q)).toLoadRect (h.unread xs)

theorem mix_A : (kernelRun0_A.sl.r_13 c i arg2 harg2 arg3 harg3 arg4 harg4 arg5 harg5 arg6 harg6 arg13 harg13 arg22
      x0 x1 x2 x3 x4 x11) = mixP (rawIns arg2 harg2 arg3 harg3 arg4 harg4 arg5 harg5 arg6 harg6 arg7 harg7 arg8
      harg8 arg9 harg9 arg10 harg10 arg11 harg11 arg12 harg12 arg13 harg13 arg14 harg14 arg15 harg15 arg16 harg16
      arg17 harg17 arg18 harg18 arg19 harg19 arg20 harg20 x0 x1 x2 x3 x4 x5 x6 x7 x8 x9 x10 x11 x12 x13 x14 x15 x16
      x17 x18) (BitVec.ofNat 32 (i 1).val) (pA arg22.view (rawIns arg2 harg2 arg3 harg3 arg4 harg4 arg5 harg5 arg6
      harg6 arg7 harg7 arg8 harg8 arg9 harg9 arg10 harg10 arg11 harg11 arg12 harg12 arg13 harg13 arg14 harg14 arg15
      harg15 arg16 harg16 arg17 harg17 arg18 harg18 arg19 harg19 arg20 harg20 x0 x1 x2 x3 x4 x5 x6 x7 x8 x9 x10 x11
      x12 x13 x14 x15 x16 x17 x18)) := by
  rfl

theorem gate_A : (kernelRun0_A.sl.r_3 c arg2 harg2 arg3 harg3 arg4 harg4 x0 x1 x2) = ug (rawIns arg2 harg2 arg3
      harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 arg20 harg20 x0 x1
      x2 x3 x4 x5 x6 x7 x8 x9 x10 x11 x12 x13 x14 x15 x16 x17 x18) := by
  rfl

theorem dec_A : (kernelRun0_A.sl.r_21 c arg2 harg2 arg3 harg3 arg4 harg4 arg7 harg7 arg8 harg8 arg9 harg9 arg10
      harg10 arg12 harg12 arg23 x0 x1 x2 x5 x6 x7 x8 x10) = av (rawIns arg2 harg2 arg3 harg3 arg4 harg4 arg5 harg5
      arg6 harg6 arg7 harg7 arg8 harg8 arg9 harg9 arg10 harg10 arg11 harg11 arg12 harg12 arg13 harg13 arg14 harg14
      arg15 harg15 arg16 harg16 arg17 harg17 arg18 harg18 arg19 harg19 arg20 harg20 x0 x1 x2 x3 x4 x5 x6 x7 x8 x9
      x10 x11 x12 x13 x14 x15 x16 x17 x18) (qA arg23.view (rawIns arg2 harg2 arg3 harg3 arg4 harg4 arg5 harg5 arg6
      harg6 arg7 harg7 arg8 harg8 arg9 harg9 arg10 harg10 arg11 harg11 arg12 harg12 arg13 harg13 arg14 harg14 arg15
      harg15 arg16 harg16 arg17 harg17 arg18 harg18 arg19 harg19 arg20 harg20 x0 x1 x2 x3 x4 x5 x6 x7 x8 x9 x10 x11
      x12 x13 x14 x15 x16 x17 x18)) := by
  rfl

theorem inp_A : (kernelRun0_A.sl.r_22 c arg2 harg2 arg3 harg3 arg4 harg4 arg7 harg7 arg8 harg8 arg9 harg9 arg10
      harg10 arg11 harg11 arg12 harg12 arg23 x0 x1 x2 x5 x6 x7 x8 x9 x10) = bv (rawIns arg2 harg2 arg3 harg3 arg4
      harg4 arg5 harg5 arg6 harg6 arg7 harg7 arg8 harg8 arg9 harg9 arg10 harg10 arg11 harg11 arg12 harg12 arg13
      harg13 arg14 harg14 arg15 harg15 arg16 harg16 arg17 harg17 arg18 harg18 arg19 harg19 arg20 harg20 x0 x1 x2 x3
      x4 x5 x6 x7 x8 x9 x10 x11 x12 x13 x14 x15 x16 x17 x18) (qA arg23.view (rawIns arg2 harg2 arg3 harg3 arg4 harg4
      arg5 harg5 arg6 harg6 arg7 harg7 arg8 harg8 arg9 harg9 arg10 harg10 arg11 harg11 arg12 harg12 arg13 harg13
      arg14 harg14 arg15 harg15 arg16 harg16 arg17 harg17 arg18 harg18 arg19 harg19 arg20 harg20 x0 x1 x2 x3 x4 x5
      x6 x7 x8 x9 x10 x11 x12 x13 x14 x15 x16 x17 x18)) := by
  rfl

theorem lru_A : (kernelRun0_A.sl.r_817 c arg2 harg2 arg3 harg3 arg4 harg4 arg7 harg7 arg8 harg8 arg9 harg9 arg10
      harg10 arg11 harg11 arg12 harg12 arg23 arg24 arg25 arg26 arg27 x0 x1 x2 x5 x6 x7 x8 x9 x10) = yl arg24.view
      arg25.view arg26.view (kernelRun0_A.sl.r_21 c arg2 harg2 arg3 harg3 arg4 harg4 arg7 harg7 arg8 harg8 arg9
      harg9 arg10 harg10 arg12 harg12 arg23 x0 x1 x2 x5 x6 x7 x8 x10) (kernelRun0_A.sl.r_22 c arg2 harg2 arg3 harg3
      arg4 harg4 arg7 harg7 arg8 harg8 arg9 harg9 arg10 harg10 arg11 harg11 arg12 harg12 arg23 x0 x1 x2 x5 x6 x7 x8
      x9 x10) (hl0 arg24.view arg25.view (kernelRun0_A.sl.r_21 c arg2 harg2 arg3 harg3 arg4 harg4 arg7 harg7 arg8
      harg8 arg9 harg9 arg10 harg10 arg12 harg12 arg23 x0 x1 x2 x5 x6 x7 x8 x10) (kernelRun0_A.sl.r_22 c arg2 harg2
      arg3 harg3 arg4 harg4 arg7 harg7 arg8 harg8 arg9 harg9 arg10 harg10 arg11 harg11 arg12 harg12 arg23 x0 x1 x2
      x5 x6 x7 x8 x9 x10) arg27.view) (kernelRun0_A.sl.r_3 c arg2 harg2 arg3 harg3 arg4 harg4 x0 x1 x2) := by
  rfl

theorem lruSq_A : (kernelRun0_A.sl.r_819 c arg2 harg2 arg3 harg3 arg4 harg4 arg7 harg7 arg8 harg8 arg9 harg9 arg10
      harg10 arg11 harg11 arg12 harg12 arg23 arg24 arg25 arg26 arg27 x0 x1 x2 x5 x6 x7 x8 x9 x10) = ylSq arg24.view
      arg25.view arg26.view (kernelRun0_A.sl.r_21 c arg2 harg2 arg3 harg3 arg4 harg4 arg7 harg7 arg8 harg8 arg9
      harg9 arg10 harg10 arg12 harg12 arg23 x0 x1 x2 x5 x6 x7 x8 x10) (kernelRun0_A.sl.r_22 c arg2 harg2 arg3 harg3
      arg4 harg4 arg7 harg7 arg8 harg8 arg9 harg9 arg10 harg10 arg11 harg11 arg12 harg12 arg23 x0 x1 x2 x5 x6 x7 x8
      x9 x10) (hl0 arg24.view arg25.view (kernelRun0_A.sl.r_21 c arg2 harg2 arg3 harg3 arg4 harg4 arg7 harg7 arg8
      harg8 arg9 harg9 arg10 harg10 arg12 harg12 arg23 x0 x1 x2 x5 x6 x7 x8 x10) (kernelRun0_A.sl.r_22 c arg2 harg2
      arg3 harg3 arg4 harg4 arg7 harg7 arg8 harg8 arg9 harg9 arg10 harg10 arg11 harg11 arg12 harg12 arg23 x0 x1 x2
      x5 x6 x7 x8 x9 x10) arg27.view) (kernelRun0_A.sl.r_3 c arg2 harg2 arg3 harg3 arg4 harg4 x0 x1 x2) := by
  rfl

theorem res_A : (kernelRun0_A.sl.r_829 c i arg2 harg2 arg3 harg3 arg4 harg4 arg5 harg5 arg6 harg6 arg7 harg7 arg8
      harg8 arg9 harg9 arg10 harg10 arg11 harg11 arg12 harg12 arg13 harg13 arg14 harg14 arg15 harg15 arg16 harg16
      arg17 harg17 arg18 harg18 arg19 harg19 arg22 arg23 arg24 arg25 arg26 arg27 x0 x1 x2 x3 x4 x5 x6 x7 x8 x9 x10
      x11 x12 x13 x14 x15 x16 x17) = h2 (rawIns arg2 harg2 arg3 harg3 arg4 harg4 arg5 harg5 arg6 harg6 arg7 harg7
      arg8 harg8 arg9 harg9 arg10 harg10 arg11 harg11 arg12 harg12 arg13 harg13 arg14 harg14 arg15 harg15 arg16
      harg16 arg17 harg17 arg18 harg18 arg19 harg19 arg20 harg20 x0 x1 x2 x3 x4 x5 x6 x7 x8 x9 x10 x11 x12 x13 x14
      x15 x16 x17 x18) (kernelRun0_A.sl.r_13 c i arg2 harg2 arg3 harg3 arg4 harg4 arg5 harg5 arg6 harg6 arg13 harg13
      arg22 x0 x1 x2 x3 x4 x11) (kernelRun0_A.sl.r_817 c arg2 harg2 arg3 harg3 arg4 harg4 arg7 harg7 arg8 harg8 arg9
      harg9 arg10 harg10 arg11 harg11 arg12 harg12 arg23 arg24 arg25 arg26 arg27 x0 x1 x2 x5 x6 x7 x8 x9 x10)
      (kernelRun0_A.sl.r_819 c arg2 harg2 arg3 harg3 arg4 harg4 arg7 harg7 arg8 harg8 arg9 harg9 arg10 harg10 arg11
      harg11 arg12 harg12 arg23 arg24 arg25 arg26 arg27 x0 x1 x2 x5 x6 x7 x8 x9 x10) := by
  rfl

theorem resSq_A : (kernelRun0_A.sl.r_831 c i arg2 harg2 arg3 harg3 arg4 harg4 arg5 harg5 arg6 harg6 arg7 harg7 arg8
      harg8 arg9 harg9 arg10 harg10 arg11 harg11 arg12 harg12 arg13 harg13 arg14 harg14 arg15 harg15 arg16 harg16
      arg17 harg17 arg18 harg18 arg19 harg19 arg22 arg23 arg24 arg25 arg26 arg27 x0 x1 x2 x3 x4 x5 x6 x7 x8 x9 x10
      x11 x12 x13 x14 x15 x16 x17) = h2Sq (rawIns arg2 harg2 arg3 harg3 arg4 harg4 arg5 harg5 arg6 harg6 arg7 harg7
      arg8 harg8 arg9 harg9 arg10 harg10 arg11 harg11 arg12 harg12 arg13 harg13 arg14 harg14 arg15 harg15 arg16
      harg16 arg17 harg17 arg18 harg18 arg19 harg19 arg20 harg20 x0 x1 x2 x3 x4 x5 x6 x7 x8 x9 x10 x11 x12 x13 x14
      x15 x16 x17 x18) (kernelRun0_A.sl.r_13 c i arg2 harg2 arg3 harg3 arg4 harg4 arg5 harg5 arg6 harg6 arg13 harg13
      arg22 x0 x1 x2 x3 x4 x11) (kernelRun0_A.sl.r_817 c arg2 harg2 arg3 harg3 arg4 harg4 arg7 harg7 arg8 harg8 arg9
      harg9 arg10 harg10 arg11 harg11 arg12 harg12 arg23 arg24 arg25 arg26 arg27 x0 x1 x2 x5 x6 x7 x8 x9 x10)
      (kernelRun0_A.sl.r_819 c arg2 harg2 arg3 harg3 arg4 harg4 arg7 harg7 arg8 harg8 arg9 harg9 arg10 harg10 arg11
      harg11 arg12 harg12 arg23 arg24 arg25 arg26 arg27 x0 x1 x2 x5 x6 x7 x8 x9 x10) := by
  rfl

theorem out_A (hc0 : cond0_0 i) : (kernelRun0_A c i arg2 harg2 arg3 harg3 arg4 harg4 arg5 harg5 arg6 harg6 arg7
      harg7 arg8 harg8 arg9 harg9 arg10 harg10 arg11 harg11 arg12 harg12 arg13 harg13 arg14 harg14 arg15 harg15
      arg16 harg16 arg17 harg17 arg18 harg18 arg19 harg19 arg20 harg20 arg21 harg21 arg22 harg22 arg23 harg23 arg24
      harg24 arg25 harg25 arg26 harg26 arg27 harg27 hc0 x0 x1 x2 x3 x4 x5 x6 x7 x8 x9 x10 x11 x12 x13 x14 x15 x16
      x17 x18).1 = [⟨Rect.unit (s := S1x512x1024) ![0, 0, 0] S1x512x1024.size inb_S1x512x1024_S1x512x1024_0_0_0,
      blockOut (rawIns arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18 harg18
      arg19 harg19 arg20 harg20 x0 x1 x2 x3 x4 x5 x6 x7 x8 x9 x10 x11 x12 x13 x14 x15 x16 x17 x18) arg24.view
      arg25.view arg26.view (BitVec.ofNat 32 (i 1).val) (pA arg22.view (rawIns arg2 harg2 arg3 harg3 arg4 harg4 arg5
      harg5 arg6 harg6 arg7 harg7 arg8 harg8 arg9 harg9 arg10 harg10 arg11 harg11 arg12 harg12 arg13 harg13 arg14
      harg14 arg15 harg15 arg16 harg16 arg17 harg17 arg18 harg18 arg19 harg19 arg20 harg20 x0 x1 x2 x3 x4 x5 x6 x7
      x8 x9 x10 x11 x12 x13 x14 x15 x16 x17 x18)) (qA arg23.view (rawIns arg2 harg2 arg3 harg3 arg4 harg4 arg5 harg5
      arg6 harg6 arg7 harg7 arg8 harg8 arg9 harg9 arg10 harg10 arg11 harg11 arg12 harg12 arg13 harg13 arg14 harg14
      arg15 harg15 arg16 harg16 arg17 harg17 arg18 harg18 arg19 harg19 arg20 harg20 x0 x1 x2 x3 x4 x5 x6 x7 x8 x9
      x10 x11 x12 x13 x14 x15 x16 x17 x18)) (hl0 arg24.view arg25.view (av (rawIns arg2 harg2 arg3 harg3 arg4 harg4
      arg5 harg5 arg6 harg6 arg7 harg7 arg8 harg8 arg9 harg9 arg10 harg10 arg11 harg11 arg12 harg12 arg13 harg13
      arg14 harg14 arg15 harg15 arg16 harg16 arg17 harg17 arg18 harg18 arg19 harg19 arg20 harg20 x0 x1 x2 x3 x4 x5
      x6 x7 x8 x9 x10 x11 x12 x13 x14 x15 x16 x17 x18) (qA arg23.view (rawIns arg2 harg2 arg3 harg3 arg4 harg4 arg5
      harg5 arg6 harg6 arg7 harg7 arg8 harg8 arg9 harg9 arg10 harg10 arg11 harg11 arg12 harg12 arg13 harg13 arg14
      harg14 arg15 harg15 arg16 harg16 arg17 harg17 arg18 harg18 arg19 harg19 arg20 harg20 x0 x1 x2 x3 x4 x5 x6 x7
      x8 x9 x10 x11 x12 x13 x14 x15 x16 x17 x18))) (bv (rawIns arg2 harg2 arg3 harg3 arg4 harg4 arg5 harg5 arg6
      harg6 arg7 harg7 arg8 harg8 arg9 harg9 arg10 harg10 arg11 harg11 arg12 harg12 arg13 harg13 arg14 harg14 arg15
      harg15 arg16 harg16 arg17 harg17 arg18 harg18 arg19 harg19 arg20 harg20 x0 x1 x2 x3 x4 x5 x6 x7 x8 x9 x10 x11
      x12 x13 x14 x15 x16 x17 x18) (qA arg23.view (rawIns arg2 harg2 arg3 harg3 arg4 harg4 arg5 harg5 arg6 harg6
      arg7 harg7 arg8 harg8 arg9 harg9 arg10 harg10 arg11 harg11 arg12 harg12 arg13 harg13 arg14 harg14 arg15 harg15
      arg16 harg16 arg17 harg17 arg18 harg18 arg19 harg19 arg20 harg20 x0 x1 x2 x3 x4 x5 x6 x7 x8 x9 x10 x11 x12 x13
      x14 x15 x16 x17 x18))) arg27.view)⟩] := by
  unfold blockOut out
  rw [← mix_A c i arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18 harg18
      arg19 harg19 arg20 harg20 arg22 x0 x1 x2 x3 x4 x5 x6 x7 x8 x9 x10 x11 x12 x13 x14 x15 x16 x17 x18, ← dec_A c
      arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      arg20 harg20 arg23 x0 x1 x2 x3 x4 x5 x6 x7 x8 x9 x10 x11 x12 x13 x14 x15 x16 x17 x18, ← inp_A c arg2 harg2
      arg3 harg3 arg4 harg4 arg5 harg5 arg6 harg6 arg7 harg7 arg8 harg8 arg9 harg9 arg10 harg10 arg11 harg11 arg12
      harg12 arg13 harg13 arg14 harg14 arg15 harg15 arg16 harg16 arg17 harg17 arg18 harg18 arg19 harg19 arg20 harg20
      arg23 x0 x1 x2 x3 x4 x5 x6 x7 x8 x9 x10 x11 x12 x13 x14 x15 x16 x17 x18, ← gate_A c arg2 harg2 arg3 harg3 arg4
      harg4 arg5 harg5 arg6 harg6 arg7 harg7 arg8 harg8 arg9 harg9 arg10 harg10 arg11 harg11 arg12 harg12 arg13
      harg13 arg14 harg14 arg15 harg15 arg16 harg16 arg17 harg17 arg18 harg18 arg19 harg19 arg20 harg20 x0 x1 x2 x3
      x4 x5 x6 x7 x8 x9 x10 x11 x12 x13 x14 x15 x16 x17 x18, ← lru_A c arg2 harg2 arg3 harg3 arg4 harg4 arg7 harg7
      arg8 harg8 arg9 harg9 arg10 harg10 arg11 harg11 arg12 harg12 arg23 arg24 arg25 arg26 arg27 x0 x1 x2 x5 x6 x7
      x8 x9 x10, ← lruSq_A c arg2 harg2 arg3 harg3 arg4 harg4 arg7 harg7 arg8 harg8 arg9 harg9 arg10 harg10 arg11
      harg11 arg12 harg12 arg23 arg24 arg25 arg26 arg27 x0 x1 x2 x5 x6 x7 x8 x9 x10, ← res_A c i arg2 harg2 arg3
      harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 arg20 harg20 arg22
      arg23 arg24 arg25 arg26 arg27 x0 x1 x2 x3 x4 x5 x6 x7 x8 x9 x10 x11 x12 x13 x14 x15 x16 x17 x18, ← resSq_A c i
      arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      arg20 harg20 arg22 arg23 arg24 arg25 arg26 arg27 x0 x1 x2 x3 x4 x5 x6 x7 x8 x9 x10 x11 x12 x13 x14 x15 x16 x17
      x18]
  rfl

theorem carry_A (hc0 : cond0_0 i) : (kernelRun0_A c i arg2 harg2 arg3 harg3 arg4 harg4 arg5 harg5 arg6 harg6 arg7
      harg7 arg8 harg8 arg9 harg9 arg10 harg10 arg11 harg11 arg12 harg12 arg13 harg13 arg14 harg14 arg15 harg15
      arg16 harg16 arg17 harg17 arg18 harg18 arg19 harg19 arg20 harg20 arg21 harg21 arg22 harg22 arg23 harg23 arg24
      harg24 arg25 harg25 arg26 harg26 arg27 harg27 hc0 x0 x1 x2 x3 x4 x5 x6 x7 x8 x9 x10 x11 x12 x13 x14 x15 x16
      x17 x18).2.2.2.1 = cars0 arg24.view arg25.view (av (rawIns arg2 harg2 arg3 harg3 arg4 harg4 arg5 harg5 arg6
      harg6 arg7 harg7 arg8 harg8 arg9 harg9 arg10 harg10 arg11 harg11 arg12 harg12 arg13 harg13 arg14 harg14 arg15
      harg15 arg16 harg16 arg17 harg17 arg18 harg18 arg19 harg19 arg20 harg20 x0 x1 x2 x3 x4 x5 x6 x7 x8 x9 x10 x11
      x12 x13 x14 x15 x16 x17 x18) (qA arg23.view (rawIns arg2 harg2 arg3 harg3 arg4 harg4 arg5 harg5 arg6 harg6
      arg7 harg7 arg8 harg8 arg9 harg9 arg10 harg10 arg11 harg11 arg12 harg12 arg13 harg13 arg14 harg14 arg15 harg15
      arg16 harg16 arg17 harg17 arg18 harg18 arg19 harg19 arg20 harg20 x0 x1 x2 x3 x4 x5 x6 x7 x8 x9 x10 x11 x12 x13
      x14 x15 x16 x17 x18))) (bv (rawIns arg2 harg2 arg3 harg3 arg4 harg4 arg5 harg5 arg6 harg6 arg7 harg7 arg8
      harg8 arg9 harg9 arg10 harg10 arg11 harg11 arg12 harg12 arg13 harg13 arg14 harg14 arg15 harg15 arg16 harg16
      arg17 harg17 arg18 harg18 arg19 harg19 arg20 harg20 x0 x1 x2 x3 x4 x5 x6 x7 x8 x9 x10 x11 x12 x13 x14 x15 x16
      x17 x18) (qA arg23.view (rawIns arg2 harg2 arg3 harg3 arg4 harg4 arg5 harg5 arg6 harg6 arg7 harg7 arg8 harg8
      arg9 harg9 arg10 harg10 arg11 harg11 arg12 harg12 arg13 harg13 arg14 harg14 arg15 harg15 arg16 harg16 arg17
      harg17 arg18 harg18 arg19 harg19 arg20 harg20 x0 x1 x2 x3 x4 x5 x6 x7 x8 x9 x10 x11 x12 x13 x14 x15 x16 x17
      x18))) arg27.view 4 := by
  rw [← dec_A c arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19
      harg19 arg20 harg20 arg23 x0 x1 x2 x3 x4 x5 x6 x7 x8 x9 x10 x11 x12 x13 x14 x15 x16 x17 x18, ← inp_A c arg2
      harg2 arg3 harg3 arg4 harg4 arg5 harg5 arg6 harg6 arg7 harg7 arg8 harg8 arg9 harg9 arg10 harg10 arg11 harg11
      arg12 harg12 arg13 harg13 arg14 harg14 arg15 harg15 arg16 harg16 arg17 harg17 arg18 harg18 arg19 harg19 arg20
      harg20 arg23 x0 x1 x2 x3 x4 x5 x6 x7 x8 x9 x10 x11 x12 x13 x14 x15 x16 x17 x18]
  rfl

theorem pbuf_A (hc0 : cond0_0 i) : (kernelRun0_A c i arg2 harg2 arg3 harg3 arg4 harg4 arg5 harg5 arg6 harg6 arg7
      harg7 arg8 harg8 arg9 harg9 arg10 harg10 arg11 harg11 arg12 harg12 arg13 harg13 arg14 harg14 arg15 harg15
      arg16 harg16 arg17 harg17 arg18 harg18 arg19 harg19 arg20 harg20 arg21 harg21 arg22 harg22 arg23 harg23 arg24
      harg24 arg25 harg25 arg26 harg26 arg27 harg27 hc0 x0 x1 x2 x3 x4 x5 x6 x7 x8 x9 x10 x11 x12 x13 x14 x15 x16
      x17 x18).2.1 = [⟨Rect.unit (s := S528x512) ![0, 0] ![16, 512] inb_S528x512_S16x512_0_0, k0_pay1
      (arg22.view.readCov [pst (rawIns arg2 harg2 arg3 harg3 arg4 harg4 arg5 harg5 arg6 harg6 arg7 harg7 arg8 harg8
      arg9 harg9 arg10 harg10 arg11 harg11 arg12 harg12 arg13 harg13 arg14 harg14 arg15 harg15 arg16 harg16 arg17
      harg17 arg18 harg18 arg19 harg19 arg20 harg20 x0 x1 x2 x3 x4 x5 x6 x7 x8 x9 x10 x11 x12 x13 x14 x15 x16 x17
      x18), zP] (Rect.unit (s := S528x512) ![512, 0] S16x512.size inb_S528x512_S16x512_512_0).toLoadRect)⟩, pst
      (rawIns arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19
      harg19 arg20 harg20 x0 x1 x2 x3 x4 x5 x6 x7 x8 x9 x10 x11 x12 x13 x14 x15 x16 x17 x18), zP] := by
  rfl

theorem lbuf_A (hc0 : cond0_0 i) : (kernelRun0_A c i arg2 harg2 arg3 harg3 arg4 harg4 arg5 harg5 arg6 harg6 arg7
      harg7 arg8 harg8 arg9 harg9 arg10 harg10 arg11 harg11 arg12 harg12 arg13 harg13 arg14 harg14 arg15 harg15
      arg16 harg16 arg17 harg17 arg18 harg18 arg19 harg19 arg20 harg20 arg21 harg21 arg22 harg22 arg23 harg23 arg24
      harg24 arg25 harg25 arg26 harg26 arg27 harg27 hc0 x0 x1 x2 x3 x4 x5 x6 x7 x8 x9 x10 x11 x12 x13 x14 x15 x16
      x17 x18).2.2.1 = [⟨Rect.unit (s := S520x512) ![0, 0] ![8, 512] inb_S520x512_S8x512_0_0, k0_pay2
      (arg23.view.readCov [lst (rawIns arg2 harg2 arg3 harg3 arg4 harg4 arg5 harg5 arg6 harg6 arg7 harg7 arg8 harg8
      arg9 harg9 arg10 harg10 arg11 harg11 arg12 harg12 arg13 harg13 arg14 harg14 arg15 harg15 arg16 harg16 arg17
      harg17 arg18 harg18 arg19 harg19 arg20 harg20 x0 x1 x2 x3 x4 x5 x6 x7 x8 x9 x10 x11 x12 x13 x14 x15 x16 x17
      x18), zL] (Rect.unit (s := S520x512) ![512, 0] ![8, 512] inb_S520x512_S8x512_512_0).toLoadRect)⟩, lst (rawIns
      arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      arg20 harg20 x0 x1 x2 x3 x4 x5 x6 x7 x8 x9 x10 x11 x12 x13 x14 x15 x16 x17 x18), zL] := by
  rfl

variable (xs0 : Vec F S528x512 .f32) (xs1 : Vec F S520x512 .f32) (xs5 : Vec F S1x512 .f32)

theorem mix_B : (kernelRun0_B.sl.r_13 c i arg2 harg2 arg3 harg3 arg4 harg4 arg5 harg5 arg6 harg6 arg13 harg13 arg22
      harg22 x0 x1 x2 x3 x4 x11 xs0) = mixP (rawIns arg2 harg2 arg3 harg3 arg4 harg4 arg5 harg5 arg6 harg6 arg7
      harg7 arg8 harg8 arg9 harg9 arg10 harg10 arg11 harg11 arg12 harg12 arg13 harg13 arg14 harg14 arg15 harg15
      arg16 harg16 arg17 harg17 arg18 harg18 arg19 harg19 arg20 harg20 x0 x1 x2 x3 x4 x5 x6 x7 x8 x9 x10 x11 x12 x13
      x14 x15 x16 x17 x18) (BitVec.ofNat 32 (i 1).val) (pB arg22 harg22 xs0 (rawIns arg2 harg2 arg3 harg3 arg4 harg4
      arg5 harg5 arg6 harg6 arg7 harg7 arg8 harg8 arg9 harg9 arg10 harg10 arg11 harg11 arg12 harg12 arg13 harg13
      arg14 harg14 arg15 harg15 arg16 harg16 arg17 harg17 arg18 harg18 arg19 harg19 arg20 harg20 x0 x1 x2 x3 x4 x5
      x6 x7 x8 x9 x10 x11 x12 x13 x14 x15 x16 x17 x18)) := by
  rfl

theorem gate_B : (kernelRun0_B.sl.r_3 c arg2 harg2 arg3 harg3 arg4 harg4 x0 x1 x2) = ug (rawIns arg2 harg2 arg3
      harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 arg20 harg20 x0 x1
      x2 x3 x4 x5 x6 x7 x8 x9 x10 x11 x12 x13 x14 x15 x16 x17 x18) := by
  rfl

theorem dec_B : (kernelRun0_B.sl.r_21 c arg2 harg2 arg3 harg3 arg4 harg4 arg7 harg7 arg8 harg8 arg9 harg9 arg10
      harg10 arg12 harg12 arg23 harg23 x0 x1 x2 x5 x6 x7 x8 x10 xs1) = av (rawIns arg2 harg2 arg3 harg3 arg4 harg4
      arg5 harg5 arg6 harg6 arg7 harg7 arg8 harg8 arg9 harg9 arg10 harg10 arg11 harg11 arg12 harg12 arg13 harg13
      arg14 harg14 arg15 harg15 arg16 harg16 arg17 harg17 arg18 harg18 arg19 harg19 arg20 harg20 x0 x1 x2 x3 x4 x5
      x6 x7 x8 x9 x10 x11 x12 x13 x14 x15 x16 x17 x18) (qB arg23 harg23 xs1 (rawIns arg2 harg2 arg3 harg3 arg4 harg4
      arg5 harg5 arg6 harg6 arg7 harg7 arg8 harg8 arg9 harg9 arg10 harg10 arg11 harg11 arg12 harg12 arg13 harg13
      arg14 harg14 arg15 harg15 arg16 harg16 arg17 harg17 arg18 harg18 arg19 harg19 arg20 harg20 x0 x1 x2 x3 x4 x5
      x6 x7 x8 x9 x10 x11 x12 x13 x14 x15 x16 x17 x18)) := by
  rfl

theorem inp_B : (kernelRun0_B.sl.r_22 c arg2 harg2 arg3 harg3 arg4 harg4 arg7 harg7 arg8 harg8 arg9 harg9 arg10
      harg10 arg11 harg11 arg12 harg12 arg23 harg23 x0 x1 x2 x5 x6 x7 x8 x9 x10 xs1) = bv (rawIns arg2 harg2 arg3
      harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 arg20 harg20 x0 x1
      x2 x3 x4 x5 x6 x7 x8 x9 x10 x11 x12 x13 x14 x15 x16 x17 x18) (qB arg23 harg23 xs1 (rawIns arg2 harg2 arg3
      harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 arg20 harg20 x0 x1
      x2 x3 x4 x5 x6 x7 x8 x9 x10 x11 x12 x13 x14 x15 x16 x17 x18)) := by
  rfl

theorem lru_B : (kernelRun0_B.sl.r_817 c arg2 harg2 arg3 harg3 arg4 harg4 arg7 harg7 arg8 harg8 arg9 harg9 arg10
      harg10 arg11 harg11 arg12 harg12 arg23 harg23 arg24 arg25 arg26 arg27 harg27 x0 x1 x2 x5 x6 x7 x8 x9 x10 xs1
      xs5) = yl arg24.view arg25.view arg26.view (kernelRun0_B.sl.r_21 c arg2 harg2 arg3 harg3 arg4 harg4 arg7 harg7
      arg8 harg8 arg9 harg9 arg10 harg10 arg12 harg12 arg23 harg23 x0 x1 x2 x5 x6 x7 x8 x10 xs1)
      (kernelRun0_B.sl.r_22 c arg2 harg2 arg3 harg3 arg4 harg4 arg7 harg7 arg8 harg8 arg9 harg9 arg10 harg10 arg11
      harg11 arg12 harg12 arg23 harg23 x0 x1 x2 x5 x6 x7 x8 x9 x10 xs1) (hB arg27 harg27 xs5) (kernelRun0_B.sl.r_3 c
      arg2 harg2 arg3 harg3 arg4 harg4 x0 x1 x2) := by
  rfl

theorem lruSq_B : (kernelRun0_B.sl.r_819 c arg2 harg2 arg3 harg3 arg4 harg4 arg7 harg7 arg8 harg8 arg9 harg9 arg10
      harg10 arg11 harg11 arg12 harg12 arg23 harg23 arg24 arg25 arg26 arg27 harg27 x0 x1 x2 x5 x6 x7 x8 x9 x10 xs1
      xs5) = ylSq arg24.view arg25.view arg26.view (kernelRun0_B.sl.r_21 c arg2 harg2 arg3 harg3 arg4 harg4 arg7
      harg7 arg8 harg8 arg9 harg9 arg10 harg10 arg12 harg12 arg23 harg23 x0 x1 x2 x5 x6 x7 x8 x10 xs1)
      (kernelRun0_B.sl.r_22 c arg2 harg2 arg3 harg3 arg4 harg4 arg7 harg7 arg8 harg8 arg9 harg9 arg10 harg10 arg11
      harg11 arg12 harg12 arg23 harg23 x0 x1 x2 x5 x6 x7 x8 x9 x10 xs1) (hB arg27 harg27 xs5) (kernelRun0_B.sl.r_3 c
      arg2 harg2 arg3 harg3 arg4 harg4 x0 x1 x2) := by
  rfl

theorem res_B : (kernelRun0_B.sl.r_829 c i arg2 harg2 arg3 harg3 arg4 harg4 arg5 harg5 arg6 harg6 arg7 harg7 arg8
      harg8 arg9 harg9 arg10 harg10 arg11 harg11 arg12 harg12 arg13 harg13 arg14 harg14 arg15 harg15 arg16 harg16
      arg17 harg17 arg18 harg18 arg19 harg19 arg22 harg22 arg23 harg23 arg24 arg25 arg26 arg27 harg27 x0 x1 x2 x3 x4
      x5 x6 x7 x8 x9 x10 x11 x12 x13 x14 x15 x16 x17 xs0 xs1 xs5) = h2 (rawIns arg2 harg2 arg3 harg3 arg4 harg4 arg5
      harg5 arg6 harg6 arg7 harg7 arg8 harg8 arg9 harg9 arg10 harg10 arg11 harg11 arg12 harg12 arg13 harg13 arg14
      harg14 arg15 harg15 arg16 harg16 arg17 harg17 arg18 harg18 arg19 harg19 arg20 harg20 x0 x1 x2 x3 x4 x5 x6 x7
      x8 x9 x10 x11 x12 x13 x14 x15 x16 x17 x18) (kernelRun0_B.sl.r_13 c i arg2 harg2 arg3 harg3 arg4 harg4 arg5
      harg5 arg6 harg6 arg13 harg13 arg22 harg22 x0 x1 x2 x3 x4 x11 xs0) (kernelRun0_B.sl.r_817 c arg2 harg2 arg3
      harg3 arg4 harg4 arg7 harg7 arg8 harg8 arg9 harg9 arg10 harg10 arg11 harg11 arg12 harg12 arg23 harg23 arg24
      arg25 arg26 arg27 harg27 x0 x1 x2 x5 x6 x7 x8 x9 x10 xs1 xs5) (kernelRun0_B.sl.r_819 c arg2 harg2 arg3 harg3
      arg4 harg4 arg7 harg7 arg8 harg8 arg9 harg9 arg10 harg10 arg11 harg11 arg12 harg12 arg23 harg23 arg24 arg25
      arg26 arg27 harg27 x0 x1 x2 x5 x6 x7 x8 x9 x10 xs1 xs5) := by
  rfl

theorem resSq_B : (kernelRun0_B.sl.r_831 c i arg2 harg2 arg3 harg3 arg4 harg4 arg5 harg5 arg6 harg6 arg7 harg7 arg8
      harg8 arg9 harg9 arg10 harg10 arg11 harg11 arg12 harg12 arg13 harg13 arg14 harg14 arg15 harg15 arg16 harg16
      arg17 harg17 arg18 harg18 arg19 harg19 arg22 harg22 arg23 harg23 arg24 arg25 arg26 arg27 harg27 x0 x1 x2 x3 x4
      x5 x6 x7 x8 x9 x10 x11 x12 x13 x14 x15 x16 x17 xs0 xs1 xs5) = h2Sq (rawIns arg2 harg2 arg3 harg3 arg4 harg4
      arg5 harg5 arg6 harg6 arg7 harg7 arg8 harg8 arg9 harg9 arg10 harg10 arg11 harg11 arg12 harg12 arg13 harg13
      arg14 harg14 arg15 harg15 arg16 harg16 arg17 harg17 arg18 harg18 arg19 harg19 arg20 harg20 x0 x1 x2 x3 x4 x5
      x6 x7 x8 x9 x10 x11 x12 x13 x14 x15 x16 x17 x18) (kernelRun0_B.sl.r_13 c i arg2 harg2 arg3 harg3 arg4 harg4
      arg5 harg5 arg6 harg6 arg13 harg13 arg22 harg22 x0 x1 x2 x3 x4 x11 xs0) (kernelRun0_B.sl.r_817 c arg2 harg2
      arg3 harg3 arg4 harg4 arg7 harg7 arg8 harg8 arg9 harg9 arg10 harg10 arg11 harg11 arg12 harg12 arg23 harg23
      arg24 arg25 arg26 arg27 harg27 x0 x1 x2 x5 x6 x7 x8 x9 x10 xs1 xs5) (kernelRun0_B.sl.r_819 c arg2 harg2 arg3
      harg3 arg4 harg4 arg7 harg7 arg8 harg8 arg9 harg9 arg10 harg10 arg11 harg11 arg12 harg12 arg23 harg23 arg24
      arg25 arg26 arg27 harg27 x0 x1 x2 x5 x6 x7 x8 x9 x10 xs1 xs5) := by
  rfl

theorem out_B (hc0 : ¬cond0_0 i) : (kernelRun0_B c i arg2 harg2 arg3 harg3 arg4 harg4 arg5 harg5 arg6 harg6 arg7
      harg7 arg8 harg8 arg9 harg9 arg10 harg10 arg11 harg11 arg12 harg12 arg13 harg13 arg14 harg14 arg15 harg15
      arg16 harg16 arg17 harg17 arg18 harg18 arg19 harg19 arg20 harg20 arg21 harg21 arg22 harg22 arg23 harg23 arg24
      harg24 arg25 harg25 arg26 harg26 arg27 harg27 hc0 x0 x1 x2 x3 x4 x5 x6 x7 x8 x9 x10 x11 x12 x13 x14 x15 x16
      x17 x18 xs0 xs1 xs5).1 = [⟨Rect.unit (s := S1x512x1024) ![0, 0, 0] S1x512x1024.size
      inb_S1x512x1024_S1x512x1024_0_0_0, blockOut (rawIns arg2 harg2 arg3 harg3 arg4 harg4 arg5 harg5 arg6 harg6
      arg7 harg7 arg8 harg8 arg9 harg9 arg10 harg10 arg11 harg11 arg12 harg12 arg13 harg13 arg14 harg14 arg15 harg15
      arg16 harg16 arg17 harg17 arg18 harg18 arg19 harg19 arg20 harg20 x0 x1 x2 x3 x4 x5 x6 x7 x8 x9 x10 x11 x12 x13
      x14 x15 x16 x17 x18) arg24.view arg25.view arg26.view (BitVec.ofNat 32 (i 1).val) (pB arg22 harg22 xs0 (rawIns
      arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      arg20 harg20 x0 x1 x2 x3 x4 x5 x6 x7 x8 x9 x10 x11 x12 x13 x14 x15 x16 x17 x18)) (qB arg23 harg23 xs1 (rawIns
      arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      arg20 harg20 x0 x1 x2 x3 x4 x5 x6 x7 x8 x9 x10 x11 x12 x13 x14 x15 x16 x17 x18)) (hB arg27 harg27 xs5)⟩] := by
  unfold blockOut out
  rw [← mix_B c i arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18 harg18
      arg19 harg19 arg20 harg20 arg22 harg22 x0 x1 x2 x3 x4 x5 x6 x7 x8 x9 x10 x11 x12 x13 x14 x15 x16 x17 x18 xs0,
      ← dec_B c arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19
      harg19 arg20 harg20 arg23 harg23 x0 x1 x2 x3 x4 x5 x6 x7 x8 x9 x10 x11 x12 x13 x14 x15 x16 x17 x18 xs1, ←
      inp_B c arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19
      harg19 arg20 harg20 arg23 harg23 x0 x1 x2 x3 x4 x5 x6 x7 x8 x9 x10 x11 x12 x13 x14 x15 x16 x17 x18 xs1, ←
      gate_B c arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19
      harg19 arg20 harg20 x0 x1 x2 x3 x4 x5 x6 x7 x8 x9 x10 x11 x12 x13 x14 x15 x16 x17 x18, ← lru_B c arg2 harg2
      arg3 harg3 arg4 harg4 arg7 harg7 arg8 harg8 arg9 harg9 arg10 harg10 arg11 harg11 arg12 harg12 arg23 harg23
      arg24 arg25 arg26 arg27 harg27 x0 x1 x2 x5 x6 x7 x8 x9 x10 xs1 xs5, ← lruSq_B c arg2 harg2 arg3 harg3 arg4
      harg4 arg7 harg7 arg8 harg8 arg9 harg9 arg10 harg10 arg11 harg11 arg12 harg12 arg23 harg23 arg24 arg25 arg26
      arg27 harg27 x0 x1 x2 x5 x6 x7 x8 x9 x10 xs1 xs5, ← res_B c i arg2 harg2 arg3 harg3 arg4 harg4 arg5 harg5 arg6
      harg6 arg7 harg7 arg8 harg8 arg9 harg9 arg10 harg10 arg11 harg11 arg12 harg12 arg13 harg13 arg14 harg14 arg15
      harg15 arg16 harg16 arg17 harg17 arg18 harg18 arg19 harg19 arg20 harg20 arg22 harg22 arg23 harg23 arg24 arg25
      arg26 arg27 harg27 x0 x1 x2 x3 x4 x5 x6 x7 x8 x9 x10 x11 x12 x13 x14 x15 x16 x17 x18 xs0 xs1 xs5, ← resSq_B c
      i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      arg20 harg20 arg22 harg22 arg23 harg23 arg24 arg25 arg26 arg27 harg27 x0 x1 x2 x3 x4 x5 x6 x7 x8 x9 x10 x11
      x12 x13 x14 x15 x16 x17 x18 xs0 xs1 xs5]
  rfl

theorem carry_B (hc0 : ¬cond0_0 i) : (kernelRun0_B c i arg2 harg2 arg3 harg3 arg4 harg4 arg5 harg5 arg6 harg6 arg7
      harg7 arg8 harg8 arg9 harg9 arg10 harg10 arg11 harg11 arg12 harg12 arg13 harg13 arg14 harg14 arg15 harg15
      arg16 harg16 arg17 harg17 arg18 harg18 arg19 harg19 arg20 harg20 arg21 harg21 arg22 harg22 arg23 harg23 arg24
      harg24 arg25 harg25 arg26 harg26 arg27 harg27 hc0 x0 x1 x2 x3 x4 x5 x6 x7 x8 x9 x10 x11 x12 x13 x14 x15 x16
      x17 x18 xs0 xs1 xs5).2.2.2.1 = cars arg24.view arg25.view (av (rawIns arg2 harg2 arg3 harg3 arg4 harg4 arg5
      harg5 arg6 harg6 arg7 harg7 arg8 harg8 arg9 harg9 arg10 harg10 arg11 harg11 arg12 harg12 arg13 harg13 arg14
      harg14 arg15 harg15 arg16 harg16 arg17 harg17 arg18 harg18 arg19 harg19 arg20 harg20 x0 x1 x2 x3 x4 x5 x6 x7
      x8 x9 x10 x11 x12 x13 x14 x15 x16 x17 x18) (qB arg23 harg23 xs1 (rawIns arg2 harg2 arg3 harg3 arg4 harg4 arg5
      harg5 arg6 harg6 arg7 harg7 arg8 harg8 arg9 harg9 arg10 harg10 arg11 harg11 arg12 harg12 arg13 harg13 arg14
      harg14 arg15 harg15 arg16 harg16 arg17 harg17 arg18 harg18 arg19 harg19 arg20 harg20 x0 x1 x2 x3 x4 x5 x6 x7
      x8 x9 x10 x11 x12 x13 x14 x15 x16 x17 x18))) (bv (rawIns arg2 harg2 arg3 harg3 arg4 harg4 arg5 harg5 arg6
      harg6 arg7 harg7 arg8 harg8 arg9 harg9 arg10 harg10 arg11 harg11 arg12 harg12 arg13 harg13 arg14 harg14 arg15
      harg15 arg16 harg16 arg17 harg17 arg18 harg18 arg19 harg19 arg20 harg20 x0 x1 x2 x3 x4 x5 x6 x7 x8 x9 x10 x11
      x12 x13 x14 x15 x16 x17 x18) (qB arg23 harg23 xs1 (rawIns arg2 harg2 arg3 harg3 arg4 harg4 arg5 harg5 arg6
      harg6 arg7 harg7 arg8 harg8 arg9 harg9 arg10 harg10 arg11 harg11 arg12 harg12 arg13 harg13 arg14 harg14 arg15
      harg15 arg16 harg16 arg17 harg17 arg18 harg18 arg19 harg19 arg20 harg20 x0 x1 x2 x3 x4 x5 x6 x7 x8 x9 x10 x11
      x12 x13 x14 x15 x16 x17 x18))) (hB arg27 harg27 xs5) [] 4 := by
  rw [← dec_B c arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19
      harg19 arg20 harg20 arg23 harg23 x0 x1 x2 x3 x4 x5 x6 x7 x8 x9 x10 x11 x12 x13 x14 x15 x16 x17 x18 xs1, ←
      inp_B c arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19
      harg19 arg20 harg20 arg23 harg23 x0 x1 x2 x3 x4 x5 x6 x7 x8 x9 x10 x11 x12 x13 x14 x15 x16 x17 x18 xs1]
  rfl

theorem pbuf_B (hc0 : ¬cond0_0 i) : (kernelRun0_B c i arg2 harg2 arg3 harg3 arg4 harg4 arg5 harg5 arg6 harg6 arg7
      harg7 arg8 harg8 arg9 harg9 arg10 harg10 arg11 harg11 arg12 harg12 arg13 harg13 arg14 harg14 arg15 harg15
      arg16 harg16 arg17 harg17 arg18 harg18 arg19 harg19 arg20 harg20 arg21 harg21 arg22 harg22 arg23 harg23 arg24
      harg24 arg25 harg25 arg26 harg26 arg27 harg27 hc0 x0 x1 x2 x3 x4 x5 x6 x7 x8 x9 x10 x11 x12 x13 x14 x15 x16
      x17 x18 xs0 xs1 xs5).2.1 = [⟨Rect.unit (s := S528x512) ![0, 0] ![16, 512] inb_S528x512_S16x512_0_0, k0_pay1
      (arg22.view.readCov [pst (rawIns arg2 harg2 arg3 harg3 arg4 harg4 arg5 harg5 arg6 harg6 arg7 harg7 arg8 harg8
      arg9 harg9 arg10 harg10 arg11 harg11 arg12 harg12 arg13 harg13 arg14 harg14 arg15 harg15 arg16 harg16 arg17
      harg17 arg18 harg18 arg19 harg19 arg20 harg20 x0 x1 x2 x3 x4 x5 x6 x7 x8 x9 x10 x11 x12 x13 x14 x15 x16 x17
      x18)] (Rect.unit (s := S528x512) ![512, 0] S16x512.size inb_S528x512_S16x512_512_0).toLoadRect)⟩, pst (rawIns
      arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      arg20 harg20 x0 x1 x2 x3 x4 x5 x6 x7 x8 x9 x10 x11 x12 x13 x14 x15 x16 x17 x18)] := by
  rfl

theorem lbuf_B (hc0 : ¬cond0_0 i) : (kernelRun0_B c i arg2 harg2 arg3 harg3 arg4 harg4 arg5 harg5 arg6 harg6 arg7
      harg7 arg8 harg8 arg9 harg9 arg10 harg10 arg11 harg11 arg12 harg12 arg13 harg13 arg14 harg14 arg15 harg15
      arg16 harg16 arg17 harg17 arg18 harg18 arg19 harg19 arg20 harg20 arg21 harg21 arg22 harg22 arg23 harg23 arg24
      harg24 arg25 harg25 arg26 harg26 arg27 harg27 hc0 x0 x1 x2 x3 x4 x5 x6 x7 x8 x9 x10 x11 x12 x13 x14 x15 x16
      x17 x18 xs0 xs1 xs5).2.2.1 = [⟨Rect.unit (s := S520x512) ![0, 0] ![8, 512] inb_S520x512_S8x512_0_0, k0_pay2
      (arg23.view.readCov [lst (rawIns arg2 harg2 arg3 harg3 arg4 harg4 arg5 harg5 arg6 harg6 arg7 harg7 arg8 harg8
      arg9 harg9 arg10 harg10 arg11 harg11 arg12 harg12 arg13 harg13 arg14 harg14 arg15 harg15 arg16 harg16 arg17
      harg17 arg18 harg18 arg19 harg19 arg20 harg20 x0 x1 x2 x3 x4 x5 x6 x7 x8 x9 x10 x11 x12 x13 x14 x15 x16 x17
      x18)] (Rect.unit (s := S520x512) ![512, 0] ![8, 512] inb_S520x512_S8x512_512_0).toLoadRect)⟩, lst (rawIns arg2
      harg2 arg3 harg3 arg4 harg4 arg5 harg5 arg6 harg6 arg7 harg7 arg8 harg8 arg9 harg9 arg10 harg10 arg11 harg11
      arg12 harg12 arg13 harg13 arg14 harg14 arg15 harg15 arg16 harg16 arg17 harg17 arg18 harg18 arg19 harg19 arg20
      harg20 x0 x1 x2 x3 x4 x5 x6 x7 x8 x9 x10 x11 x12 x13 x14 x15 x16 x17 x18)] := by
  rfl

end Cert.Proof.Block
-- ==== Proof.Math.lean ====
module

public import Idealize.ShloMosaic.PureOps.Ideal
public import Idealize.ShloMosaic.PureOps.Ideal.Laws
public import Mathlib.Tactic.FieldSimp
public import Mathlib.Tactic.Linarith
public import Mathlib.Tactic.Positivity

@[expose] public section

noncomputable section

/-! Identities of extended reals: the literals, the two spellings of the sigmoid, of the softplus and of the input
    gate's factor, and the signs the recurrence needs. -/

namespace Cert.Proof.Math

open Idealize.ShloMosaic

/-! The literals. -/

theorem lit_zero : Ideal.ofBits .f32 0x00000000#32 = 0 := by simp [Ideal.ofBits, Ideal.ieee]
theorem lit_one : Ideal.ofBits .f32 0x3F800000#32 = 1 := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_four : Ideal.ofBits .f32 0x40800000#32 = ((4 : ℝ) : EReal) := by
  simp [Ideal.ofBits, Ideal.ieee, -EReal.coe_mul]; norm_num
theorem lit_eight : Ideal.ofBits .f32 0x41000000#32 = ((8 : ℝ) : EReal) := by
  simp [Ideal.ofBits, Ideal.ieee, -EReal.coe_mul]; norm_num
theorem lit_sixteen : Ideal.ofBits .f32 0x41800000#32 = ((16 : ℝ) : EReal) := by
  simp [Ideal.ofBits, Ideal.ieee, -EReal.coe_mul]; norm_num
theorem lit_neg_eight : Ideal.ofBits .f32 0xC1000000#32 = ((-8 : ℝ) : EReal) := by
  simp [Ideal.ofBits, Ideal.ieee, -EReal.coe_mul]; norm_num

theorem zero_sub' (x : EReal) : 0 - x = -x := by rw [sub_eq_add_neg, zero_add]
theorem sub_zero' (x : EReal) : x - 0 = x := by rw [sub_eq_add_neg, neg_zero, add_zero]

theorem tanh_half (r : ℝ) : 1 / 2 * (Real.tanh (1 / 2 * r) + 1) = 1 / (1 + Real.exp (-r)) := by
  have e1 : Real.exp r = Real.exp (1 / 2 * r) * Real.exp (1 / 2 * r) := by rw [← Real.exp_add]; congr 1; ring
  rw [Real.tanh_eq_sinh_div_cosh, Real.sinh_eq, Real.cosh_eq, Real.exp_neg, Real.exp_neg, e1]
  have h := Real.exp_pos (1 / 2 * r)
  generalize Real.exp (1 / 2 * r) = y at h
  field_simp
  ring

/-- The sigmoid. -/
def sigm (z : EReal) : EReal := Ideal.div 1 (1 + Ideal.exp (-z))

/-- The sigmoid through the hyperbolic tangent. -/
theorem sigm_tanh (z : EReal) : ((1 / 2 : ℝ) : EReal) * (Ideal.tanh (((1 / 2 : ℝ) : EReal) * z) + 1) = sigm z := by
  unfold sigm
  induction z with
  | bot =>
    rw [EReal.coe_mul_bot_of_pos (by norm_num), EReal.neg_bot]
    show ((1 / 2 : ℝ) : EReal) * (-1 + 1) = Ideal.div 1 (1 + ⊤)
    rw [EReal.add_top_of_ne_bot (by decide), show (-1 + 1 : EReal) = 0 by
      rw [← EReal.coe_one, ← EReal.coe_neg, ← EReal.coe_add]; norm_num]
    simp [Ideal.div]
  | top =>
    rw [EReal.coe_mul_top_of_pos (by norm_num), EReal.neg_top]
    show ((1 / 2 : ℝ) : EReal) * (1 + 1) = Ideal.div 1 (1 + 0)
    rw [add_zero, ← EReal.coe_one, ← EReal.coe_add, ← EReal.coe_mul]
    simp only [Ideal.div]
    rw [if_neg (by norm_num), ← EReal.coe_inv, ← EReal.coe_mul]
    norm_num
  | coe r =>
    rw [← EReal.coe_mul, ← EReal.coe_neg]
    show ((1 / 2 : ℝ) : EReal) * ((Real.tanh (1 / 2 * r) : ℝ) + 1) = Ideal.div 1 (1 + (Real.exp (-r) : ℝ))
    rw [← EReal.coe_one, ← EReal.coe_add, ← EReal.coe_add, ← EReal.coe_mul, tanh_half]
    have h : (1 + Real.exp (-r)) ≠ 0 := by positivity
    simp only [Ideal.div]
    rw [if_neg (by exact_mod_cast h), ← EReal.coe_inv, ← EReal.coe_mul]
    norm_num

theorem sigm_nonneg (z : EReal) : 0 ≤ sigm z := by
  rw [← sigm_tanh]
  refine EReal.mul_nonneg (by exact_mod_cast (by norm_num : (0 : ℝ) ≤ 1 / 2)) ?_
  have h : ∀ y : EReal, 0 ≤ Ideal.tanh y + 1 := by
    intro y
    induction y with
    | bot => show (0 : EReal) ≤ -1 + 1; rw [← EReal.coe_one, ← EReal.coe_neg, ← EReal.coe_add]; norm_num
    | top => show (0 : EReal) ≤ 1 + 1; rw [← EReal.coe_one, ← EReal.coe_add]; norm_num
    | coe r =>
      show (0 : EReal) ≤ (Real.tanh r : ℝ) + 1
      rw [← EReal.coe_one, ← EReal.coe_add]
      have := (Real.neg_one_lt_tanh r).le
      exact_mod_cast (by linarith : (0 : ℝ) ≤ Real.tanh r + 1)
  exact h _

theorem exp_nonneg (x : EReal) : 0 ≤ Ideal.exp x := by
  induction x with
  | bot => exact le_refl _
  | top => exact le_top
  | coe r => show (0 : EReal) ≤ ((Real.exp r : ℝ) : EReal); exact_mod_cast (Real.exp_pos r).le

theorem exp_ne_top {x : EReal} (h : x ≤ 0) : Ideal.exp x ≠ ⊤ := by
  induction x with
  | bot => exact EReal.zero_ne_top
  | top => exact absurd h (by decide)
  | coe r => exact EReal.coe_ne_top _

theorem log1p_exp_nonneg (x : EReal) : 0 ≤ Ideal.log1p (Ideal.exp x) := by
  induction x with
  | bot =>
    show (0 : EReal) ≤ Ideal.log (1 + 0)
    rw [add_zero, ← EReal.coe_one]
    show (0 : EReal) ≤ if (1 : ℝ) ≤ 0 then ⊥ else ((Real.log 1 : ℝ) : EReal)
    rw [if_neg (by norm_num)]; simp
  | top =>
    show (0 : EReal) ≤ Ideal.log (1 + ⊤)
    rw [EReal.add_top_of_ne_bot (by decide)]; exact le_top
  | coe r =>
    show (0 : EReal) ≤ Ideal.log (1 + (Real.exp r : ℝ))
    rw [← EReal.coe_one, ← EReal.coe_add]
    have hp := Real.exp_pos r
    show (0 : EReal) ≤ if (1 + Real.exp r : ℝ) ≤ 0 then ⊥ else ((Real.log (1 + Real.exp r) : ℝ) : EReal)
    rw [if_neg (by linarith)]
    exact_mod_cast Real.log_nonneg (by linarith)

/-- The softplus of `-l`. -/
def softplus (l : EReal) : EReal := max (-l) 0 + Ideal.log1p (Ideal.exp (-(max (-l) (-(-l)))))

theorem softplus_nonneg (l : EReal) : 0 ≤ softplus l :=
  add_nonneg (le_max_right _ _) (log1p_exp_nonneg _)

/-- The decay's logarithm is at most zero. -/
theorem logA_nonpos (z l : EReal) : (((-8 : ℝ) : EReal) * sigm z) * softplus l ≤ 0 := by
  have h8 : ((-8 : ℝ) : EReal) = -((8 : ℝ) : EReal) := by rw [← EReal.coe_neg]
  rw [h8, neg_mul, neg_mul]
  have : 0 ≤ ((8 : ℝ) : EReal) * sigm z * softplus l :=
    EReal.mul_nonneg (EReal.mul_nonneg (by exact_mod_cast (by norm_num : (0 : ℝ) ≤ 8)) (sigm_nonneg z)) (softplus_nonneg l)
  simpa using EReal.neg_le_neg_iff.mpr this

/-- One less the square of `exp L`, through the hyperbolic tangent. -/
theorem decay (L : EReal) : (0 - Ideal.tanh L) * (Ideal.exp L * Ideal.exp L + 1) = -(Ideal.exp (((2 : ℝ) : EReal) * L) - 1) := by
  induction L with
  | bot =>
    rw [EReal.coe_mul_bot_of_pos (by norm_num)]
    show (0 - (-1 : EReal)) * ((0 : EReal) * 0 + 1) = -((0 : EReal) - 1)
    rw [zero_sub', zero_sub', neg_neg, mul_zero, zero_add, mul_one]
  | top =>
    rw [EReal.coe_mul_top_of_pos (by norm_num)]
    show (0 - (1 : EReal)) * ((⊤ : EReal) * ⊤ + 1) = -((⊤ : EReal) - 1)
    rw [EReal.top_mul_top, EReal.top_add_of_ne_bot (by decide), zero_sub', sub_eq_add_neg,
      EReal.top_add_of_ne_bot (by decide), neg_mul, one_mul]
  | coe r =>
    rw [← EReal.coe_mul]
    show (0 - ((Real.tanh r : ℝ) : EReal)) * ((Real.exp r : ℝ) * (Real.exp r : ℝ) + 1) = -(((Real.exp (2 * r) : ℝ) : EReal) - 1)
    rw [zero_sub', ← EReal.coe_one, ← EReal.coe_mul, ← EReal.coe_add, ← EReal.coe_neg, ← EReal.coe_mul, ← EReal.coe_sub,
      ← EReal.coe_neg]
    congr 1
    rw [Real.tanh_eq_sinh_div_cosh, Real.sinh_eq, Real.cosh_eq, Real.exp_neg, two_mul, Real.exp_add]
    have h := Real.exp_pos r
    generalize Real.exp r = y at h
    field_simp

/-- A product over a sum, by a decay. -/
theorem distrib {a : EReal} (h0 : 0 ≤ a) (ht : a ≠ ⊤) (x y : EReal) : a * (x + y) = a * x + a * y :=
  EReal.left_distrib_of_nonneg_of_ne_top h0 ht x y

end Cert.Proof.Math

end
-- ==== Proof.Rows.lean ====
module

public import proofs.«01_k».proof.Proof.Math
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.Pipeline.Value
public import Idealize.ShloMosaic.Lib.KernelVsHost

@[expose] public section

set_option maxRecDepth 16384

noncomputable section

/-! Matrices read at a row and a column: products, row sums, columns and rows spread, halves joined. -/

namespace Cert.Proof.Rows

open Idealize.ShloMosaic Idealize.ShloMosaic.ValueIdx

/-- A matrix product into zero. -/
theorem mm_apply {M K N : ℕ} {φ₁ φ₂ : FTy} (D : DotDims ⟨2, ![M, K]⟩ ⟨2, ![K, N]⟩ ⟨2, ![M, N]⟩) (hD : D = DotDims.plain M K N)
    (lhs : FVec Ideal ⟨2, ![M, K]⟩ φ₁) (rhs : FVec Ideal ⟨2, ![K, N]⟩ φ₂) (r : Fin M) (c : Fin N) :
    matmul D none lhs rhs (constant (F := Ideal) ⟨2, ![M, N]⟩ .f32 0x00000000#32) (ix2 r c)
      = ∑ k : Fin K, lhs (ix2 r k) * rhs (ix2 k c) := by
  subst hD
  refine (Ideal.matmul_plain_apply none lhs rhs _ r c).trans ?_
  rw [constant_apply, Math.lit_zero, zero_add]

/-- The sum of a row. -/
theorem rowSum_apply {a b : ℕ} (X : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction .add [1] ⟨1, ![a]⟩ X 0x00000000#32 h hφ hacc (ix1 r) = ∑ k : Fin b, X (ix2 r k) := by
  refine (Ideal.multiReduction_add_single X _ h hφ hacc (ix1 r)).trans (Finset.sum_congr rfl fun k _ => congrArg X ?_)
  funext ax
  match ax with
  | ⟨0, _⟩ => rfl
  | ⟨1, _⟩ => rfl

/-- A column spread over the columns. -/
theorem spreadCol_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Two matrices side by side. -/
theorem beside_left {α : Type} {a b c d : ℕ} (x : (⟨2, ![a, b]⟩ : Shape).Idx → α) (y : (⟨2, ![a, c]⟩ : Shape).Idx → α)
    (h : Shape.Concatenates [⟨2, ![a, b]⟩, ⟨2, ![a, c]⟩] ⟨2, ![a, d]⟩ 1) (r : Fin a) (k : Fin d) (hk : k.val < b) :
    concatenate ⟨2, ![a, d]⟩ 1 [⟨_, x⟩, ⟨_, y⟩] h (ix2 r k) = x (ix2 r ⟨k.val, hk⟩) :=
  concatenate_pair_apply_left 1 x y h _ rfl _ fun b => by
    match b with
    | ⟨0, _⟩ => rfl
    | ⟨1, _⟩ => rfl

theorem beside_right {α : Type} {a b c d : ℕ} (x : (⟨2, ![a, b]⟩ : Shape).Idx → α) (y : (⟨2, ![a, c]⟩ : Shape).Idx → α)
    (h : Shape.Concatenates [⟨2, ![a, b]⟩, ⟨2, ![a, c]⟩] ⟨2, ![a, d]⟩ 1) (r : Fin a) (k : Fin d) (j : Fin c) (hk : k.val = b + j.val) :
    concatenate ⟨2, ![a, d]⟩ 1 [⟨_, x⟩, ⟨_, y⟩] h (ix2 r k) = y (ix2 r j) :=
  concatenate_pair_apply_right 1 x y h _ rfl rfl _ (fun b hb => by
    match b with
    | ⟨0, _⟩ => rfl
    | ⟨1, _⟩ => exact absurd rfl hb) (by show j.val + b = k.val; omega)

end Cert.Proof.Rows

end
-- ==== Proof.Rec.lean ====
module

public import proofs.«01_k».proof.Proof.Block
public import proofs.«01_k».proof.Proof.Rows

@[expose] public section

set_option maxRecDepth 16384

noncomputable section

/-! The recurrence read at a row and a column: the segments' states, joined, are the states of one recurrence over
    the block's rows. -/

namespace Cert.Proof.Block

open Cert.KernelIdeal Cert.KernelIdeal.Gen Idealize.ShloMosaic Idealize.ShloMosaic.TcCoe Idealize.ShloMosaic.ValueIdx

/-- Pieces that all hold a function's values leave that function where one of them lies. -/
theorem canon_at {S : Shape} {e : EltTy} (L : List (View.Piece (Elt Ideal) S e)) (G : S.Idx → Elt Ideal e)
    (hL : ∀ p ∈ L, ∀ x, p.2 x = G (p.1.emb x)) (y : S.Idx) (p : View.Piece (Elt Ideal) S e) (hp : p ∈ L)
    (x : p.1.shape.Idx) (hx : p.1.emb x = y) : View.canon L y = G y :=
  View.canon_apply_of_pieces G L hL y ⟨p, hp, by rw [← hx]; exact p.1.toLoadRect.idx_mem x⟩

/-- A matrix at numbers, zero outside. -/
def at2 (X : FVec Ideal S512x512 .f32) (n c : ℕ) : EReal :=
  if h : n < 512 ∧ c < 512 then X (ix2 ⟨n, h.1⟩ ⟨c, h.2⟩) else 0

theorem at2_ix (X : FVec Ideal S512x512 .f32) (r c : Fin 512) : at2 X r.val c.val = X (ix2 r c) := dif_pos ⟨r.isLt, c.isLt⟩

theorem seg_apply (X : FVec Ideal S512x512 .f32) (q j : ℕ) (r : Fin 64) (l : Fin 128) :
    extractStridedSlice S64x128 ![64 * (j % 8), 128 * (q % 4)] X (slices_seg q j) (ix2 r l)
      = at2 X (64 * (j % 8) + r.val) (128 * (q % 4) + l.val) := by
  have hr : 64 * (j % 8) + r.val < 512 := by have := r.isLt; omega
  have hl : 128 * (q % 4) + l.val < 512 := by have := l.isLt; omega
  rw [at2, dif_pos ⟨hr, hl⟩]
  refine extractStridedSlice_apply _ _ _ _ _ fun a => ?_
  match a with
  | ⟨0, _⟩ => rfl
  | ⟨1, _⟩ => rfl

/-- Row `m` of segment `j`. -/
theorem rowOf_apply (v : View sig .tc .vmem S4x576x128 .f32) (X : FVec Ideal S512x512 .f32) (q m : ℕ) (hq : q < 4)
    (hm : m < 64) (j : Fin 8) (l : Fin 128) : rowOf v X q m (ix2 j l) = at2 X (64 * j.val + m) (128 * q + l.val) := by
  have hj := j.isLt
  refine (shapeCast_1ab_ab_apply _ _ j l).trans ?_
  rw [View.readCov_eq_canon']
  have e := canon_at (segs X)
    (fun y => at2 X (64 * ((y 1).val / 72) + (y 1).val % 72) (128 * (y 0).val + (y 2).val)) ?_
    ((⟨![q % 4, m % 64, 0], S1x8x128.size, ![1, 72, 1], inb_row q m⟩ : LoadRect S4x576x128).idx (ix3 0 j l)) _
    (List.mem_ofFn.2 ⟨(⟨31 - (8 * q + j.val), by omega⟩ : Fin 32), rfl⟩) (ix3 (0 : Fin 1) (⟨m, hm⟩ : Fin 64) l) ?_
  · refine e.trans ?_
    show at2 X (64 * ((m % 64 + 72 * j.val) / 72) + (m % 64 + 72 * j.val) % 72) (128 * (q % 4 + 1 * 0) + (0 + 1 * l.val)) = _
    congr 1 <;> omega
  · intro p hp x
    obtain ⟨k, rfl⟩ := List.mem_ofFn.1 hp
    obtain ⟨u, r, c, rfl⟩ : ∃ (u : Fin 1) (r : Fin 64) (c : Fin 128), x = ix3 u r c := ⟨x 0, x 1, x 2, eq_ix3 x⟩
    refine (shapeCast_ab_1ab_apply _ _ u r c).trans ((seg_apply X _ _ r c).trans ?_)
    show _ = at2 X (64 * ((72 * ((31 - k.val) % 8) + 1 * r.val) / 72) + (72 * ((31 - k.val) % 8) + 1 * r.val) % 72)
      (128 * (((31 - k.val) / 8) % 4 + 1 * u.val) + (0 + 1 * c.val))
    have := r.isLt
    have := u.isLt
    congr 1 <;> omega
  · funext a
    refine Fin.ext ?_
    match a with
    | ⟨0, _⟩ => show (31 - (31 - (8 * q + j.val))) / 8 % 4 + 1 * 0 = q % 4 + 1 * 0; omega
    | ⟨1, _⟩ => show 72 * ((31 - (31 - (8 * q + j.val))) % 8) + 1 * m = m % 64 + 72 * j.val; omega
    | ⟨2, _⟩ => rfl

/-- The recurrence of column `c` over the block's rows. -/
def st (A B : FVec Ideal S512x512 .f32) (h : ℕ → EReal) (c : ℕ) : ℕ → EReal
  | 0 => h c
  | n + 1 => at2 A n c * st A B h c n + at2 B n c

section Recurrence

variable (va vb vh : View sig .tc .vmem S4x576x128 .f32) (A B : FVec Ideal S512x512 .f32) (hl : ℕ → Vec Ideal S1x128 .f32)
  (h : ℕ → EReal) (hA : ∀ i, 0 ≤ A i ∧ A i ≠ (⊤ : EReal))

include hA in
theorem at2_ok (n c : ℕ) : 0 ≤ at2 A n c ∧ at2 A n c ≠ ⊤ := by
  unfold at2
  split
  · exact hA _
  · exact ⟨le_refl _, EReal.zero_ne_top⟩

include hA in
theorem prod_loc (q : ℕ) (hq : q < 4) (j : Fin 8) (l : Fin 128) : ∀ m, m ≤ 64 →
    (prod va A q m (ix2 j l) : EReal) * st A B h (128 * q + l.val) (64 * j.val) + loc va vb A B q m (ix2 j l)
      = st A B h (128 * q + l.val) (64 * j.val + m)
  | 0, _ => by
    show (Ideal.ofBits .f32 0x3F800000#32 : EReal) * _ + Ideal.ofBits .f32 0x00000000#32 = _
    rw [Math.lit_one, Math.lit_zero, one_mul, add_zero]
    rfl
  | m + 1, hm => by
    have e := prod_loc q hq j l m (by omega)
    show (rowOf va A q m (ix2 j l) : EReal) * prod va A q m (ix2 j l) * _
      + ((rowOf va A q m (ix2 j l) : EReal) * loc va vb A B q m (ix2 j l) + rowOf vb B q m (ix2 j l)) = _
    rw [rowOf_apply va A q m hq (by omega), rowOf_apply vb B q m hq (by omega), mul_assoc, ← add_assoc,
      ← Math.distrib (at2_ok A hA _ _).1 (at2_ok A hA _ _).2, e]
    rfl

include hA in
theorem car_apply (q : ℕ) (hq : q < 4) (h0 : Vec Ideal S1x128 .f32) (l : Fin 128) (hh0 : h0 (ix2 0 l) = h (128 * q + l.val)) :
    ∀ j, j ≤ 8 → car va vb A B q h0 j (ix2 0 l) = st A B h (128 * q + l.val) (64 * j)
  | 0, _ => hh0
  | j + 1, hj => by
    have e := car_apply q hq h0 l hh0 j (by omega)
    have hs : ∀ X : FVec Ideal S8x128 .f32, extractStridedSlice S1x128 ![j % 8, 0] X (slices_car j) (ix2 (0 : Fin 1) l)
        = X (ix2 (⟨j, by omega⟩ : Fin 8) l) := fun X => by
      refine extractStridedSlice_apply _ _ _ _ _ fun a => ?_
      match a with
      | ⟨0, _⟩ => show j = j % 8 + 0; omega
      | ⟨1, _⟩ => show l.val = 0 + l.val; omega
    show (extractStridedSlice S1x128 ![j % 8, 0] (prod va A q 64) (slices_car j) (ix2 (0 : Fin 1) l) : EReal)
      * car va vb A B q h0 j (ix2 0 l) + extractStridedSlice S1x128 ![j % 8, 0] (loc va vb A B q 64) (slices_car j) (ix2 (0 : Fin 1) l) = _
    rw [hs, hs, e]
    exact prod_loc va vb A B h hA q hq ⟨j, by omega⟩ l 64 (le_refl _)

variable (hhl : ∀ q, q < 4 → ∀ l : Fin 128, hl q (ix2 0 l) = h (128 * q + l.val))

theorem pick (n : ℕ) (hn : n < 8) (j : Fin 8) (l : Fin 128) :
    cmpi .eq (iota .tc S8x128 32 [0] iota_S8x128_d0_w32) (broadcast S8x128 (BitVec.ofNat 32 n)) (ix2 j l)
      = if j.val = n then 1 else 0 := by
  have all : ∀ a b : Fin 8, IntOp.cmpi .eq (BitVec.ofNat 32 a.val) (BitVec.ofNat 32 b.val) = if a.val = b.val then 1 else 0 := by
    decide
  show IntOp.cmpi .eq (iota .tc S8x128 32 [0] iota_S8x128_d0_w32 (ix2 j l)) (BitVec.ofNat 32 n) = _
  rw [iota_single_apply]
  exact all j ⟨n, hn⟩

include hA hhl in
theorem starts_apply (q : ℕ) (hq : q < 4) (j : Fin 8) (l : Fin 128) : ∀ n, n ≤ 8 → j.val < n →
    starts va vb A B hl q n (ix2 j l) = st A B h (128 * q + l.val) (64 * j.val)
  | 0, _, hj => absurd hj (by omega)
  | n + 1, hn, hj => by
    show Scalar.select (cmpi .eq (iota .tc S8x128 32 [0] iota_S8x128_d0_w32) (broadcast S8x128 (BitVec.ofNat 32 n)) (ix2 j l))
      (broadcastTo S8x128 (shapeCast S1x128 (car va vb A B q (hl q) n) shapeCasts_S1x128_S1x128) broadcasts_S1x128_S8x128 (ix2 j l))
      (starts va vb A B hl q n (ix2 j l)) = _
    rw [pick n (by omega) j l]
    by_cases e : j.val = n
    · rw [if_pos e, broadcastTo_1b_ab_apply, shapeCast_self, car_apply va vb A B h hA q hq (hl q) l (hhl q hq l) n (by omega), e]
      rfl
    · rw [if_neg e, ← starts_apply q hq j l n (by omega) (by omega)]
      rfl

include hA hhl in
theorem hh_apply (q : ℕ) (hq : q < 4) (j : Fin 8) (l : Fin 128) : ∀ m, m ≤ 64 →
    hh va vb A B hl q m (ix2 j l) = st A B h (128 * q + l.val) (64 * j.val + m)
  | 0, _ => starts_apply va vb A B hl h hA hhl q hq j l 8 (le_refl _) j.isLt
  | m + 1, hm => by
    have e := hh_apply q hq j l m (by omega)
    show (rowOf va A q m (ix2 j l) : EReal) * hh va vb A B hl q m (ix2 j l) + rowOf vb B q m (ix2 j l) = _
    rw [rowOf_apply va A q m hq (by omega), rowOf_apply vb B q m hq (by omega), e]
    rfl

include hA hhl in
theorem hseg_apply (q j : ℕ) (hq : q < 4) (hj : j < 8) (u : Fin 1) (r : Fin 64) (l : Fin 128) :
    hseg va vb vh A B hl q j (ix3 u r l) = st A B h (128 * q + l.val) (64 * j + r.val + 1) := by
  have hr := r.isLt
  have hu := u.isLt
  unfold hseg
  rw [View.readCov_eq_canon']
  have e := canon_at (hs va vb A B hl)
    (fun y => st A B h (128 * (y 0).val + (y 2).val) (64 * ((y 1).val / 72) + (y 1).val % 72 + 1)) ?_
    ((Rect.unit (s := S4x576x128) ![q % 4, 72 * (j % 8), 0] S1x64x128.size (inb_seg q j)).toLoadRect.idx (ix3 u r l)) _
    (List.mem_ofFn.2 ⟨(⟨255 - (4 * r.val + q), by omega⟩ : Fin 256), rfl⟩) (ix3 (0 : Fin 1) (⟨j, hj⟩ : Fin 8) l) ?_
  · refine e.trans ?_
    show st A B h (128 * (q % 4 + 1 * u.val) + (0 + 1 * l.val))
      (64 * ((72 * (j % 8) + 1 * r.val) / 72) + (72 * (j % 8) + 1 * r.val) % 72 + 1) = _
    congr 1 <;> omega
  · intro p hp x
    obtain ⟨k, rfl⟩ := List.mem_ofFn.1 hp
    obtain ⟨w, i, c, rfl⟩ : ∃ (w : Fin 1) (i : Fin 8) (c : Fin 128), x = ix3 w i c := ⟨x 0, x 1, x 2, eq_ix3 x⟩
    have hw := w.isLt
    have hk := k.isLt
    refine (shapeCast_ab_1ab_apply _ _ w i c).trans ((hh_apply va vb A B hl h hA hhl _ (Nat.mod_lt _ (by omega)) i c _ (by omega)).trans ?_)
    show _ = st A B h (128 * ((255 - k.val) % 4 + 1 * w.val) + (0 + 1 * c.val))
      (64 * ((((255 - k.val) / 4) % 64 + 72 * i.val) / 72) + (((255 - k.val) / 4) % 64 + 72 * i.val) % 72 + 1)
    congr 1 <;> omega
  · funext a
    refine Fin.ext ?_
    match a with
    | ⟨0, _⟩ => show (255 - (255 - (4 * r.val + q))) % 4 + 1 * 0 = q % 4 + 1 * u.val; omega
    | ⟨1, _⟩ => show (255 - (255 - (4 * r.val + q))) / 4 % 64 + 72 * j = 72 * (j % 8) + 1 * r.val; omega
    | ⟨2, _⟩ => rfl

include hA hhl in
/-- The joined column group is the recurrence's states. -/
theorem hcol_apply (q : ℕ) (hq : q < 4) (r : Fin 512) (l : Fin 128) :
    hcol va vb vh A B hl q (ix2 r l) = st A B h (128 * q + l.val) (r.val + 1) := by
  have hr := r.isLt
  refine (concatenate_ofFn_apply (t := S512x128) (s₁ := S64x128) (0 : Fin 2) (fun n : Fin 8 => (hsegC va vb vh A B hl q n.val : S64x128.Idx → EReal)) _ rfl 64 rfl
    (ix2 r l : S512x128.Idx) ⟨r.val / 64, by omega⟩ rfl (ix2 (⟨r.val % 64, by omega⟩ : Fin 64) l) rfl fun a ha => ?_).trans ?_
  · match a with
    | ⟨0, _⟩ => exact absurd rfl ha
    | ⟨1, _⟩ => rfl
  · refine (shapeCast_1ab_ab_apply _ _ _ _).trans ((hseg_apply va vb vh A B hl h hA hhl q _ hq (by omega) _ _ _).trans ?_)
    congr 1
    show 64 * (r.val / 64) + r.val % 64 + 1 = _
    omega

include hA hhl in
/-- The state left for the next block. -/
theorem cars_apply (base : List (View.Piece (Elt Ideal) S1x512 .f32)) : ∀ n, n ≤ 4 → ∀ y : S1x512.Idx, (y 1).val < 128 * n →
    View.canon (cars va vb A B hl base n) y = st A B h (y 1).val 512
  | 0, _, y, hy => absurd hy (by omega)
  | n + 1, hn, y, hy => by
    obtain ⟨u, c, rfl⟩ : ∃ (u : Fin 1) (c : Fin 512), y = ix2 u c := ⟨y 0, y 1, eq_ix2 y⟩
    have hu := u.isLt
    have hy' : c.val < 128 * (n + 1) := hy
    by_cases e : 128 * n ≤ c.val
    · have hx : (Rect.unit (s := S1x512) ![0, 128 * (n % 4)] S1x128.size (inb_car n)).emb (ix2 (0 : Fin 1) (⟨c.val - 128 * n, by omega⟩ : Fin 128))
          = ix2 u c := by
        funext a
        refine Fin.ext ?_
        match a with
        | ⟨0, _⟩ => show 0 + 1 * 0 = u.val; omega
        | ⟨1, _⟩ => show 128 * (n % 4) + 1 * (c.val - 128 * n) = c.val; omega
      rw [cars, ← hx, View.canon_cons_emb, hx, shapeCast_self]
      refine (car_apply va vb A B h hA n (by omega) (hl n) _ (hhl n (by omega) _) 8 (le_refl _)).trans ?_
      congr 1
      show 128 * n + (c.val - 128 * n) = c.val
      omega
    · rw [cars, View.canon_cons_of_not_mem]
      · exact cars_apply base n (by omega) _ (by show c.val < 128 * n; omega)
      · intro hm
        obtain ⟨k, hk, hk'⟩ := (LoadRect.mem_set _).1 hm 1
        have e' : c.val = 128 * (n % 4) + 1 * k := hk'
        omega

/-- The first block's starting states are the stored zeros. -/
theorem cars0_apply (vc : View sig .tc .vmem S1x512 .f32) : ∀ n, n ≤ 4 → ∀ y : S1x512.Idx, 128 * n ≤ (y 1).val →
    View.canon (cars0 va vb A B vc n) y = (0 : EReal)
  | 0, _, y, _ => by
    have hx : (Rect.unit (s := S1x512) ![0, 0] S1x512.size inb_S1x512_S1x512_0_0).emb y = y := by
      funext a
      refine Fin.ext ?_
      match a with
      | ⟨0, _⟩ => show 0 + 1 * (y 0).val = (y 0).val; omega
      | ⟨1, _⟩ => show 0 + 1 * (y 1).val = (y 1).val; omega
    rw [cars0]
    conv => lhs; rw [← hx]
    rw [View.canon_cons_emb]
    exact Math.lit_zero
  | n + 1, hn, y, hy => by
    rw [cars0, View.canon_cons_of_not_mem]
    · exact cars0_apply vc n (by omega) y (by omega)
    · intro hm
      obtain ⟨k, hk, hk'⟩ := (LoadRect.mem_set _).1 hm 1
      have e' : (y 1).val = 128 * (n % 4) + 1 * k := hk'
      have hk2 : k < 128 := hk
      omega

theorem hl0_apply (vc : View sig .tc .vmem S1x512 .f32) (q : ℕ) (hq : q < 4) (l : Fin 128) :
    hl0 va vb A B vc q (ix2 0 l) = (0 : EReal) := by
  unfold hl0
  rw [View.readCov_eq_canon']
  exact cars0_apply va vb A B vc q (by omega) _ (by show 128 * q ≤ 128 * (q % 4) + 1 * l.val; omega)

theorem cars0_eq (vc : View sig .tc .vmem S1x512 .f32) : ∀ n, cars0 va vb A B vc n
    = cars va vb A B (hl0 va vb A B vc) [⟨Rect.unit (s := S1x512) ![0, 0] S1x512.size inb_S1x512_S1x512_0_0, (k0_pay5 : FVec Ideal S1x512 .f32)⟩] n
  | 0 => rfl
  | n + 1 => by
    rw [cars, ← cars0_eq vc n]
    rfl

end Recurrence

end Cert.Proof.Block
-- ==== Proof.Spec.lean ====
module

public import proofs.«01_k».proof.Proof.Math

@[expose] public section

noncomputable section

/-! The layer row by row: what each row of one sequence comes to, as functions of the row's number and a column. -/

namespace Cert.Proof.Spec

open Idealize.ShloMosaic Cert.Proof.Math

/-- One sequence and the layer's weights, at numbers. -/
structure Par where
  x : ℕ → ℕ → EReal
  n1 : ℕ → EReal
  win : ℕ → ℕ → EReal
  pw : ℕ → ℕ → ℕ → EReal
  ps : ℕ → EReal
  np : ℕ → EReal
  cw : ℕ → ℕ → EReal
  cb : ℕ → EReal
  wh : ℕ → ℕ → ℕ → ℕ → EReal
  bh : ℕ → ℕ → EReal
  lam : ℕ → EReal
  nl : ℕ → EReal
  wo : ℕ → ℕ → EReal
  n2 : ℕ → EReal
  w1 : ℕ → ℕ → EReal
  w2 : ℕ → ℕ → EReal
  w3 : ℕ → ℕ → EReal
  nf : ℕ → EReal

def eps : EReal := Ideal.ofBits .f32 0x358637BD#32
def c512 : EReal := Ideal.ofBits .f32 0x44000000#32
def c1024 : EReal := Ideal.ofBits .f32 0x44800000#32
def ga : EReal := Ideal.ofBits .f32 0x3D372713#32
def gb : EReal := Ideal.ofBits .f32 0x3F4C422A#32

def dot (K : ℕ) (v : ℕ → EReal) (w : ℕ → ℕ → EReal) (c : ℕ) : EReal := ∑ k : Fin K, v k.val * w k.val c

def rms (K : ℕ) (d : EReal) (v g : ℕ → EReal) (c : ℕ) : EReal :=
  v c * Ideal.rsqrt (Ideal.div (∑ k : Fin K, v k.val * v k.val) d + eps) * g c

/-- The row `k` before, zero before the first. -/
def lag (u : ℕ → EReal) (k n : ℕ) : EReal := if k ≤ n then u (n - k) else 0

variable (P : Par)

/-- The three branches' inputs, side by side. -/
def U (n c : ℕ) : EReal := dot 1024 (rms 1024 c1024 (P.x n) P.n1) P.win c

/-- The mean over the last `2 ^ (c / 128 + 1)` rows, less the row. -/
def D (n c : ℕ) : EReal :=
  Ideal.div (∑ k ∈ Finset.range (2 ^ (c / 128 + 1)), lag (fun m => U P m c) k n)
    (min (((n + 1 : ℕ) : ℝ) : EReal) (((2 ^ (c / 128 + 1) : ℕ) : ℝ) : EReal)) - U P n c

def YP (n c : ℕ) : EReal := (∑ k : Fin 128, D P n (128 * (c / 128) + k.val) * P.pw (c / 128) k.val (c % 128)) * P.ps c

/-- The short convolution. -/
def XC (n c : ℕ) : EReal :=
  lag (fun m => U P m (512 + c)) 3 n * P.cw 0 c + lag (fun m => U P m (512 + c)) 2 n * P.cw 1 c
    + lag (fun m => U P m (512 + c)) 1 n * P.cw 2 c + U P n (512 + c) * P.cw 3 c + P.cb c

/-- The two gates of the recurrence: `o` is 0 for the decay's, 1 for the input's. -/
def gate (o n c : ℕ) : EReal :=
  sigm ((∑ k : Fin 64, XC P n (64 * (c / 64) + k.val) * P.wh o (c / 64) k.val (c % 64)) + P.bh o c)

def LA (n c : ℕ) : EReal := ((-8 : ℝ) : EReal) * gate P 0 n c * softplus (P.lam c)
def A (n c : ℕ) : EReal := Ideal.exp (LA P n c)
def B (n c : ℕ) : EReal :=
  Ideal.sqrt (max (-(Ideal.exp (((2 : ℝ) : EReal) * LA P n c) - 1)) 0) * (gate P 1 n c * XC P n c)

/-- The recurrence's state before row `n`. -/
def H (c : ℕ) : ℕ → EReal
  | 0 => 0
  | n + 1 => A P n c * H c n + B P n c

def gelu (u : EReal) : EReal := u * (((1 / 2 : ℝ) : EReal) * (1 + Ideal.tanh (gb * (u + ga * (u * u * u)))))

def YL (n c : ℕ) : EReal := H P c (n + 1) * gelu (U P n (1024 + c))

def MX (n c : ℕ) : EReal := if c < 512 then rms 512 c512 (YP P n) P.np c else rms 512 c512 (YL P n) P.nl (c - 512)

def H1 (n c : ℕ) : EReal := P.x n c + dot 1024 (MX P n) P.wo c

def N2 (n c : ℕ) : EReal := rms 1024 c1024 (H1 P n) P.n2 c

def FF (n c : ℕ) : EReal := dot 1024 (N2 P n) P.w1 c * sigm (dot 1024 (N2 P n) P.w1 c) * dot 1024 (N2 P n) P.w2 c

def H2 (n c : ℕ) : EReal := H1 P n c + dot 2816 (FF P n) P.w3 c

def OUT (n c : ℕ) : EReal := rms 1024 c1024 (H2 P n) P.nf c

theorem A_ok (n c : ℕ) : 0 ≤ A P n c ∧ A P n c ≠ ⊤ := ⟨exp_nonneg _, exp_ne_top (logA_nonpos _ _)⟩

/-- A product with a block of a block-diagonal matrix is a product with the block. -/
theorem sum_block (a b n : ℕ) (hn : n = a * b) (hb : 0 < b) (f g : ℕ → EReal) (q : ℕ) (hq : q < a) :
    (∑ k : Fin n, f k.val * (if k.val / b = q then g (k.val % b) else 0)) = ∑ k : Fin b, f (b * q + k.val) * g k.val := by
  subst hn
  rw [← finProdFinEquiv.sum_comp, Fintype.sum_prod_type]
  rw [Finset.sum_eq_single (⟨q, hq⟩ : Fin a)]
  · refine Finset.sum_congr rfl fun k _ => ?_
    have hk := k.isLt
    show f (k.val + b * q) * (if (k.val + b * q) / b = q then g ((k.val + b * q) % b) else 0) = _
    rw [if_pos (by rw [Nat.add_mul_div_left _ _ hb, Nat.div_eq_of_lt hk, zero_add]), Nat.add_mul_mod_self_left, Nat.mod_eq_of_lt hk,
      Nat.add_comm]
  · intro i _ hi
    refine Finset.sum_eq_zero fun k _ => ?_
    have hk := k.isLt
    show f (k.val + b * i.val) * (if (k.val + b * i.val) / b = q then g ((k.val + b * i.val) % b) else 0) = _
    rw [if_neg (by
      rw [Nat.add_mul_div_left _ _ hb, Nat.div_eq_of_lt hk, zero_add]
      exact fun e => hi (Fin.ext e)), mul_zero]
  · intro h
    exact absurd (Finset.mem_univ _) h

/-- A long sum in four parts. -/
theorem sum_chunks (f : ℕ → EReal) : (∑ k : Fin 2816, f k.val)
    = (∑ k : Fin 768, f k.val) + (∑ k : Fin 768, f (768 + k.val)) + (∑ k : Fin 768, f (1536 + k.val))
      + ∑ k : Fin 512, f (2304 + k.val) := by
  have h := fun n m => Fin.sum_univ_add (a := n) (b := m) (fun k : Fin (n + m) => f k.val)
  have h1 := h 2304 512
  have h2 := h 1536 768
  have h3 := h 768 768
  simp only [Fin.val_castAdd, Fin.val_natAdd] at h1 h2 h3
  calc (∑ k : Fin 2816, f k.val) = _ := h1
    _ = _ := by rw [show (∑ k : Fin 2304, f k.val) = _ from h2, show (∑ k : Fin 1536, f k.val) = _ from h3]

end Cert.Proof.Spec
-- ==== Proof.Pre.lean ====
module

public import proofs.«01_k».proof.Proof.Rec
public import proofs.«01_k».proof.Proof.Spec

@[expose] public section

set_option maxRecDepth 16384

noncomputable section

/-! The body before its recurrence, read at a row and a column. -/

namespace Cert.Proof.Block

open Cert.KernelIdeal Cert.KernelIdeal.Gen Idealize.ShloMosaic Idealize.ShloMosaic.TcCoe Idealize.ShloMosaic.ValueIdx Cert.Proof

/-- What is read of the inputs is the weights and rows `512 * s …` of one sequence. -/
structure Holds (I : Ins Ideal) (P : Spec.Par) (s : ℕ) : Prop where
  x : ∀ (u : Fin 1) (r : Fin 512) (k : Fin 1024), I.x (ix3 u r k) = P.x (512 * s + r.val) k.val
  n1 : ∀ (u : Fin 1) (k : Fin 1024), I.n1 (ix2 u k) = P.n1 k.val
  wp : ∀ (k : Fin 1024) (c : Fin 512), I.wp (ix2 k c) = P.win k.val c.val
  wl : ∀ (k : Fin 1024) (c : Fin 512), I.wl (ix2 k c) = P.win k.val (512 + c.val)
  wg : ∀ (k : Fin 1024) (c : Fin 512), I.wg (ix2 k c) = P.win k.val (1024 + c.val)
  pw0 : ∀ (u : Fin 1) (k c : Fin 256), I.pw0 (ix3 u k c)
    = if k.val / 128 = c.val / 128 then P.pw (c.val / 128) (k.val % 128) (c.val % 128) else (0 : EReal)
  pw1 : ∀ (u : Fin 1) (k c : Fin 256), I.pw1 (ix3 u k c)
    = if k.val / 128 = c.val / 128 then P.pw (2 + c.val / 128) (k.val % 128) (c.val % 128) else (0 : EReal)
  ps : ∀ (u : Fin 1) (c : Fin 512), I.ps (ix2 u c) = P.ps c.val
  np : ∀ (u : Fin 1) (c : Fin 512), I.np (ix2 u c) = P.np c.val
  cb : ∀ (u : Fin 1) (c : Fin 512), I.cb (ix2 u c) = P.cb c.val
  c3 : ∀ (u : Fin 1) (c : Fin 512), I.c3 (ix2 u c) = P.cw 3 c.val
  c0 : ∀ (u : Fin 1) (c : Fin 512), I.c0 (ix2 u c) = P.cw 0 c.val
  c1 : ∀ (u : Fin 1) (c : Fin 512), I.c1 (ix2 u c) = P.cw 1 c.val
  c2 : ∀ (u : Fin 1) (c : Fin 512), I.c2 (ix2 u c) = P.cw 2 c.val
  g0 : ∀ (u : Fin 1) (k : Fin 256) (c : Fin 512), I.g0 (ix3 u k c)
    = if k.val / 64 = (c.val % 256) / 64 then P.wh (c.val / 256) ((c.val % 256) / 64) (k.val % 64) (c.val % 64) else (0 : EReal)
  g1 : ∀ (u : Fin 1) (k : Fin 256) (c : Fin 512), I.g1 (ix3 u k c)
    = if k.val / 64 = (c.val % 256) / 64 then P.wh (c.val / 256) (4 + (c.val % 256) / 64) (k.val % 64) (c.val % 64) else (0 : EReal)
  ba : ∀ (u : Fin 1) (c : Fin 512), I.ba (ix2 u c) = P.bh 0 c.val
  bi : ∀ (u : Fin 1) (c : Fin 512), I.bi (ix2 u c) = P.bh 1 c.val
  lam : ∀ (u : Fin 1) (c : Fin 512), I.lam (ix2 u c) = P.lam c.val
  nl : ∀ (u : Fin 1) (c : Fin 512), I.nl (ix2 u c) = P.nl c.val
  wo : ∀ k c : Fin 1024, I.wo (ix2 k c) = P.wo k.val c.val
  n2 : ∀ (u : Fin 1) (k : Fin 1024), I.n2 (ix2 u k) = P.n2 k.val
  a0 : ∀ (k : Fin 1024) (c : Fin 768), I.a0 (ix2 k c) = P.w1 k.val c.val
  a1 : ∀ (k : Fin 1024) (c : Fin 768), I.a1 (ix2 k c) = P.w1 k.val (768 + c.val)
  a2 : ∀ (k : Fin 1024) (c : Fin 768), I.a2 (ix2 k c) = P.w1 k.val (1536 + c.val)
  a3 : ∀ (k : Fin 1024) (c : Fin 512), I.a3 (ix2 k c) = P.w1 k.val (2304 + c.val)
  b0 : ∀ (k : Fin 1024) (c : Fin 768), I.b0 (ix2 k c) = P.w2 k.val c.val
  b1 : ∀ (k : Fin 1024) (c : Fin 768), I.b1 (ix2 k c) = P.w2 k.val (768 + c.val)
  b2 : ∀ (k : Fin 1024) (c : Fin 768), I.b2 (ix2 k c) = P.w2 k.val (1536 + c.val)
  b3 : ∀ (k : Fin 1024) (c : Fin 512), I.b3 (ix2 k c) = P.w2 k.val (2304 + c.val)
  d0 : ∀ (k : Fin 768) (c : Fin 1024), I.d0 (ix2 k c) = P.w3 k.val c.val
  d1 : ∀ (k : Fin 768) (c : Fin 1024), I.d1 (ix2 k c) = P.w3 (768 + k.val) c.val
  d2 : ∀ (k : Fin 768) (c : Fin 1024), I.d2 (ix2 k c) = P.w3 (1536 + k.val) c.val
  d3 : ∀ (k : Fin 512) (c : Fin 1024), I.d3 (ix2 k c) = P.w3 (2304 + k.val) c.val
  nf : ∀ (u : Fin 1) (k : Fin 1024), I.nf (ix2 u k) = P.nf k.val

/-- A row's sum of squares, as a column. -/
theorem sumsq_apply {a b : ℕ} (X : FVec Ideal ⟨2, ![a, b]⟩ .f32) (h : (⟨2, ![a, b]⟩ : Shape).Reduces ([1] : List (Fin 2)) ⟨1, ![a]⟩)
    (hφ : FKind.Formats .f32) (hacc : (0x00000000#32 : BitVec 32) = FKind.add.neutral .f32 hφ)
    (hc : (⟨1, ![a]⟩ : Shape).ShapeCasts ⟨2, ![a, 1]⟩) (r : Fin a) (u : Fin 1) :
    shapeCast ⟨2, ![a, 1]⟩ (multiReduction .add [1] ⟨1, ![a]⟩ (mulf X X) 0x00000000#32 h hφ hacc) hc (ix2 r u)
      = ∑ k : Fin b, (X (ix2 r k) : EReal) * X (ix2 r k) :=
  (shapeCast_a_a1_apply _ _ _ _).trans (Rows.rowSum_apply (mulf X X) h hφ hacc r)

/-- A row scaled by a column and by a row of gains. -/
theorem scaled_apply {a b : ℕ} (X : FVec Ideal ⟨2, ![a, b]⟩ .f32) (v : FVec Ideal ⟨2, ![a, 1]⟩ .f32) (g : FVec Ideal ⟨2, ![1, b]⟩ .f32)
    (h1 : (⟨2, ![a, 1]⟩ : Shape).Broadcasts ⟨2, ![a, b]⟩) (h2 : (⟨2, ![1, b]⟩ : Shape).Broadcasts ⟨2, ![a, b]⟩) (r : Fin a) (c : Fin b) :
    mulf (mulf X (broadcastTo ⟨2, ![a, b]⟩ v h1)) (broadcastTo ⟨2, ![a, b]⟩ g h2) (ix2 r c)
      = (X (ix2 r c) : EReal) * v (ix2 r 0) * g (ix2 0 c) := by
  show (X (ix2 r c) : EReal) * broadcastTo ⟨2, ![a, b]⟩ v h1 (ix2 r c) * broadcastTo ⟨2, ![a, b]⟩ g h2 (ix2 r c) = _
  rw [Rows.spreadCol_apply, broadcastTo_1b_ab_apply]

/-- A normalised row, from the row, its sum of squares and its gains. -/
theorem rms_of {a b : ℕ} (X : FVec Ideal ⟨2, ![a, b]⟩ .f32) (v : FVec Ideal ⟨2, ![a, 1]⟩ .f32) (g : FVec Ideal ⟨2, ![1, b]⟩ .f32)
    (h1 : (⟨2, ![a, 1]⟩ : Shape).Broadcasts ⟨2, ![a, b]⟩) (h2 : (⟨2, ![1, b]⟩ : Shape).Broadcasts ⟨2, ![a, b]⟩) (r : Fin a) (c : Fin b)
    (d : EReal) (f γ : ℕ → EReal) (hX : ∀ k : Fin b, X (ix2 r k) = f k.val) (hg : ∀ k : Fin b, g (ix2 0 k) = γ k.val)
    (hv : v (ix2 r 0) = Ideal.rsqrt (Ideal.div (∑ k : Fin b, (X (ix2 r k) : EReal) * X (ix2 r k)) d + Spec.eps)) :
    mulf (mulf X (broadcastTo ⟨2, ![a, b]⟩ v h1)) (broadcastTo ⟨2, ![a, b]⟩ g h2) (ix2 r c) = Spec.rms b d f γ c.val := by
  refine (scaled_apply X v g h1 h2 r c).trans ?_
  rw [hv, hX c, hg c]
  simp only [hX]
  rfl

/-- A product of matrices at a row and a column. -/
theorem dot_of {M K N : ℕ} {φ₁ φ₂ : FTy} (D : DotDims ⟨2, ![M, K]⟩ ⟨2, ![K, N]⟩ ⟨2, ![M, N]⟩) (hD : D = DotDims.plain M K N)
    (lhs : FVec Ideal ⟨2, ![M, K]⟩ φ₁) (rhs : FVec Ideal ⟨2, ![K, N]⟩ φ₂) (r : Fin M) (c : Fin N) (f : ℕ → EReal) (w : ℕ → ℕ → EReal)
    (c' : ℕ) (hl : ∀ k, lhs (ix2 r k) = f k.val) (hr : ∀ k, rhs (ix2 k c) = w k.val c') :
    matmul D none lhs rhs (constant (F := Ideal) ⟨2, ![M, N]⟩ .f32 0x00000000#32) (ix2 r c) = Spec.dot K f w c' :=
  (Rows.mm_apply D hD lhs rhs r c).trans (Finset.sum_congr rfl fun k _ => congrArg₂ (fun a b : EReal => a * b) (hl k) (hr k))

variable {I : Ins Ideal} {P : Spec.Par} {s : ℕ} (HI : Holds I P s)

include HI

theorem x_apply (r : Fin 512) (k : Fin 1024) : k0_pay6 I.x (ix2 r k) = P.x (512 * s + r.val) k.val :=
  (shapeCast_1ab_ab_apply _ _ r k).trans (HI.x 0 r k)

theorem xn_apply (r : Fin 512) (k : Fin 1024) :
    k0_pay7 I.x I.n1 (ix2 r k) = Spec.rms 1024 Spec.c1024 (P.x (512 * s + r.val)) P.n1 k.val := by
  refine rms_of (k0_pay6 I.x) _ _ _ _ r k Spec.c1024 _ _ (x_apply HI r) (HI.n1 0) ?_
  exact congrArg (fun t => Ideal.rsqrt (Ideal.div t Spec.c1024 + Spec.eps)) (sumsq_apply (k0_pay6 I.x) _ _ _ _ r 0)

theorem up_apply (r c : Fin 512) : k0_pay8 I.x I.n1 I.wp (ix2 r c) = Spec.U P (512 * s + r.val) c.val := by
  unfold k0_pay8
  simp only [shapeCast_self]
  exact dot_of _ rfl _ _ r c _ _ _ (xn_apply HI r) fun k => HI.wp k c

theorem ul_apply (r c : Fin 512) : k0_pay9 I.x I.n1 I.wl (ix2 r c) = Spec.U P (512 * s + r.val) (512 + c.val) := by
  unfold k0_pay9
  simp only [shapeCast_self]
  exact dot_of _ rfl _ _ r c _ _ _ (xn_apply HI r) fun k => HI.wl k c

theorem ug_apply (r c : Fin 512) : ug I (ix2 r c) = Spec.U P (512 * s + r.val) (1024 + c.val) := by
  unfold ug k0_pay10 k0_pay11
  simp only [shapeCast_self]
  exact dot_of _ rfl _ _ r c _ _ _ (xn_apply HI r) fun k => HI.wg k c

omit HI

/-- The number of rows so far. -/
theorem pos_apply (hs : s < 8) (r : Fin 512) (c : Fin 128) :
    k0_pay12 (F := Ideal) (BitVec.ofNat 32 s) (ix2 r c) = (((512 * s + r.val + 1 : ℕ) : ℝ) : EReal) := by
  have hr := r.isLt
  show ((((((BitVec.ofNat 32 s) * 512#32 + 1#32) + iota .tc S512x128 32 [0] iota_S512x128_d0_w32 (ix2 r c)).toInt : ℝ)) : EReal) = _
  rw [iota_single_apply]
  have e : ((BitVec.ofNat 32 s) * 512#32 + 1#32) + BitVec.ofNat 32 r.val = BitVec.ofNat 32 (512 * s + r.val + 1) := by
    apply BitVec.eq_of_toNat_eq
    simp only [BitVec.toNat_add, BitVec.toNat_mul, BitVec.toNat_ofNat]
    omega
  have e2 : (BitVec.ofNat 32 (512 * s + r.val + 1)).toInt = ((512 * s + r.val + 1 : ℕ) : ℤ) := by
    rw [BitVec.toInt_eq_toNat_of_lt (by rw [BitVec.toNat_ofNat]; omega), BitVec.toNat_ofNat, Nat.mod_eq_of_lt (by omega)]
  show (((((((BitVec.ofNat 32 s) * 512#32 + 1#32) + BitVec.ofNat 32 r.val).toInt : ℤ) : ℝ)) : EReal) = _
  rw [e, e2]
  rfl

/-- The first gates' sums, over all the heads of a half. -/
theorem joined_apply (X Y : FVec Ideal S512x512 .f32) (o : ℕ) (ho : o < 2) (h : S512x512.Slices ![0, 256 * o] S512x256)
    (r c : Fin 512) : concatenate S512x512 1 [⟨S512x256, extractStridedSlice S512x256 ![0, 256 * o] X h⟩,
      ⟨S512x256, extractStridedSlice S512x256 ![0, 256 * o] Y h⟩] concatenates_S512x256_S512x256_S512x512_d1 (ix2 r c)
      = if hc : c.val < 256 then X (ix2 r ⟨256 * o + c.val, by omega⟩) else Y (ix2 r ⟨256 * o + (c.val - 256), by omega⟩) := by
  split
  · rename_i hc
    refine (Rows.beside_left _ _ _ r c hc).trans ?_
    exact slice2_axis1_apply _ _ _ _ _ _ rfl
  · rename_i hc
    refine (Rows.beside_right _ _ _ r c ⟨c.val - 256, by omega⟩ (by show c.val = 256 + (c.val - 256); omega)).trans ?_
    exact slice2_axis1_apply _ _ _ _ _ _ rfl

section Pool

variable (hs : s < 8) (p : ℕ → ℕ → Vec Ideal S512x128 .f32)
  (hp : ∀ g k, g < 4 → k < 16 → ∀ (r : Fin 512) (c : Fin 128),
    p g k (ix2 r c) = Spec.lag (fun n => Spec.U P n (128 * g + c.val)) k (512 * s + r.val))

include hs hp

theorem mean_apply (g w : ℕ) (hg : g < 4) (hw : w = 2 ^ (g + 1)) (T : EReal) (lit : EReal) (hlit : lit = ((w : ℝ) : EReal))
    (r : Fin 512) (c : Fin 128) (hT : T = ∑ k ∈ Finset.range w, p g k (ix2 r c)) :
    Ideal.div T (min (k0_pay12 (F := Ideal) (BitVec.ofNat 32 s) (ix2 r c)) lit) - p g 0 (ix2 r c)
      = Spec.D P (512 * s + r.val) (128 * g + c.val) := by
  have hc := c.isLt
  have hd : (128 * g + c.val) / 128 = g := by omega
  have h16 : w ≤ 16 := by
    have : 2 ^ (g + 1) ≤ 2 ^ 4 := Nat.pow_le_pow_right (by omega) (by omega)
    omega
  unfold Spec.D
  rw [hd, ← hw, hT, hlit, pos_apply hs, hp g 0 hg (by omega)]
  rw [Finset.sum_congr rfl fun k hk => hp g k hg (by have := Finset.mem_range.1 hk; omega) r c]
  rfl

theorem dm0_apply (r : Fin 512) (c : Fin 128) :
    dm0 (BitVec.ofNat 32 s) p (ix2 r c) = Spec.D P (512 * s + r.val) c.val := by
  have e := mean_apply hs p hp 0 2 (by omega) rfl _ _ (Math.lit_two.trans (by norm_num)) r c
    (by simp only [Finset.sum_range_succ, Finset.sum_range_zero, zero_add]; exact rfl)
  rw [Nat.mul_zero, Nat.zero_add] at e
  exact e

theorem dm1_apply (r : Fin 512) (c : Fin 128) :
    dm1 (BitVec.ofNat 32 s) p (ix2 r c) = Spec.D P (512 * s + r.val) (128 + c.val) :=
  mean_apply hs p hp 1 4 (by omega) rfl _ _ (Math.lit_four.trans (by norm_num)) r c
    (by simp only [Finset.sum_range_succ, Finset.sum_range_zero, zero_add]; exact rfl)

theorem dm2_apply (r : Fin 512) (c : Fin 128) :
    dm2 (BitVec.ofNat 32 s) p (ix2 r c) = Spec.D P (512 * s + r.val) (256 + c.val) :=
  mean_apply hs p hp 2 8 (by omega) rfl _ _ (Math.lit_eight.trans (by norm_num)) r c
    (by simp only [Finset.sum_range_succ, Finset.sum_range_zero, zero_add]; exact rfl)

/-- The last mean, inside the products below. -/
def dm3 (s : BitVec 32) (p : ℕ → ℕ → Vec Ideal S512x128 .f32) : FVec Ideal S512x128 .bf16 :=
  truncf .bf16 (subf (divf (addf (addf (addf (addf (addf (addf
    (k0_pay17 (p 3 0) (p 3 1) (p 3 2) (p 3 3) (p 3 4) (p 3 5) (p 3 6) (p 3 7) (p 3 8) (p 3 9))
    (p 3 10)) (p 3 11)) (p 3 12)) (p 3 13)) (p 3 14)) (p 3 15))
    (minimumf (k0_pay12 s) (broadcast S512x128 (Scalar.ofBits .f32 0x41800000#32)))) (p 3 0)) bitsLt_bf16_f32

theorem dm3_apply (r : Fin 512) (c : Fin 128) :
    dm3 (BitVec.ofNat 32 s) p (ix2 r c) = Spec.D P (512 * s + r.val) (384 + c.val) :=
  mean_apply hs p hp 3 16 (by omega) rfl _ _ (Math.lit_sixteen.trans (by norm_num)) r c
    (by simp only [Finset.sum_range_succ, Finset.sum_range_zero, zero_add]; exact rfl)

include HI

/-- Two means side by side, through one block-diagonal matrix. -/
theorem pair_apply (d : ℕ) (hd : d < 2) (x y : FVec Ideal S512x128 .bf16) (w : Vec Ideal S1x256x256 .bf16)
    (hx : ∀ (r : Fin 512) (c : Fin 128), x (ix2 r c) = Spec.D P (512 * s + r.val) (256 * d + c.val))
    (hy : ∀ (r : Fin 512) (c : Fin 128), y (ix2 r c) = Spec.D P (512 * s + r.val) (256 * d + 128 + c.val))
    (hw : ∀ (u : Fin 1) (k c : Fin 256), w (ix3 u k c)
      = if k.val / 128 = c.val / 128 then P.pw (2 * d + c.val / 128) (k.val % 128) (c.val % 128) else (0 : EReal))
    (r : Fin 512) (c : Fin 256) :
    matmul dot_S512x256_S256x256_S512x256_1_0_0_1_n_n none
      (concatenate S512x256 1 [⟨S512x128, x⟩, ⟨S512x128, y⟩] concatenates_S512x128_S512x128_S512x256_d1)
      (shapeCast S256x256 w shapeCasts_S1x256x256_S256x256 : FVec Ideal S256x256 .bf16) (constant S512x256 .f32 0x00000000#32) (ix2 r c)
      = ∑ k : Fin 128, Spec.D P (512 * s + r.val) (128 * ((256 * d + c.val) / 128) + k.val)
          * P.pw ((256 * d + c.val) / 128) k.val ((256 * d + c.val) % 128) := by
  have hc := c.isLt
  refine (Rows.mm_apply _ rfl _ _ r c).trans ?_
  have e := Spec.sum_block 2 128 256 rfl (by omega) (fun k => Spec.D P (512 * s + r.val) (256 * d + k))
    (fun k => P.pw (2 * d + c.val / 128) k (c.val % 128)) (c.val / 128) (by omega)
  refine (Finset.sum_congr rfl fun k _ => ?_).trans (e.trans (Finset.sum_congr rfl fun k _ => ?_))
  · have hk := k.isLt
    refine congrArg₂ (· * ·) ?_ ((shapeCast_1ab_ab_apply _ _ k c).trans (hw 0 k c))
    by_cases h : k.val < 128
    · exact (Rows.beside_left _ _ _ r k h).trans (hx r _)
    · refine (Rows.beside_right _ _ _ r k ⟨k.val - 128, by omega⟩ (by show k.val = 128 + (k.val - 128); omega)).trans ((hy r _).trans ?_)
      congr 1
      show 256 * d + 128 + (k.val - 128) = _
      omega
  · rw [show (256 * d + c.val) / 128 = 2 * d + c.val / 128 by omega, show (256 * d + c.val) % 128 = c.val % 128 by omega,
      show 256 * d + (128 * (c.val / 128) + k.val) = 128 * (2 * d + c.val / 128) + k.val by omega]

theorem yp_apply (r c : Fin 512) : yp I (BitVec.ofNat 32 s) p (ix2 r c) = Spec.YP P (512 * s + r.val) c.val := by
  have hc := c.isLt
  have e1 := pair_apply HI hs p hp 0 (by omega) (dm0 (BitVec.ofNat 32 s) p) (dm1 (BitVec.ofNat 32 s) p) I.pw0
    (fun r c => (dm0_apply hs p hp r c).trans (by rw [Nat.mul_zero, Nat.zero_add])) (dm1_apply hs p hp)
    (fun u k c => (HI.pw0 u k c).trans (by rw [Nat.mul_zero, Nat.zero_add]))
  have e2 := pair_apply HI hs p hp 1 (by omega) (dm2 (BitVec.ofNat 32 s) p) (dm3 (BitVec.ofNat 32 s) p) I.pw1
    (dm2_apply hs p hp) (dm3_apply hs p hp) HI.pw1
  show (_ : EReal) * broadcastTo S512x512 I.ps broadcasts_S1x512_S512x512 (ix2 r c) = _
  unfold Spec.YP
  refine congrArg₂ (· * ·) ?_ ((broadcastTo_1b_ab_apply _ _ _ _).trans (HI.ps 0 c))
  by_cases h : c.val < 256
  · refine (Rows.beside_left _ _ _ r c h).trans ((e1 r _).trans ?_)
    simp only [Nat.mul_zero, Nat.zero_add]
  · refine (Rows.beside_right _ _ _ r c ⟨c.val - 256, by omega⟩ (by show c.val = 256 + (c.val - 256); omega)).trans ((e2 r _).trans ?_)
    simp only [show 256 * 1 + (c.val - 256) = c.val by omega]

theorem mixP_apply (r c : Fin 512) :
    mixP I (BitVec.ofNat 32 s) p (ix2 r c) = Spec.rms 512 Spec.c512 (Spec.YP P (512 * s + r.val)) P.np c.val := by
  refine rms_of (yp I (BitVec.ofNat 32 s) p) _ _ _ _ r c Spec.c512 _ _ (yp_apply HI hs p hp r) (HI.np 0) ?_
  exact congrArg (fun t => Ideal.rsqrt (Ideal.div t Spec.c512 + Spec.eps)) (sumsq_apply (yp I (BitVec.ofNat 32 s) p) reduces_S512x512_S512 (.inl rfl) rfl shapeCasts_S512_S512x1 r 0)

end Pool

section Lru

variable (q : ℕ → Vec Ideal S512x512 .f32)
  (hq : ∀ k, k < 4 → ∀ r c : Fin 512, q k (ix2 r c) = Spec.lag (fun n => Spec.U P n (512 + c.val)) k (512 * s + r.val))

include HI hq

theorem xc_apply (r c : Fin 512) : xc I q (ix2 r c) = Spec.XC P (512 * s + r.val) c.val := by
  have sp : ∀ v : Vec Ideal S1x512 .f32, broadcastTo S512x512 v broadcasts_S1x512_S512x512 (ix2 r c) = v (ix2 0 c) :=
    fun v => broadcastTo_1b_ab_apply _ _ _ _
  unfold xc k0_pay21
  simp only [shapeCast_self]
  show ((((broadcastTo S512x512 I.cb broadcasts_S1x512_S512x512 (ix2 r c) : EReal)
      + broadcastTo S512x512 I.c3 broadcasts_S1x512_S512x512 (ix2 r c) * q 0 (ix2 r c))
      + broadcastTo S512x512 I.c0 broadcasts_S1x512_S512x512 (ix2 r c) * q 3 (ix2 r c))
      + broadcastTo S512x512 I.c1 broadcasts_S1x512_S512x512 (ix2 r c) * q 2 (ix2 r c))
      + broadcastTo S512x512 I.c2 broadcasts_S1x512_S512x512 (ix2 r c) * q 1 (ix2 r c) = _
  rw [sp, sp, sp, sp, sp, HI.cb, HI.c3, HI.c0, HI.c1, HI.c2, hq 0 (by omega), hq 1 (by omega), hq 2 (by omega), hq 3 (by omega)]
  unfold Spec.XC
  rw [show Spec.lag (fun n => Spec.U P n (512 + c.val)) 0 (512 * s + r.val) = Spec.U P (512 * s + r.val) (512 + c.val) from rfl]
  ac_rfl

theorem xcH_apply (r : Fin 512) (k : Fin 256) : xcH I q (ix2 r k) = Spec.XC P (512 * s + r.val) k.val :=
  (slice2_axis1_apply 0 (xcB I q) slices_S512x512_o0_0_S512x256 r k ⟨k.val, by omega⟩ (Nat.zero_add _).symm).trans
    (xc_apply HI q hq r _)

/-- A gate before its bias, at a column of the joined halves. -/
theorem head_apply (o : ℕ) (ho : o < 2) (h : S512x512.Slices ![0, 256 * o] S512x256) (r c : Fin 512) :
    concatenate S512x512 1 [⟨S512x256, extractStridedSlice S512x256 ![0, 256 * o] (k0_pay24 (xcH I q) I.g0) h⟩,
      ⟨S512x256, extractStridedSlice S512x256 ![0, 256 * o] (k0_pay25 (xcB I q) I.g1) h⟩]
      concatenates_S512x256_S512x256_S512x512_d1 (ix2 r c)
      = ∑ k : Fin 64, Spec.XC P (512 * s + r.val) (64 * (c.val / 64) + k.val) * P.wh o (c.val / 64) k.val (c.val % 64) := by
  have hc := c.isLt
  refine (joined_apply _ _ o ho h r c).trans ?_
  split
  · rename_i h1
    refine (Rows.mm_apply _ rfl _ _ r _).trans ?_
    have e := Spec.sum_block 4 64 256 rfl (by omega) (Spec.XC P (512 * s + r.val)) (fun k => P.wh o (c.val / 64) k (c.val % 64))
      (c.val / 64) (by omega)
    refine (Finset.sum_congr rfl fun k _ => ?_).trans e
    refine congrArg₂ (· * ·) (xcH_apply HI q hq r k)
      ((shapeCast_1ab_ab_apply _ _ k _).trans ((HI.g0 0 k _).trans ?_))
    show (if k.val / 64 = (256 * o + c.val) % 256 / 64 then
      P.wh ((256 * o + c.val) / 256) ((256 * o + c.val) % 256 / 64) (k.val % 64) ((256 * o + c.val) % 64) else (0 : EReal)) = _
    rw [show (256 * o + c.val) % 256 = c.val by omega, show (256 * o + c.val) / 256 = o by omega,
      show (256 * o + c.val) % 64 = c.val % 64 by omega]
  · rename_i h1
    refine (Rows.mm_apply _ rfl _ _ r _).trans ?_
    have e := Spec.sum_block 4 64 256 rfl (by omega) (fun k => Spec.XC P (512 * s + r.val) (256 + k))
      (fun k => P.wh o (c.val / 64) k (c.val % 64)) ((c.val - 256) / 64) (by omega)
    refine (Finset.sum_congr rfl fun k _ => ?_).trans (e.trans (Finset.sum_congr rfl fun k _ => ?_))
    · refine congrArg₂ (· * ·) ((slice2_axis1_apply 256 _ _ r k ⟨256 + k.val, by omega⟩ rfl).trans (xc_apply HI q hq r _))
        ((shapeCast_1ab_ab_apply _ _ k _).trans ((HI.g1 0 k _).trans ?_))
      show (if k.val / 64 = (256 * o + (c.val - 256)) % 256 / 64 then
        P.wh ((256 * o + (c.val - 256)) / 256) (4 + (256 * o + (c.val - 256)) % 256 / 64) (k.val % 64) ((256 * o + (c.val - 256)) % 64)
          else (0 : EReal)) = _
      rw [show (256 * o + (c.val - 256)) % 256 = c.val - 256 by omega, show (256 * o + (c.val - 256)) / 256 = o by omega,
        show (256 * o + (c.val - 256)) % 64 = c.val % 64 by omega, show 4 + (c.val - 256) / 64 = c.val / 64 by omega]
    · show Spec.XC P (512 * s + r.val) (256 + (64 * ((c.val - 256) / 64) + k.val)) * _ = _
      rw [show 256 + (64 * ((c.val - 256) / 64) + k.val) = 64 * (c.val / 64) + k.val by omega]

omit HI hq in
/-- The logistic function as the body computes it. -/
theorem half_tanh (Z : FVec Ideal S512x512 .f32) (b : Vec Ideal S1x512 .f32) (r c : Fin 512) (z β : EReal) (hz : Z (ix2 r c) = z)
    (hb : b (ix2 0 c) = β) :
    mulf (broadcast S512x512 (Scalar.ofBits .f32 0x3F000000#32)) (addf (tanh (mulf (broadcast S512x512 (Scalar.ofBits .f32 0x3F000000#32))
      (addf Z (broadcastTo S512x512 b broadcasts_S1x512_S512x512)))) (broadcast S512x512 (Scalar.ofBits .f32 0x3F800000#32))) (ix2 r c)
      = Math.sigm (z + β) := by
  show Ideal.ofBits .f32 0x3F000000#32 * (Ideal.tanh (Ideal.ofBits .f32 0x3F000000#32
    * ((Z (ix2 r c) : EReal) + broadcastTo S512x512 b broadcasts_S1x512_S512x512 (ix2 r c))) + Ideal.ofBits .f32 0x3F800000#32) = _
  rw [broadcastTo_1b_ab_apply, hz, hb, Math.lit_half, Math.lit_one, Math.sigm_tanh]

theorem gr_apply (r c : Fin 512) : gr I q (ix2 r c) = Spec.gate P 0 (512 * s + r.val) c.val :=
  half_tanh _ I.ba r c _ _ (head_apply HI q hq 0 (by omega) slices_S512x512_o0_0_S512x256 r c) (HI.ba 0 c)

theorem gi_apply (r c : Fin 512) : gi I q (ix2 r c) = Spec.gate P 1 (512 * s + r.val) c.val :=
  half_tanh _ I.bi r c _ _ (head_apply HI q hq 1 (by omega) slices_S512x512_o0_256_S512x256 r c) (HI.bi 0 c)

theorem la_apply (r c : Fin 512) :
    k0_pay32 (gr I q) (k0_pay29 I.lam) (k0_pay30 I.lam) k0_pay31 (ix2 r c) = Spec.LA P (512 * s + r.val) c.val := by
  show (Ideal.ofBits .f32 0xC1000000#32 * (gr I q (ix2 r c) : EReal)) * broadcastTo S512x512 _ broadcasts_S1x512_S512x512 (ix2 r c) = _
  rw [broadcastTo_1b_ab_apply, gr_apply HI q hq, Math.lit_neg_eight]
  unfold Spec.LA Math.softplus
  refine congrArg₂ (fun a b : EReal => a * b) rfl ?_
  show max (Ideal.ofBits .f32 0x00000000#32 - (I.lam (ix2 0 c) : EReal)) (Ideal.ofBits .f32 0x00000000#32)
    + Ideal.log1p (Ideal.exp (Ideal.ofBits .f32 0x00000000#32
      - max (Ideal.ofBits .f32 0x00000000#32 - (I.lam (ix2 0 c) : EReal)) (-(Ideal.ofBits .f32 0x00000000#32 - (I.lam (ix2 0 c) : EReal))))) = _
  rw [Math.lit_zero, HI.lam, Math.zero_sub', Math.zero_sub']

theorem av_apply (r c : Fin 512) : av I q (ix2 r c) = Spec.A P (512 * s + r.val) c.val :=
  congrArg Ideal.exp (la_apply HI q hq r c)

theorem av_ok (i : S512x512.Idx) : 0 ≤ av I q i ∧ av I q i ≠ (⊤ : EReal) := by
  obtain ⟨r, c, rfl⟩ : ∃ r c : Fin 512, i = ix2 r c := ⟨i 0, i 1, eq_ix2 i⟩
  rw [av_apply HI q hq r c]
  exact Spec.A_ok P _ _

theorem bv_apply (r c : Fin 512) : bv I q (ix2 r c) = Spec.B P (512 * s + r.val) c.val := by
  have e := la_apply HI q hq r c
  show Ideal.sqrt (max ((Ideal.ofBits .f32 0x00000000#32 - Ideal.tanh (k0_pay32 (gr I q) (k0_pay29 I.lam) (k0_pay30 I.lam) k0_pay31 (ix2 r c)))
    * (Ideal.exp (k0_pay32 (gr I q) (k0_pay29 I.lam) (k0_pay30 I.lam) k0_pay31 (ix2 r c))
      * Ideal.exp (k0_pay32 (gr I q) (k0_pay29 I.lam) (k0_pay30 I.lam) k0_pay31 (ix2 r c)) + Ideal.ofBits .f32 0x3F800000#32))
    (Ideal.ofBits .f32 0x00000000#32)) * ((gi I q (ix2 r c) : EReal) * xc I q (ix2 r c)) = _
  rw [e, gi_apply HI q hq, xc_apply HI q hq, Math.lit_zero, Math.lit_one, Math.decay]
  rfl

end Lru

end Cert.Proof.Block
-- ==== Proof.Post.lean ====
module

public import proofs.«01_k».proof.Proof.Pre

@[expose] public section

set_option maxRecDepth 16384

noncomputable section

/-! The body after its recurrence, read at a row and a column: the block written is the layer's rows. -/

namespace Cert.Proof.Block

open Cert.KernelIdeal Cert.KernelIdeal.Gen Idealize.ShloMosaic Idealize.ShloMosaic.TcCoe Idealize.ShloMosaic.ValueIdx Cert.Proof

/-- Four column groups side by side. -/
theorem four_apply (X : ℕ → FVec Ideal S512x128 .f32) (r c : Fin 512) :
    concatenate S512x512 1 [⟨S512x128, X 0⟩, ⟨S512x128, X 1⟩, ⟨S512x128, X 2⟩, ⟨S512x128, X 3⟩]
      concatenates_S512x128_S512x128_S512x128_S512x128_S512x512_d1 (ix2 r c)
      = X (c.val / 128) (ix2 r ⟨c.val % 128, Nat.mod_lt _ (by omega)⟩) := by
  have hc := c.isLt
  refine concatenate_ofFn_apply (t := S512x512) (s₁ := S512x128) (1 : Fin 2) (fun n : Fin 4 => (X n.val : S512x128.Idx → EReal)) _ rfl
    128 rfl (ix2 r c : S512x512.Idx) ⟨c.val / 128, by omega⟩ rfl _ rfl fun a ha => ?_
  match a with
  | ⟨0, _⟩ => rfl
  | ⟨1, _⟩ => exact absurd rfl ha

/-- The gated unit as the body computes it. -/
theorem silu_of {S : Shape} (g u : FVec Ideal S .f32) (i : S.Idx) (z y : EReal) (hg : g i = z) (hu : u i = y) :
    mulf (mulf g (mulf (broadcast S (Scalar.ofBits .f32 0x3F000000#32)) (addf (tanh (mulf (broadcast S (Scalar.ofBits .f32 0x3F000000#32)) g))
      (broadcast S (Scalar.ofBits .f32 0x3F800000#32))))) u i = z * Math.sigm z * y := by
  show (g i : EReal) * (Ideal.ofBits .f32 0x3F000000#32 * (Ideal.tanh (Ideal.ofBits .f32 0x3F000000#32 * (g i : EReal))
    + Ideal.ofBits .f32 0x3F800000#32)) * (u i : EReal) = _
  rw [hg, hu, Math.lit_half, Math.lit_one, Math.sigm_tanh]

variable {I : Ins Ideal} {P : Spec.Par} {s : ℕ} (HI : Holds I P s)

section Rec

variable (va vb vh : View sig .tc .vmem S4x576x128 .f32) (q : ℕ → Vec Ideal S512x512 .f32) (hl : ℕ → Vec Ideal S1x128 .f32)
  (hq : ∀ k, k < 4 → ∀ r c : Fin 512, q k (ix2 r c) = Spec.lag (fun n => Spec.U P n (512 + c.val)) k (512 * s + r.val))
  (hhl : ∀ g, g < 4 → ∀ l : Fin 128, hl g (ix2 0 l) = Spec.H P (128 * g + l.val) (512 * s))

include HI hq in
/-- The block's recurrence is the sequence's. -/
theorem st_eq (c : Fin 512) : ∀ n, n ≤ 512 →
    st (av I q) (bv I q) (fun c => Spec.H P c (512 * s)) c.val n = Spec.H P c.val (512 * s + n)
  | 0, _ => rfl
  | n + 1, hn => by
    have ha : at2 (av I q) n c.val = Spec.A P (512 * s + n) c.val :=
      (at2_ix (av I q) ⟨n, by omega⟩ c).trans (av_apply HI q hq ⟨n, by omega⟩ c)
    have hb : at2 (bv I q) n c.val = Spec.B P (512 * s + n) c.val :=
      (at2_ix (bv I q) ⟨n, by omega⟩ c).trans (bv_apply HI q hq ⟨n, by omega⟩ c)
    rw [st, st_eq c n (by omega), ha, hb]
    rfl

include HI hq hhl in
/-- The state left is the state before the next block's first row. -/
theorem cars_eq (base : List (View.Piece (Elt Ideal) S1x512 .f32)) (u : Fin 1) (c : Fin 512) :
    View.canon (cars va vb (av I q) (bv I q) hl base 4) (ix2 u c) = Spec.H P c.val (512 * (s + 1)) :=
  (cars_apply va vb (av I q) (bv I q) hl _ (av_ok HI q hq) hhl base 4 (le_refl _) (ix2 u c) c.isLt).trans
    (st_eq HI q hq c 512 (le_refl _))

include HI hq hhl in
theorem yl_apply (r c : Fin 512) :
    yl va vb vh (av I q) (bv I q) hl (ug I) (ix2 r c) = Spec.YL P (512 * s + r.val) c.val := by
  have hc := c.isLt
  have hr := r.isLt
  have e := (four_apply (hcol va vb vh (av I q) (bv I q) hl) r c).trans
    ((hcol_apply va vb vh (av I q) (bv I q) hl _ (av_ok HI q hq) hhl (c.val / 128) (by omega) r _).trans
      ((congrArg (fun k => st (av I q) (bv I q) (fun c => Spec.H P c (512 * s)) k (r.val + 1))
        (show 128 * (c.val / 128) + c.val % 128 = c.val by omega)).trans (st_eq HI q hq c (r.val + 1) (by omega))))
  refine (congrArg (fun t : EReal => t * ((Ideal.ofBits .f32 0x3F000000#32 * (ug I (ix2 r c) : EReal)) * (Ideal.ofBits .f32 0x3F800000#32
    + Ideal.tanh (Ideal.ofBits .f32 0x3F4C422A#32 * ((ug I (ix2 r c) : EReal) + Ideal.ofBits .f32 0x3D372713#32
      * ((ug I (ix2 r c) : EReal) * ug I (ix2 r c) * ug I (ix2 r c))))))) e).trans ?_
  rw [ug_apply HI, Math.lit_half, Math.lit_one]
  unfold Spec.YL Spec.gelu
  refine congrArg₂ (fun a b : EReal => a * b) rfl ?_
  exact (congrArg (fun t : EReal => t * _) (mul_comm ((1 / 2 : ℝ) : EReal) (Spec.U P (512 * s + r.val) (1024 + c.val)))).trans
    (mul_assoc _ _ _)

end Rec

section Rest

variable (mp : FVec Ideal S512x512 .bf16) (y : FVec Ideal S512x512 .f32) (ys : FVec Ideal S512x1 .f32)
  (hmp : ∀ r c : Fin 512, mp (ix2 r c) = Spec.rms 512 Spec.c512 (Spec.YP P (512 * s + r.val)) P.np c.val)
  (hy : ∀ r c : Fin 512, y (ix2 r c) = Spec.YL P (512 * s + r.val) c.val)
  (hys : ∀ r : Fin 512, ys (ix2 r 0) = ∑ k : Fin 512, (y (ix2 r k) : EReal) * y (ix2 r k))

include HI hmp hy hys

theorem h1_apply (r : Fin 512) (c : Fin 1024) : h1 I mp y ys (ix2 r c) = Spec.H1 P (512 * s + r.val) c.val := by
  unfold h1 k0_pay1412
  simp only [shapeCast_self]
  refine congrArg₂ (fun a b : EReal => a + b) (x_apply HI r c) (dot_of _ rfl _ _ r c _ _ _ (fun k => ?_) fun k => HI.wo k c)
  unfold Spec.MX
  by_cases h : k.val < 512
  · rw [if_pos h]
    exact (Rows.beside_left _ _ _ r k h).trans (hmp r _)
  · rw [if_neg h]
    refine (Rows.beside_right _ _ _ r k ⟨k.val - 512, by omega⟩ (by show k.val = 512 + (k.val - 512); omega)).trans ?_
    exact rms_of y _ _ _ _ r _ Spec.c512 _ _ (hy r) (HI.nl 0)
      (congrArg (fun t => Ideal.rsqrt (Ideal.div t Spec.c512 + Spec.eps)) (hys r))

theorem nrm_apply (r : Fin 512) (c : Fin 1024) : nrm I mp y ys (ix2 r c) = Spec.N2 P (512 * s + r.val) c.val :=
  rms_of (h1 I mp y ys) _ _ _ _ r c Spec.c1024 _ _ (h1_apply HI mp y ys hmp hy hys r) (HI.n2 0)
    (congrArg (fun t => Ideal.rsqrt (Ideal.div t Spec.c1024 + Spec.eps))
      (sumsq_apply (h1 I mp y ys) reduces_S512x1024_S512 (.inl rfl) rfl shapeCasts_S512_S512x1 r 0))

omit HI hmp hy hys in
/-- One chunk of the hidden layer through its rows of the last matrix. -/
def chunk {w : ℕ} (D1 : DotDims S512x1024 ⟨2, ![1024, w]⟩ ⟨2, ![512, w]⟩) (D2 : DotDims ⟨2, ![512, w]⟩ ⟨2, ![w, 1024]⟩ S512x1024)
    (n : FVec Ideal S512x1024 .bf16) (a b : FVec Ideal ⟨2, ![1024, w]⟩ .bf16) (d : FVec Ideal ⟨2, ![w, 1024]⟩ .bf16) :
    FVec Ideal S512x1024 .f32 :=
  matmul D2 none (truncf .bf16 (mulf (mulf (matmul D1 none n a (constant (F := Ideal) ⟨2, ![512, w]⟩ .f32 0x00000000#32))
    (mulf (broadcast ⟨2, ![512, w]⟩ (Scalar.ofBits .f32 0x3F000000#32)) (addf (tanh (mulf (broadcast ⟨2, ![512, w]⟩ (Scalar.ofBits .f32 0x3F000000#32))
      (matmul D1 none n a (constant (F := Ideal) ⟨2, ![512, w]⟩ .f32 0x00000000#32))))
      (broadcast ⟨2, ![512, w]⟩ (Scalar.ofBits .f32 0x3F800000#32)))))
    (matmul D1 none n b (constant (F := Ideal) ⟨2, ![512, w]⟩ .f32 0x00000000#32))) bitsLt_bf16_f32) d
    (constant (F := Ideal) S512x1024 .f32 0x00000000#32)

theorem chunk_apply {w : ℕ} (off : ℕ) (D1 : DotDims S512x1024 ⟨2, ![1024, w]⟩ ⟨2, ![512, w]⟩) (hD1 : D1 = DotDims.plain 512 1024 w)
    (D2 : DotDims ⟨2, ![512, w]⟩ ⟨2, ![w, 1024]⟩ S512x1024) (hD2 : D2 = DotDims.plain 512 w 1024)
    (a b : FVec Ideal ⟨2, ![1024, w]⟩ .bf16) (d : FVec Ideal ⟨2, ![w, 1024]⟩ .bf16)
    (ha : ∀ k c, a (ix2 k c) = P.w1 k.val (off + c.val)) (hb : ∀ k c, b (ix2 k c) = P.w2 k.val (off + c.val))
    (hd : ∀ k c, d (ix2 k c) = P.w3 (off + k.val) c.val) (r : Fin 512) (c : Fin 1024) :
    chunk D1 D2 (nrm I mp y ys) a b d (ix2 r c)
      = ∑ k : Fin w, Spec.FF P (512 * s + r.val) (off + k.val) * P.w3 (off + k.val) c.val := by
  have N := nrm_apply HI mp y ys hmp hy hys r
  refine (Rows.mm_apply D2 hD2 _ _ r c).trans (Finset.sum_congr rfl fun k _ => congrArg₂ (fun a b : EReal => a * b) ?_ (hd k c))
  exact silu_of _ _ (ix2 r k) _ _ (dot_of D1 hD1 _ _ r k _ _ _ N fun i => ha i k) (dot_of D1 hD1 _ _ r k _ _ _ N fun i => hb i k)

omit HI hmp hy hys in
/-- The hidden layer in its four chunks. -/
theorem h2_eq : h2 I mp y ys = addf (h1 I mp y ys) (addf (addf (addf
    (chunk dot_S512x1024_S1024x768_S512x768_1_0_0_1_n_n dot_S512x768_S768x1024_S512x1024_1_0_0_1_n_n (nrm I mp y ys) I.a0 I.b0 I.d0)
    (chunk dot_S512x1024_S1024x768_S512x768_1_0_0_1_n_n dot_S512x768_S768x1024_S512x1024_1_0_0_1_n_n (nrm I mp y ys) I.a1 I.b1 I.d1))
    (chunk dot_S512x1024_S1024x768_S512x768_1_0_0_1_n_n dot_S512x768_S768x1024_S512x1024_1_0_0_1_n_n (nrm I mp y ys) I.a2 I.b2 I.d2))
    (chunk dot_S512x1024_S1024x512_S512x512_1_0_0_1_n_n dot_S512x512_S512x1024_S512x1024_1_0_0_1_n_n (nrm I mp y ys) I.a3 I.b3 I.d3)) := by
  unfold h2 ff01 k0_pay1423 k0_pay1418 k0_pay1416 k0_pay1421 k0_pay1414 k0_pay1415 k0_pay1417 k0_pay1419 k0_pay1420 k0_pay1422 nrm h1 chunk
  simp only [shapeCast_self]

theorem h2_apply (r : Fin 512) (c : Fin 1024) : h2 I mp y ys (ix2 r c) = Spec.H2 P (512 * s + r.val) c.val := by
  have C := fun w off => chunk_apply HI mp y ys hmp hy hys (w := w) off
  have c0 := C 768 0 dot_S512x1024_S1024x768_S512x768_1_0_0_1_n_n rfl dot_S512x768_S768x1024_S512x1024_1_0_0_1_n_n rfl I.a0 I.b0 I.d0
    (fun k c => (HI.a0 k c).trans (by rw [Nat.zero_add])) (fun k c => (HI.b0 k c).trans (by rw [Nat.zero_add]))
    (fun k c => (HI.d0 k c).trans (by rw [Nat.zero_add])) r c
  have c1 := C 768 768 dot_S512x1024_S1024x768_S512x768_1_0_0_1_n_n rfl dot_S512x768_S768x1024_S512x1024_1_0_0_1_n_n rfl I.a1 I.b1 I.d1
    HI.a1 HI.b1 HI.d1 r c
  have c2 := C 768 1536 dot_S512x1024_S1024x768_S512x768_1_0_0_1_n_n rfl dot_S512x768_S768x1024_S512x1024_1_0_0_1_n_n rfl I.a2 I.b2 I.d2
    HI.a2 HI.b2 HI.d2 r c
  have c3 := C 512 2304 dot_S512x1024_S1024x512_S512x512_1_0_0_1_n_n rfl dot_S512x512_S512x1024_S512x1024_1_0_0_1_n_n rfl I.a3 I.b3 I.d3
    HI.a3 HI.b3 HI.d3 r c
  simp only [Nat.zero_add] at c0
  rw [h2_eq]
  unfold Spec.H2 Spec.dot
  rw [Spec.sum_chunks (fun k => Spec.FF P (512 * s + r.val) k * P.w3 k c.val)]
  exact congrArg₂ (fun a b : EReal => a + b) (h1_apply HI mp y ys hmp hy hys r c) (congrArg₂ (fun a b : EReal => a + b)
    (congrArg₂ (fun a b : EReal => a + b) (congrArg₂ (fun a b : EReal => a + b) c0 c1) c2) c3)

theorem out_apply (u : Fin 1) (r : Fin 512) (c : Fin 1024) : out I mp y ys (ix3 u r c) = Spec.OUT P (512 * s + r.val) c.val := by
  unfold out k0_pay1427
  refine (shapeCast_ab_1ab_apply _ _ u r c).trans ?_
  refine rms_of (h2 I mp y ys) _ _ _ _ r c Spec.c1024 _ _ (h2_apply HI mp y ys hmp hy hys r) (fun k => ?_)
    (congrArg (fun t => Ideal.rsqrt (Ideal.div t Spec.c1024 + Spec.eps))
      (sumsq_apply (h2 I mp y ys) reduces_S512x1024_S512 (.inl rfl) rfl shapeCasts_S512_S512x1 r 0))
  unfold k0_pay1424
  rw [shapeCast_self]
  exact HI.nf 0 k

end Rest

include HI in
/-- The block written is the layer's rows. -/
theorem blockOut_apply (hs : s < 8) (va vb vh : View sig .tc .vmem S4x576x128 .f32) (p : ℕ → ℕ → Vec Ideal S512x128 .f32)
    (q : ℕ → Vec Ideal S512x512 .f32) (hl : ℕ → Vec Ideal S1x128 .f32)
    (hp : ∀ g k, g < 4 → k < 16 → ∀ (r : Fin 512) (c : Fin 128),
      p g k (ix2 r c) = Spec.lag (fun n => Spec.U P n (128 * g + c.val)) k (512 * s + r.val))
    (hq : ∀ k, k < 4 → ∀ r c : Fin 512, q k (ix2 r c) = Spec.lag (fun n => Spec.U P n (512 + c.val)) k (512 * s + r.val))
    (hhl : ∀ g, g < 4 → ∀ l : Fin 128, hl g (ix2 0 l) = Spec.H P (128 * g + l.val) (512 * s))
    (u : Fin 1) (r : Fin 512) (c : Fin 1024) :
    blockOut I va vb vh (BitVec.ofNat 32 s) p q hl (ix3 u r c) = Spec.OUT P (512 * s + r.val) c.val :=
  out_apply HI _ _ _ (mixP_apply HI hs p hp) (yl_apply HI va vb vh q hl hq hhl)
    (fun r => sumsq_apply (yl va vb vh (av I q) (bv I q) hl (ug I)) reduces_S512x512_S512 (.inl rfl) rfl shapeCasts_S512_S512x1 r 0) u r c

end Cert.Proof.Block
-- ==== Proof.Left.lean ====
module

public import proofs.«01_k».proof.Proof.Tie
public import proofs.«01_k».proof.Proof.Post
public import Idealize.ShloMosaic.Lib.WritesUnit

@[expose] public section

set_option maxRecDepth 16384

noncomputable section

/-! What a block leaves behind for the next one, and what the next one's loads read of it. -/

namespace Cert.Proof.Block

open Cert.KernelIdeal Cert.KernelIdeal.Gen Idealize.ShloMosaic Idealize.ShloMosaic.TcCoe Idealize.ShloMosaic.ValueIdx Cert.Proof

/-- The contents after block `s` of a sequence: the output rows, the last rows of the two windows, the state. -/
structure Left (P : Spec.Par) (s : ℕ)
    (o : Vec Ideal S1x512x1024 .f32) (a : Vec Ideal S528x512 .f32) (b : Vec Ideal S520x512 .f32) (h : Vec Ideal S1x512 .f32) : Prop where
  out : ∀ (u : Fin 1) (r : Fin 512) (c : Fin 1024), o (ix3 u r c) = Spec.OUT P (512 * s + r.val) c.val
  pool : ∀ (y : S528x512.Idx), (y 0).val < 16 → a y = Spec.U P (512 * s + 496 + (y 0).val) (y 1).val
  conv : ∀ (y : S520x512.Idx), (y 0).val < 8 → b y = Spec.U P (512 * s + 504 + (y 0).val) (512 + (y 1).val)
  car : ∀ (u : Fin 1) (c : Fin 512), h (ix2 u c) = Spec.H P c.val (512 * (s + 1))

variable {I : Ins Ideal} {P : Spec.Par} {s : ℕ} (HI : Holds I P s)

section Pool

variable (v : View sig .tc .vmem S528x512 .f32) (f : v.ty.Contents (Elt Ideal))
  (L : List (View.Piece (Elt Ideal) S528x512 .f32))

include HI in
theorem pst_of (y : S528x512.Idx) (h : 16 ≤ (y 0).val) :
    v.read (Elt Ideal) (v.writes (Elt Ideal) f (pst I :: L)) y = Spec.U P (512 * s + ((y 0).val - 16)) (y 1).val := by
  have h0 : (y 0).val < 528 := (y 0).isLt
  have h1 : (y 1).val < 512 := (y 1).isLt
  refine (View.read_writes_cons_unit_of_mem v f inb_S528x512_S512x512_16_0 _ L y
    (ix2 (⟨(y 0).val - 16, by omega⟩ : Fin 512) (⟨(y 1).val, h1⟩ : Fin 512)) rfl fun a => ?_).trans (up_apply HI _ _)
  match a with
  | ⟨0, _⟩ => show (y 0).val = 16 + ((y 0).val - 16); omega
  | ⟨1, _⟩ => exact (Nat.zero_add _).symm

theorem pst_not (y : S528x512.Idx) (h : (y 0).val < 16) :
    v.read (Elt Ideal) (v.writes (Elt Ideal) f (pst I :: L)) y = v.read (Elt Ideal) (v.writes (Elt Ideal) f L) y :=
  View.read_writes_cons_unit_of_not_mem v f inb_S528x512_S512x512_16_0 _ L y rfl 0 (.inl h)

theorem zP_of (y : S528x512.Idx) (h : (y 0).val < 16) :
    v.read (Elt Ideal) (v.writes (Elt Ideal) f (zP :: L)) y = 0 := by
  have h1 : (y 1).val < 512 := (y 1).isLt
  refine (View.read_writes_cons_unit_of_mem v f inb_S528x512_S16x512_0_0 _ L y
    (ix2 (⟨(y 0).val, h⟩ : Fin 16) (⟨(y 1).val, h1⟩ : Fin 512)) rfl fun a => ?_).trans ?_
  · match a with
    | ⟨0, _⟩ => exact (Nat.zero_add _).symm
    | ⟨1, _⟩ => exact (Nat.zero_add _).symm
  · unfold k0_pay3
    rw [shapeCast_self]
    exact Math.lit_zero

include HI in
/-- The rows kept for the next block. -/
theorem pool_kept (k : Fin 16) (c : Fin 512) : k0_pay1 (v.readCov (pst I :: L) (Rect.unit (s := S528x512) ![512, 0] S16x512.size
    inb_S528x512_S16x512_512_0).toLoadRect) (ix2 k c) = Spec.U P (512 * s + 496 + k.val) c.val := by
  unfold k0_pay1
  rw [shapeCast_self]
  refine (pst_of HI v v.junk L ((Rect.unit (s := S528x512) ![512, 0] S16x512.size
    inb_S528x512_S16x512_512_0).toLoadRect.idx (ix2 k c)) (by show 16 ≤ 512 + 1 * k.val; omega)).trans ?_
  show Spec.U P (512 * s + (512 + 1 * k.val - 16)) (0 + 1 * c.val) = _
  congr 1 <;> omega

include HI in
theorem pool_left (M : View sig .tc .vmem S528x512 .f32) (y : S528x512.Idx) (h : (y 0).val < 16) :
    M.read (Elt Ideal) (M.writes (Elt Ideal) M.junk (⟨Rect.unit (s := S528x512) ![0, 0] ![16, 512] inb_S528x512_S16x512_0_0,
      k0_pay1 (v.readCov (pst I :: L) (Rect.unit (s := S528x512) ![512, 0] S16x512.size inb_S528x512_S16x512_512_0).toLoadRect)⟩
        :: pst I :: L)) y = Spec.U P (512 * s + 496 + (y 0).val) (y 1).val := by
  have h1 : (y 1).val < 512 := (y 1).isLt
  refine (View.read_writes_cons_unit_of_mem M M.junk inb_S528x512_S16x512_0_0 _ _ y
    (ix2 (⟨(y 0).val, h⟩ : Fin 16) (⟨(y 1).val, h1⟩ : Fin 512)) rfl fun a => ?_).trans (pool_kept HI v L _ _)
  match a with
  | ⟨0, _⟩ => exact (Nat.zero_add _).symm
  | ⟨1, _⟩ => exact (Nat.zero_add _).symm

end Pool

section Conv

variable (v : View sig .tc .vmem S520x512 .f32) (f : v.ty.Contents (Elt Ideal))
  (L : List (View.Piece (Elt Ideal) S520x512 .f32))

include HI in
theorem lst_of (y : S520x512.Idx) (h : 8 ≤ (y 0).val) :
    v.read (Elt Ideal) (v.writes (Elt Ideal) f (lst I :: L)) y = Spec.U P (512 * s + ((y 0).val - 8)) (512 + (y 1).val) := by
  have h0 : (y 0).val < 520 := (y 0).isLt
  have h1 : (y 1).val < 512 := (y 1).isLt
  refine (View.read_writes_cons_unit_of_mem v f inb_S520x512_S512x512_8_0 _ L y
    (ix2 (⟨(y 0).val - 8, by omega⟩ : Fin 512) (⟨(y 1).val, h1⟩ : Fin 512)) rfl fun a => ?_).trans (ul_apply HI _ _)
  match a with
  | ⟨0, _⟩ => show (y 0).val = 8 + ((y 0).val - 8); omega
  | ⟨1, _⟩ => exact (Nat.zero_add _).symm

theorem lst_not (y : S520x512.Idx) (h : (y 0).val < 8) :
    v.read (Elt Ideal) (v.writes (Elt Ideal) f (lst I :: L)) y = v.read (Elt Ideal) (v.writes (Elt Ideal) f L) y :=
  View.read_writes_cons_unit_of_not_mem v f inb_S520x512_S512x512_8_0 _ L y rfl 0 (.inl h)

theorem zL_of (y : S520x512.Idx) (h : (y 0).val < 8) :
    v.read (Elt Ideal) (v.writes (Elt Ideal) f (zL :: L)) y = 0 := by
  have h1 : (y 1).val < 512 := (y 1).isLt
  refine (View.read_writes_cons_unit_of_mem v f inb_S520x512_S8x512_0_0 _ L y
    (ix2 (⟨(y 0).val, h⟩ : Fin 8) (⟨(y 1).val, h1⟩ : Fin 512)) rfl fun a => ?_).trans ?_
  · match a with
    | ⟨0, _⟩ => exact (Nat.zero_add _).symm
    | ⟨1, _⟩ => exact (Nat.zero_add _).symm
  · unfold k0_pay4
    rw [shapeCast_self]
    exact Math.lit_zero

include HI in
theorem conv_left (M : View sig .tc .vmem S520x512 .f32) (y : S520x512.Idx) (h : (y 0).val < 8) :
    M.read (Elt Ideal) (M.writes (Elt Ideal) M.junk (⟨Rect.unit (s := S520x512) ![0, 0] ![8, 512] inb_S520x512_S8x512_0_0,
      k0_pay2 (v.readCov (lst I :: L) (Rect.unit (s := S520x512) ![512, 0] ![8, 512] inb_S520x512_S8x512_512_0).toLoadRect)⟩
        :: lst I :: L)) y = Spec.U P (512 * s + 504 + (y 0).val) (512 + (y 1).val) := by
  have h1 : (y 1).val < 512 := (y 1).isLt
  refine (View.read_writes_cons_unit_of_mem M M.junk inb_S520x512_S8x512_0_0 _ _ y
    (ix2 (⟨(y 0).val, h⟩ : Fin 8) (⟨(y 1).val, h1⟩ : Fin 512)) rfl fun a => ?_).trans ?_
  · match a with
    | ⟨0, _⟩ => exact (Nat.zero_add _).symm
    | ⟨1, _⟩ => exact (Nat.zero_add _).symm
  · unfold k0_pay2
    rw [shapeCast_self]
    refine (lst_of HI v v.junk L ((Rect.unit (s := S520x512) ![512, 0] ![8, 512]
      inb_S520x512_S8x512_512_0).toLoadRect.idx (ix2 (⟨(y 0).val, h⟩ : Fin 8) (⟨(y 1).val, h1⟩ : Fin 512)))
      (by show 8 ≤ 512 + 1 * (y 0).val; omega)).trans ?_
    show Spec.U P (512 * s + (512 + 1 * (y 0).val - 8)) (512 + (0 + 1 * (y 1).val)) = _
    congr 1 <;> omega

end Conv

/-- A lagged row is above the kept ones or among them. -/
theorem lag_of (X : S528x512.Idx → EReal) (hX : ∀ y : S528x512.Idx, 16 ≤ (y 0).val → X y = Spec.U P (512 * s + ((y 0).val - 16)) (y 1).val)
    (hK : ∀ y : S528x512.Idx, (y 0).val < 16 → X y = if 16 ≤ 512 * s + (y 0).val then Spec.U P (512 * s + (y 0).val - 16) (y 1).val else 0)
    (g k : ℕ) (hg : g < 4) (hk : k < 16) (r : Fin 512) (c : Fin 128) :
    X ((lagP g k).idx (ix2 r c)) = Spec.lag (fun n => Spec.U P n (128 * g + c.val)) k (512 * s + r.val) := by
  have e0 : (((lagP g k).idx (ix2 r c)) 0).val = 16 - k + r.val := by
    show 16 - k % 16 + 1 * r.val = _; omega
  have e1 : (((lagP g k).idx (ix2 r c)) 1).val = 128 * g + c.val := by
    show 128 * (g % 4) + 1 * c.val = _; omega
  by_cases h : 16 ≤ 16 - k + r.val
  · rw [hX _ (by rw [e0]; exact h), e0, e1, Spec.lag, if_pos (by omega)]
    congr 1; omega
  · rw [hK _ (by rw [e0]; omega), e0, e1, Spec.lag]
    by_cases h' : k ≤ 512 * s + r.val
    · rw [if_pos h', if_pos (by omega)]
      congr 1; omega
    · rw [if_neg h', if_neg (by omega)]

theorem lagL_of (X : S520x512.Idx → EReal) (hX : ∀ y : S520x512.Idx, 8 ≤ (y 0).val → X y = Spec.U P (512 * s + ((y 0).val - 8)) (512 + (y 1).val))
    (hK : ∀ y : S520x512.Idx, (y 0).val < 8 → X y = if 8 ≤ 512 * s + (y 0).val then Spec.U P (512 * s + (y 0).val - 8) (512 + (y 1).val) else 0)
    (k : ℕ) (hk : k < 8) (r c : Fin 512) :
    X ((lagL k).idx (ix2 r c)) = Spec.lag (fun n => Spec.U P n (512 + c.val)) k (512 * s + r.val) := by
  have e0 : (((lagL k).idx (ix2 r c)) 0).val = 8 - k + r.val := by
    show 8 - k % 8 + 1 * r.val = _; omega
  have e1 : (((lagL k).idx (ix2 r c)) 1).val = c.val := by
    show 0 + 1 * c.val = _; omega
  by_cases h : 8 ≤ 8 - k + r.val
  · rw [hX _ (by rw [e0]; exact h), e0, e1, Spec.lag, if_pos (by omega)]
    congr 1; omega
  · rw [hK _ (by rw [e0]; omega), e0, e1, Spec.lag]
    by_cases h' : k ≤ 512 * s + r.val
    · rw [if_pos h', if_pos (by omega)]
      congr 1; omega
    · rw [if_neg h', if_neg (by omega)]

include HI

theorem pA_apply (hs : s = 0) (v : View sig .tc .vmem S528x512 .f32) (g k : ℕ) (hg : g < 4) (hk : k < 16) (r : Fin 512) (c : Fin 128) :
    pA v I g k (ix2 r c) = Spec.lag (fun n => Spec.U P n (128 * g + c.val)) k (512 * s + r.val) :=
  lag_of (v.read (Elt Ideal) (v.writes (Elt Ideal) v.junk [pst I, zP])) (fun y h => pst_of HI v _ _ y h)
    (fun y h => (pst_not v _ _ y h).trans ((zP_of v _ _ y h).trans (if_neg (by omega)).symm)) g k hg hk r c

theorem qA_apply (hs : s = 0) (v : View sig .tc .vmem S520x512 .f32) (k : ℕ) (hk : k < 4) (r c : Fin 512) :
    qA v I k (ix2 r c) = Spec.lag (fun n => Spec.U P n (512 + c.val)) k (512 * s + r.val) :=
  lagL_of (v.read (Elt Ideal) (v.writes (Elt Ideal) v.junk [lst I, zL])) (fun y h => lst_of HI v _ _ y h)
    (fun y h => (lst_not v _ _ y h).trans ((zL_of v _ _ y h).trans (if_neg (by omega)).symm)) k (by omega) r c

theorem pB_apply (M : Memref sig .tc .vmem S528x512 .f32) (h : M.IsWhole) (xs : Vec Ideal S528x512 .f32)
    (hx : ∀ (y : S528x512.Idx), (y 0).val < 16 → xs y = if 16 ≤ 512 * s + (y 0).val then Spec.U P (512 * s + (y 0).val - 16) (y 1).val else 0)
    (g k : ℕ) (hg : g < 4) (hk : k < 16) (r : Fin 512) (c : Fin 128) :
    pB M h xs I g k (ix2 r c) = Spec.lag (fun n => Spec.U P n (128 * g + c.val)) k (512 * s + r.val) := by
  have e : ∀ k, k < 16 → View.readAt (Elt Ideal) M.view (lagP g k) (M.view.writes (Elt Ideal) (h.unread xs) [pst I]) (ix2 r c)
      = Spec.lag (fun n => Spec.U P n (128 * g + c.val)) k (512 * s + r.val) := fun k hk =>
    lag_of (M.view.read (Elt Ideal) (M.view.writes (Elt Ideal) (h.unread xs) [pst I])) (fun y hy => pst_of HI M.view _ _ y hy)
      (fun y hy => (pst_not M.view _ _ y hy).trans ((congrFun (h.read_unread xs) y).trans (hx y hy))) g k hg hk r c
  cases k with
  | zero =>
    refine (pst_of HI M.view M.view.junk [] ((lagP g 0).idx (ix2 r c)) (by show 16 ≤ 16 - 0 % 16 + 1 * r.val; omega)).trans ?_
    show Spec.U P (512 * s + (16 - 0 % 16 + 1 * r.val - 16)) (128 * (g % 4) + 1 * c.val) = _
    rw [Spec.lag, if_pos (Nat.zero_le _)]
    congr 1 <;> omega
  | succ k => exact e (k + 1) hk

theorem qB_apply (M : Memref sig .tc .vmem S520x512 .f32) (h : M.IsWhole) (xs : Vec Ideal S520x512 .f32)
    (hx : ∀ (y : S520x512.Idx), (y 0).val < 8 → xs y = if 8 ≤ 512 * s + (y 0).val then Spec.U P (512 * s + (y 0).val - 8) (512 + (y 1).val) else 0)
    (k : ℕ) (hk : k < 4) (r c : Fin 512) :
    qB M h xs I k (ix2 r c) = Spec.lag (fun n => Spec.U P n (512 + c.val)) k (512 * s + r.val) := by
  have e : ∀ k, k < 8 → View.readAt (Elt Ideal) M.view (lagL k) (M.view.writes (Elt Ideal) (h.unread xs) [lst I]) (ix2 r c)
      = Spec.lag (fun n => Spec.U P n (512 + c.val)) k (512 * s + r.val) := fun k hk =>
    lagL_of (M.view.read (Elt Ideal) (M.view.writes (Elt Ideal) (h.unread xs) [lst I])) (fun y hy => lst_of HI M.view _ _ y hy)
      (fun y hy => (lst_not M.view _ _ y hy).trans ((congrFun (h.read_unread xs) y).trans (hx y hy))) k hk r c
  cases k with
  | zero =>
    refine (lst_of HI M.view M.view.junk [] ((lagL 0).idx (ix2 r c)) (by show 8 ≤ 8 - 0 % 8 + 1 * r.val; omega)).trans ?_
    show Spec.U P (512 * s + (8 - 0 % 8 + 1 * r.val - 8)) (512 + (0 + 1 * c.val)) = _
    rw [Spec.lag, if_pos (Nat.zero_le _)]
    congr 1 <;> omega
  | succ k => exact e (k + 1) (by omega)

omit HI in
theorem hB_apply (M : Memref sig .tc .vmem S1x512 .f32) (h : M.IsWhole) (xs : Vec Ideal S1x512 .f32)
    (hx : ∀ (u : Fin 1) (c : Fin 512), xs (ix2 u c) = Spec.H P c.val (512 * s)) (g : ℕ) (hg : g < 4) (l : Fin 128) :
    hB M h xs g (ix2 0 l) = Spec.H P (128 * g + l.val) (512 * s) := by
  have hl := l.isLt
  have e : (Rect.unit (s := S1x512) ![0, 128 * (g % 4)] S1x128.size (inb_car g)).toLoadRect.idx (ix2 0 l)
      = ix2 (0 : Fin 1) (⟨128 * g + l.val, by omega⟩ : Fin 512) := by
    refine (eq_ix2 _).trans (congrArg₂ ix2 (Fin.ext rfl) (Fin.ext ?_))
    show 128 * (g % 4) + 1 * l.val = 128 * g + l.val
    omega
  refine (congrFun (h.read_unread xs) _).trans ?_
  rw [e]
  exact hx _ _

end Cert.Proof.Block
-- ==== Proof.Fold.lean ====
module

public import proofs.«01_k».proof.Proof.Left
public import proofs.«01_k».proof.Proof.Gen.KernelIdeal.Value

@[expose] public section

set_option maxRecDepth 16384
set_option maxHeartbeats 1000000

noncomputable section

/-! What one point of the grid leaves, and what the grid leaves in the result. -/

namespace Cert.Proof.Block

open Cert.KernelIdeal Cert.KernelIdeal.Gen Cert.KernelIdeal.Value Idealize.ShloMosaic Idealize.ShloMosaic.TcCoe Idealize.ShloMosaic.ValueIdx Cert.Proof

/-- What a block leaves, for any reading of the lagged rows and of the state before it. -/
theorem left_of {I : Ins Ideal} {P : Spec.Par} {s : ℕ} (HI : Holds I P s) (hs : s < 8) (va vb vh : View sig .tc .vmem S4x576x128 .f32)
    (vp : View sig .tc .vmem S528x512 .f32) (vl : View sig .tc .vmem S520x512 .f32)
    (LP : List (View.Piece (Elt Ideal) S528x512 .f32)) (LL : List (View.Piece (Elt Ideal) S520x512 .f32))
    (base : List (View.Piece (Elt Ideal) S1x512 .f32)) (p : ℕ → ℕ → Vec Ideal S512x128 .f32)
    (q : ℕ → Vec Ideal S512x512 .f32) (hl : ℕ → Vec Ideal S1x128 .f32)
    (hp : ∀ g k, g < 4 → k < 16 → ∀ (r : Fin 512) (c : Fin 128),
      p g k (ix2 r c) = Spec.lag (fun n => Spec.U P n (128 * g + c.val)) k (512 * s + r.val))
    (hq : ∀ k, k < 4 → ∀ r c : Fin 512, q k (ix2 r c) = Spec.lag (fun n => Spec.U P n (512 + c.val)) k (512 * s + r.val))
    (hhl : ∀ g, g < 4 → ∀ l : Fin 128, hl g (ix2 0 l) = Spec.H P (128 * g + l.val) (512 * s))
    {LO : List (View.Piece (Elt Ideal) S1x512x1024 .f32)} {LA : List (View.Piece (Elt Ideal) S528x512 .f32)}
    {LB : List (View.Piece (Elt Ideal) S520x512 .f32)} {LC : List (View.Piece (Elt Ideal) S1x512 .f32)}
    (hO : LO = [⟨Rect.unit (s := S1x512x1024) ![0, 0, 0] S1x512x1024.size inb_S1x512x1024_S1x512x1024_0_0_0,
      blockOut I va vb vh (BitVec.ofNat 32 s) p q hl⟩])
    (hA : LA = ⟨Rect.unit (s := S528x512) ![0, 0] ![16, 512] inb_S528x512_S16x512_0_0, k0_pay1 (vp.readCov (pst I :: LP)
      (Rect.unit (s := S528x512) ![512, 0] S16x512.size inb_S528x512_S16x512_512_0).toLoadRect)⟩ :: pst I :: LP)
    (hB : LB = ⟨Rect.unit (s := S520x512) ![0, 0] ![8, 512] inb_S520x512_S8x512_0_0, k0_pay2 (vl.readCov (lst I :: LL)
      (Rect.unit (s := S520x512) ![512, 0] ![8, 512] inb_S520x512_S8x512_512_0).toLoadRect)⟩ :: lst I :: LL)
    (hC : LC = cars va vb (av I q) (bv I q) hl base 4) :
    Left P s (VO0_19.read (Elt Ideal) (VO0_19.writes (Elt Ideal) VO0_19.junk LO))
      (VS0_0.read (Elt Ideal) (VS0_0.writes (Elt Ideal) VS0_0.junk LA))
      (VS0_1.read (Elt Ideal) (VS0_1.writes (Elt Ideal) VS0_1.junk LB))
      (VS0_5.read (Elt Ideal) (VS0_5.writes (Elt Ideal) VS0_5.junk LC)) := by
  subst hO hA hB hC
  refine ⟨fun u r k => ?_, fun y hy => pool_left HI vp LP VS0_0 y hy, fun y hy => conv_left HI vl LL VS0_1 y hy, fun u k => ?_⟩
  · have e : (Rect.unit (s := S1x512x1024) ![0, 0, 0] S1x512x1024.size inb_S1x512x1024_S1x512x1024_0_0_0).emb (ix3 u r k) = ix3 u r k := by
      funext a
      refine Fin.ext ?_
      match a with
      | ⟨0, _⟩ => show 0 + 1 * u.val = u.val; omega
      | ⟨1, _⟩ => show 0 + 1 * r.val = r.val; omega
      | ⟨2, _⟩ => show 0 + 1 * k.val = k.val; omega
    have h := View.canon_cons_emb (Val := Elt Ideal) (e := .f32) (Rect.unit (s := S1x512x1024) ![0, 0, 0] S1x512x1024.size
      inb_S1x512x1024_S1x512x1024_0_0_0) (blockOut I va vb vh (BitVec.ofNat 32 s) p q hl) [] (ix3 u r k)
    rw [e] at h
    rw [View.read_writes_junk_apply_eq_canon, h]
    exact blockOut_apply HI hs va vb vh p q hl hp hq hhl u r k
  · rw [View.read_writes_junk_apply_eq_canon]
    exact cars_eq HI va vb q hl hq hhl base u k

section Point

variable {P : Spec.Par}
variable (c : Dev nD) (i : grid0.Coords) (arg2 : Memref sig .tc .vmem S1x512x1024 .f32) (harg2 : arg2.IsWhole)
    (arg3 : Memref sig .tc .vmem S1x1024 .f32) (harg3 : arg3.IsWhole)
    (arg4 : Memref sig .tc .vmem S1024x1536 .bf16) (harg4 : arg4.IsWhole)
    (arg5 : Memref sig .tc .vmem S2x256x256 .bf16) (harg5 : arg5.IsWhole)
    (arg6 : Memref sig .tc .vmem S1x512 .f32) (harg6 : arg6.IsWhole) (arg7 : Memref sig .tc .vmem S4x512 .f32)
    (harg7 : arg7.IsWhole) (arg8 : Memref sig .tc .vmem S1x512 .f32) (harg8 : arg8.IsWhole)
    (arg9 : Memref sig .tc .vmem S2x256x512 .bf16) (harg9 : arg9.IsWhole)
    (arg10 : Memref sig .tc .vmem S1x512 .f32) (harg10 : arg10.IsWhole) (arg11 : Memref sig .tc .vmem S1x512 .f32)
    (harg11 : arg11.IsWhole) (arg12 : Memref sig .tc .vmem S1x512 .f32) (harg12 : arg12.IsWhole)
    (arg13 : Memref sig .tc .vmem S1x512 .f32) (harg13 : arg13.IsWhole) (arg14 : Memref sig .tc .vmem S1x512 .f32)
    (harg14 : arg14.IsWhole) (arg15 : Memref sig .tc .vmem S1024x1024 .bf16) (harg15 : arg15.IsWhole)
    (arg16 : Memref sig .tc .vmem S1x1024 .f32) (harg16 : arg16.IsWhole)
    (arg17 : Memref sig .tc .vmem S1024x2816 .bf16) (harg17 : arg17.IsWhole)
    (arg18 : Memref sig .tc .vmem S1024x2816 .bf16) (harg18 : arg18.IsWhole)
    (arg19 : Memref sig .tc .vmem S2816x1024 .bf16) (harg19 : arg19.IsWhole)
    (arg20 : Memref sig .tc .vmem S1x1024 .f32) (harg20 : arg20.IsWhole)
    (arg21 : Memref sig .tc .vmem S1x512x1024 .f32) (harg21 : arg21.IsWhole)
    (arg22 : Memref sig .tc .vmem S528x512 .f32) (harg22 : arg22.IsWhole)
    (arg23 : Memref sig .tc .vmem S520x512 .f32) (harg23 : arg23.IsWhole)
    (arg24 : Memref sig .tc .vmem S4x576x128 .f32) (harg24 : arg24.IsWhole)
    (arg25 : Memref sig .tc .vmem S4x576x128 .f32) (harg25 : arg25.IsWhole)
    (arg26 : Memref sig .tc .vmem S4x576x128 .f32) (harg26 : arg26.IsWhole)
    (arg27 : Memref sig .tc .vmem S1x512 .f32) (harg27 : arg27.IsWhole)

variable (x0 : Vec Ideal S1x512x1024 .f32) (x1 : Vec Ideal S1x1024 .f32) (x2 : Vec Ideal S1024x1536 .bf16)
    (x3 : Vec Ideal S2x256x256 .bf16) (x4 : Vec Ideal S1x512 .f32) (x5 : Vec Ideal S4x512 .f32) (x6 : Vec Ideal S1x512 .f32)
    (x7 : Vec Ideal S2x256x512 .bf16) (x8 : Vec Ideal S1x512 .f32) (x9 : Vec Ideal S1x512 .f32) (x10 : Vec Ideal S1x512 .f32)
    (x11 : Vec Ideal S1x512 .f32) (x12 : Vec Ideal S1x512 .f32) (x13 : Vec Ideal S1024x1024 .bf16) (x14 : Vec Ideal S1x1024 .f32)
    (x15 : Vec Ideal S1024x2816 .bf16) (x16 : Vec Ideal S1024x2816 .bf16) (x17 : Vec Ideal S2816x1024 .bf16)
    (x18 : Vec Ideal S1x1024 .f32)

/-- A first block of a sequence. -/
theorem left_A (hc0 : cond0_0 i) (hs : (i 1).val < 8) (hz : (i 1).val = 0) (HI : Holds (insOf x0 x1 x2 x3 x4 x5
    x6 x7 x8 x9 x10 x11 x12 x13 x14 x15 x16 x17 x18) P (i 1).val) : Left P (i 1).val (out0_A_19 c i arg2 harg2
    arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 arg19 harg19 arg20
    harg20 arg21 harg21 arg22 harg22 arg23 harg23 arg24 harg24 arg25 harg25 arg26 harg26 arg27 harg27 hc0 x0 x1
    x2 x3 x4 x5 x6 x7 x8 x9 x10 x11 x12 x13 x14 x15 x16 x17 x18) (sout0_A_0 c i arg2 harg2 arg3 harg3 arg4 harg4
    arg5 harg5 arg6 harg6 arg7 harg7 arg8 harg8 arg9 harg9 arg10 harg10 arg11 harg11 arg12 harg12 arg13 harg13
    arg14 harg14 arg15 harg15 arg16 harg16 arg17 harg17 arg18 harg18 arg19 harg19 arg20 harg20 arg21 harg21
    arg22 harg22 arg23 harg23 arg24 harg24 arg25 harg25 arg26 harg26 arg27 harg27 hc0 x0 x1 x2 x3 x4 x5 x6 x7 x8
    x9 x10 x11 x12 x13 x14 x15 x16 x17 x18) (sout0_A_1 c i arg2 harg2 arg3 harg3 arg4 harg4 arg5 harg5 arg6
    harg6 arg7 harg7 arg8 harg8 arg9 harg9 arg10 harg10 arg11 harg11 arg12 harg12 arg13 harg13 arg14 harg14
    arg15 harg15 arg16 harg16 arg17 harg17 arg18 harg18 arg19 harg19 arg20 harg20 arg21 harg21 arg22 harg22
    arg23 harg23 arg24 harg24 arg25 harg25 arg26 harg26 arg27 harg27 hc0 x0 x1 x2 x3 x4 x5 x6 x7 x8 x9 x10 x11
    x12 x13 x14 x15 x16 x17 x18) (sout0_A_5 c i arg2 harg2 arg3 harg3 arg4 harg4 arg5 harg5 arg6 harg6 arg7
    harg7 arg8 harg8 arg9 harg9 arg10 harg10 arg11 harg11 arg12 harg12 arg13 harg13 arg14 harg14 arg15 harg15
    arg16 harg16 arg17 harg17 arg18 harg18 arg19 harg19 arg20 harg20 arg21 harg21 arg22 harg22 arg23 harg23
    arg24 harg24 arg25 harg25 arg26 harg26 arg27 harg27 hc0 x0 x1 x2 x3 x4 x5 x6 x7 x8 x9 x10 x11 x12 x13 x14
    x15 x16 x17 x18) := by
  have HR : Holds (rawIns arg2 harg2 arg3 harg3 arg4 harg4 arg5 harg5 arg6 harg6 arg7 harg7 arg8 harg8 arg9
    harg9 arg10 harg10 arg11 harg11 arg12 harg12 arg13 harg13 arg14 harg14 arg15 harg15 arg16 harg16 arg17
    harg17 arg18 harg18 arg19 harg19 arg20 harg20 x0 x1 x2 x3 x4 x5 x6 x7 x8 x9 x10 x11 x12 x13 x14 x15 x16 x17
    x18) P (i 1).val := (rawIns_eq arg2 harg2 arg3 harg3 arg4 harg4 arg5 harg5 arg6 harg6 arg7 harg7 arg8 harg8
    arg9 harg9 arg10 harg10 arg11 harg11 arg12 harg12 arg13 harg13 arg14 harg14 arg15 harg15 arg16 harg16 arg17
    harg17 arg18 harg18 arg19 harg19 arg20 harg20 x0 x1 x2 x3 x4 x5 x6 x7 x8 x9 x10 x11 x12 x13 x14 x15 x16 x17
    x18).symm ▸ HI
  have hp := fun g k hg hk r c => pA_apply HR hz arg22.view g k hg hk r c
  have hq := fun k hk r c => qA_apply HR hz arg23.view k hk r c
  have hl : ∀ A B g, g < 4 → ∀ l : Fin 128, hl0 arg24.view arg25.view A B arg27.view g (ix2 0 l) = Spec.H P (128 * g + l.val) (512 * (i 1).val) :=
    fun A B g hg l => (hl0_apply arg24.view arg25.view A B arg27.view g hg l).trans (by rw [hz]; rfl)
  exact left_of HR hs _ _ _ _ _ _ _ _ _ _ _ hp hq (hl _ _) (out_A c i arg2 harg2 arg3 harg3 arg4 harg4 arg5
    harg5 arg6 harg6 arg7 harg7 arg8 harg8 arg9 harg9 arg10 harg10 arg11 harg11 arg12 harg12 arg13 harg13 arg14
    harg14 arg15 harg15 arg16 harg16 arg17 harg17 arg18 harg18 arg19 harg19 arg20 harg20 arg21 harg21 arg22
    harg22 arg23 harg23 arg24 harg24 arg25 harg25 arg26 harg26 arg27 harg27 x0 x1 x2 x3 x4 x5 x6 x7 x8 x9 x10
    x11 x12 x13 x14 x15 x16 x17 x18 hc0) (pbuf_A c i arg2 harg2 arg3 harg3 arg4 harg4 arg5 harg5 arg6 harg6 arg7
    harg7 arg8 harg8 arg9 harg9 arg10 harg10 arg11 harg11 arg12 harg12 arg13 harg13 arg14 harg14 arg15 harg15
    arg16 harg16 arg17 harg17 arg18 harg18 arg19 harg19 arg20 harg20 arg21 harg21 arg22 harg22 arg23 harg23
    arg24 harg24 arg25 harg25 arg26 harg26 arg27 harg27 x0 x1 x2 x3 x4 x5 x6 x7 x8 x9 x10 x11 x12 x13 x14 x15
    x16 x17 x18 hc0) (lbuf_A c i arg2 harg2 arg3 harg3 arg4 harg4 arg5 harg5 arg6 harg6 arg7 harg7 arg8 harg8
    arg9 harg9 arg10 harg10 arg11 harg11 arg12 harg12 arg13 harg13 arg14 harg14 arg15 harg15 arg16 harg16 arg17
    harg17 arg18 harg18 arg19 harg19 arg20 harg20 arg21 harg21 arg22 harg22 arg23 harg23 arg24 harg24 arg25
    harg25 arg26 harg26 arg27 harg27 x0 x1 x2 x3 x4 x5 x6 x7 x8 x9 x10 x11 x12 x13 x14 x15 x16 x17 x18 hc0)
    ((carry_A c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18
    harg18 arg19 harg19 arg20 harg20 arg21 harg21 arg22 harg22 arg23 harg23 arg24 harg24 arg25 harg25 arg26
    harg26 arg27 harg27 x0 x1 x2 x3 x4 x5 x6 x7 x8 x9 x10 x11 x12 x13 x14 x15 x16 x17 x18 hc0).trans (cars0_eq _
    _ _ _ _ _))

variable (xs0 : Vec Ideal S528x512 .f32) (xs1 : Vec Ideal S520x512 .f32) (xs5 : Vec Ideal S1x512 .f32)

/-- A later block of a sequence. -/
theorem left_B (hc0 : ¬cond0_0 i) (hs : (i 1).val < 8) (n : ℕ) (hn : (i 1).val = n + 1) (o : Vec Ideal
    S1x512x1024 .f32) (hL : Left P n o xs0 xs1 xs5) (HI : Holds (insOf x0 x1 x2 x3 x4 x5 x6 x7 x8 x9 x10 x11 x12
    x13 x14 x15 x16 x17 x18) P (i 1).val) : Left P (i 1).val (out0_B_19 c i arg2 harg2 arg3 harg3 arg4 harg4
    arg5 harg5 arg6 harg6 arg7 harg7 arg8 harg8 arg9 harg9 arg10 harg10 arg11 harg11 arg12 harg12 arg13 harg13
    arg14 harg14 arg15 harg15 arg16 harg16 arg17 harg17 arg18 harg18 arg19 harg19 arg20 harg20 arg21 harg21
    arg22 harg22 arg23 harg23 arg24 harg24 arg25 harg25 arg26 harg26 arg27 harg27 hc0 x0 x1 x2 x3 x4 x5 x6 x7 x8
    x9 x10 x11 x12 x13 x14 x15 x16 x17 x18 xs0 xs1 xs5) (sout0_B_0 c i arg2 harg2 arg3 harg3 arg4 harg4 arg5
    harg5 arg6 harg6 arg7 harg7 arg8 harg8 arg9 harg9 arg10 harg10 arg11 harg11 arg12 harg12 arg13 harg13 arg14
    harg14 arg15 harg15 arg16 harg16 arg17 harg17 arg18 harg18 arg19 harg19 arg20 harg20 arg21 harg21 arg22
    harg22 arg23 harg23 arg24 harg24 arg25 harg25 arg26 harg26 arg27 harg27 hc0 x0 x1 x2 x3 x4 x5 x6 x7 x8 x9
    x10 x11 x12 x13 x14 x15 x16 x17 x18 xs0 xs1 xs5) (sout0_B_1 c i arg2 harg2 arg3 harg3 arg4 harg4 arg5 harg5
    arg6 harg6 arg7 harg7 arg8 harg8 arg9 harg9 arg10 harg10 arg11 harg11 arg12 harg12 arg13 harg13 arg14 harg14
    arg15 harg15 arg16 harg16 arg17 harg17 arg18 harg18 arg19 harg19 arg20 harg20 arg21 harg21 arg22 harg22
    arg23 harg23 arg24 harg24 arg25 harg25 arg26 harg26 arg27 harg27 hc0 x0 x1 x2 x3 x4 x5 x6 x7 x8 x9 x10 x11
    x12 x13 x14 x15 x16 x17 x18 xs0 xs1 xs5) (sout0_B_5 c i arg2 harg2 arg3 harg3 arg4 harg4 arg5 harg5 arg6
    harg6 arg7 harg7 arg8 harg8 arg9 harg9 arg10 harg10 arg11 harg11 arg12 harg12 arg13 harg13 arg14 harg14
    arg15 harg15 arg16 harg16 arg17 harg17 arg18 harg18 arg19 harg19 arg20 harg20 arg21 harg21 arg22 harg22
    arg23 harg23 arg24 harg24 arg25 harg25 arg26 harg26 arg27 harg27 hc0 x0 x1 x2 x3 x4 x5 x6 x7 x8 x9 x10 x11
    x12 x13 x14 x15 x16 x17 x18 xs0 xs1 xs5) := by
  have HR : Holds (rawIns arg2 harg2 arg3 harg3 arg4 harg4 arg5 harg5 arg6 harg6 arg7 harg7 arg8 harg8 arg9
    harg9 arg10 harg10 arg11 harg11 arg12 harg12 arg13 harg13 arg14 harg14 arg15 harg15 arg16 harg16 arg17
    harg17 arg18 harg18 arg19 harg19 arg20 harg20 x0 x1 x2 x3 x4 x5 x6 x7 x8 x9 x10 x11 x12 x13 x14 x15 x16 x17
    x18) P (i 1).val := (rawIns_eq arg2 harg2 arg3 harg3 arg4 harg4 arg5 harg5 arg6 harg6 arg7 harg7 arg8 harg8
    arg9 harg9 arg10 harg10 arg11 harg11 arg12 harg12 arg13 harg13 arg14 harg14 arg15 harg15 arg16 harg16 arg17
    harg17 arg18 harg18 arg19 harg19 arg20 harg20 x0 x1 x2 x3 x4 x5 x6 x7 x8 x9 x10 x11 x12 x13 x14 x15 x16 x17
    x18).symm ▸ HI
  have hp := fun g k hg hk r c => pB_apply HR arg22 harg22 xs0 (fun y hy => by
    rw [if_pos (by omega), hn]
    exact (hL.pool y hy).trans (congrArg (fun k => Spec.U P k (y 1).val) (by omega))) g k hg hk r c
  have hq := fun k hk r c => qB_apply HR arg23 harg23 xs1 (fun y hy => by
    rw [if_pos (by omega), hn]
    exact (hL.conv y hy).trans (congrArg (fun k => Spec.U P k (512 + (y 1).val)) (by omega))) k hk r c
  have hl := fun g hg l => hB_apply (P := P) (s := (i 1).val) arg27 harg27 xs5 (fun u c => by rw [hn]; exact hL.car u c) g hg l
  exact left_of HR hs _ _ _ _ _ _ _ _ _ _ _ hp hq hl (out_B c i arg2 harg2 arg3 harg3 arg4 harg4 arg5 harg5 arg6
    harg6 arg7 harg7 arg8 harg8 arg9 harg9 arg10 harg10 arg11 harg11 arg12 harg12 arg13 harg13 arg14 harg14
    arg15 harg15 arg16 harg16 arg17 harg17 arg18 harg18 arg19 harg19 arg20 harg20 arg21 harg21 arg22 harg22
    arg23 harg23 arg24 harg24 arg25 harg25 arg26 harg26 arg27 harg27 x0 x1 x2 x3 x4 x5 x6 x7 x8 x9 x10 x11 x12
    x13 x14 x15 x16 x17 x18 xs0 xs1 xs5 hc0) (pbuf_B c i arg2 harg2 arg3 harg3 arg4 harg4 arg5 harg5 arg6 harg6
    arg7 harg7 arg8 harg8 arg9 harg9 arg10 harg10 arg11 harg11 arg12 harg12 arg13 harg13 arg14 harg14 arg15
    harg15 arg16 harg16 arg17 harg17 arg18 harg18 arg19 harg19 arg20 harg20 arg21 harg21 arg22 harg22 arg23
    harg23 arg24 harg24 arg25 harg25 arg26 harg26 arg27 harg27 x0 x1 x2 x3 x4 x5 x6 x7 x8 x9 x10 x11 x12 x13 x14
    x15 x16 x17 x18 xs0 xs1 xs5 hc0) (lbuf_B c i arg2 harg2 arg3 harg3 arg4 harg4 arg5 harg5 arg6 harg6 arg7
    harg7 arg8 harg8 arg9 harg9 arg10 harg10 arg11 harg11 arg12 harg12 arg13 harg13 arg14 harg14 arg15 harg15
    arg16 harg16 arg17 harg17 arg18 harg18 arg19 harg19 arg20 harg20 arg21 harg21 arg22 harg22 arg23 harg23
    arg24 harg24 arg25 harg25 arg26 harg26 arg27 harg27 x0 x1 x2 x3 x4 x5 x6 x7 x8 x9 x10 x11 x12 x13 x14 x15
    x16 x17 x18 xs0 xs1 xs5 hc0) ((carry_B c i arg2 harg2 arg3 harg3 arg4 harg4 arg5 harg5 arg6 harg6 arg7 harg7
    arg8 harg8 arg9 harg9 arg10 harg10 arg11 harg11 arg12 harg12 arg13 harg13 arg14 harg14 arg15 harg15 arg16
    harg16 arg17 harg17 arg18 harg18 arg19 harg19 arg20 harg20 arg21 harg21 arg22 harg22 arg23 harg23 arg24
    harg24 arg25 harg25 arg26 harg26 arg27 harg27 x0 x1 x2 x3 x4 x5 x6 x7 x8 x9 x10 x11 x12 x13 x14 x15 x16 x17
    x18 xs0 xs1 xs5 hc0))

end Point

section Grid

variable (m : (ℓ : Loc nD τ sig) → Buf (Elt Ideal) ℓ) (c : Dev nD) (P : ℕ → Spec.Par)
  (HH : ∀ t : Fin cfg0.N, Holds (
    insOf (iblk m c 0 t) (iblk m c 1 t) (iblk m c 2 t) (iblk m c 3 t) (iblk m c 4 t) (iblk m c 5 t) (iblk m c 6
    t) (iblk m c 7 t) (iblk m c 8 t) (iblk m c 9 t) (iblk m c 10 t) (iblk m c 11 t) (iblk m c 12 t) (iblk m c 13
    t) (iblk m c 14 t) (iblk m c 15 t) (iblk m c 16 t) (iblk m c 17 t) (iblk m c 18 t)) (P (t.val / 8)) (t.val % 8))

theorem Left.cast {P : Spec.Par} {s s' : ℕ} {o : Vec Ideal S1x512x1024 .f32} {a : Vec Ideal S528x512 .f32} {b : Vec Ideal S520x512 .f32}
    {h : Vec Ideal S1x512 .f32} (e : s = s') (H : Left P s o a b h) : Left P s' o a b h := e ▸ H

/-- What the contents after a point are. -/
def LeftAt (n : ℕ) (R : Vec Ideal S1x512x1024 .f32 × Vec Ideal S528x512 .f32 × Vec Ideal S520x512 .f32 × Vec Ideal S1x512 .f32) : Prop :=
  Left (P (n / 8)) (n % 8) R.1 R.2.1 R.2.2.1 R.2.2.2

theorem LeftAt.mk (n : ℕ) {o : Vec Ideal S1x512x1024 .f32} {a : Vec Ideal S528x512 .f32} {b : Vec Ideal S520x512 .f32}
    {h : Vec Ideal S1x512 .f32} (H : Left (P (n / 8)) (n % 8) o a b h) : LeftAt P n (o, a, b, h) := H

theorem block_val (t : Fin cfg0.N) : (grid0.coords t 1).val = t.val % 8 := by
  have e : (grid0.coords t 1).val = t.val / 1 % 8 := Pipeline.Grid.coords_val t 1 (by decide) rfl
  rw [e, Nat.div_one]

include HH in
theorem left_stA (t : Fin cfg0.N) (acc : Vec Ideal S1x512x1024 .f32 × Vec Ideal S528x512 .f32 × Vec Ideal S520x512 .f32 × Vec Ideal S1x512 .f32)
    (h0 : t.val % 8 = 0) : LeftAt P t.val (stAt0 m c t.val t.isLt acc) := by
  have e := block_val t
  have H := HH t
  rw [← e] at H
  have h := left_A c (grid0.coords t) (ms0_0 t) (hs0_0 t) (ms0_1 t) (hs0_1 t) (ms0_2 t) (hs0_2 t) (ms0_3 t)
    (hs0_3 t) (ms0_4 t) (hs0_4 t) (ms0_5 t) (hs0_5 t) (ms0_6 t) (hs0_6 t) (ms0_7 t) (hs0_7 t) (ms0_8 t) (hs0_8
    t) (ms0_9 t) (hs0_9 t) (ms0_10 t) (hs0_10 t) (ms0_11 t) (hs0_11 t) (ms0_12 t) (hs0_12 t) (ms0_13 t) (hs0_13
    t) (ms0_14 t) (hs0_14 t) (ms0_15 t) (hs0_15 t) (ms0_16 t) (hs0_16 t) (ms0_17 t) (hs0_17 t) (ms0_18 t)
    (hs0_18 t) (ms0_19 t) (hs0_19 t) scM0_0 (Memref.isWhole_whole _) scM0_1 (Memref.isWhole_whole _) scM0_2
    (Memref.isWhole_whole _) scM0_3 (Memref.isWhole_whole _) scM0_4 (Memref.isWhole_whole _) scM0_5
    (Memref.isWhole_whole _) (iblk m c 0 t) (iblk m c 1 t) (iblk m c 2 t) (iblk m c 3 t) (iblk m c 4 t) (iblk m
    c 5 t) (iblk m c 6 t) (iblk m c 7 t) (iblk m c 8 t) (iblk m c 9 t) (iblk m c 10 t) (iblk m c 11 t) (iblk m c
    12 t) (iblk m c 13 t) (iblk m c 14 t) (iblk m c 15 t) (iblk m c 16 t) (iblk m c 17 t) (iblk m c 18 t)
    ((hcond0_0 t).mpr h0) (by rw [e]; omega) (by rw [e]; exact h0) H
  rw [stAt0_A m c t acc h0]
  exact LeftAt.mk P _ (Left.cast e h)

include HH in
theorem left_stB (t : Fin cfg0.N) (acc : Vec Ideal S1x512x1024 .f32 × Vec Ideal S528x512 .f32 × Vec Ideal S520x512 .f32 × Vec Ideal S1x512 .f32)
    (h0 : ¬t.val % 8 = 0) (n : ℕ) (hn : t.val = n + 1) (hL : LeftAt P n acc) : LeftAt P t.val (stAt0 m c t.val t.isLt acc) := by
  have e := block_val t
  have H := HH t
  have hLp : Left (P (t.val / 8)) (n % 8) acc.1 acc.2.1 acc.2.2.1 acc.2.2.2 := by
    rw [show t.val / 8 = n / 8 by omega]
    exact hL
  rw [← e] at H
  have h := left_B c (grid0.coords t) (ms0_0 t) (hs0_0 t) (ms0_1 t) (hs0_1 t) (ms0_2 t) (hs0_2 t) (ms0_3 t)
    (hs0_3 t) (ms0_4 t) (hs0_4 t) (ms0_5 t) (hs0_5 t) (ms0_6 t) (hs0_6 t) (ms0_7 t) (hs0_7 t) (ms0_8 t) (hs0_8
    t) (ms0_9 t) (hs0_9 t) (ms0_10 t) (hs0_10 t) (ms0_11 t) (hs0_11 t) (ms0_12 t) (hs0_12 t) (ms0_13 t) (hs0_13
    t) (ms0_14 t) (hs0_14 t) (ms0_15 t) (hs0_15 t) (ms0_16 t) (hs0_16 t) (ms0_17 t) (hs0_17 t) (ms0_18 t)
    (hs0_18 t) (ms0_19 t) (hs0_19 t) scM0_0 (Memref.isWhole_whole _) scM0_1 (Memref.isWhole_whole _) scM0_2
    (Memref.isWhole_whole _) scM0_3 (Memref.isWhole_whole _) scM0_4 (Memref.isWhole_whole _) scM0_5
    (Memref.isWhole_whole _) (iblk m c 0 t) (iblk m c 1 t) (iblk m c 2 t) (iblk m c 3 t) (iblk m c 4 t) (iblk m
    c 5 t) (iblk m c 6 t) (iblk m c 7 t) (iblk m c 8 t) (iblk m c 9 t) (iblk m c 10 t) (iblk m c 11 t) (iblk m c
    12 t) (iblk m c 13 t) (iblk m c 14 t) (iblk m c 15 t) (iblk m c 16 t) (iblk m c 17 t) (iblk m c 18 t)
    acc.2.1 acc.2.2.1 acc.2.2.2 (fun h => h0 ((hcond0_0 t).mp h)) (by rw [e]; omega) (n % 8) (by rw [e]; omega)
    acc.1 hLp H
  rw [stAt0_B m c t acc h0]
  exact LeftAt.mk P _ (Left.cast e h)

include HH in
/-- Every point leaves its block of its sequence. -/
theorem left_at : ∀ (n : ℕ) (hn : n < cfg0.N), LeftAt P n (outsAt0 m c n hn)
  | 0, hn => by
    rw [outsAt0_zero]
    exact left_stA m c P HH ⟨0, hn⟩ junk0 rfl
  | n + 1, hn => by
    rw [outsAt0_succ]
    by_cases h : (n + 1) % 8 = 0
    · exact left_stA m c P HH ⟨n + 1, hn⟩ _ h
    · exact left_stB m c P HH ⟨n + 1, hn⟩ _ h n rfl (left_at n (Nat.lt_of_succ_lt hn))

include HH in
/-- The result array, read at an index. -/
theorem result_apply (i : S4x4096x1024.Idx) : G19 m c i = Spec.OUT (P (i 0).val) (i 1).val (i 2).val := by
  have i0 : (i 0).val < 4 := (i 0).isLt
  have i1 : (i 1).val < 4096 := (i 1).isLt
  have i2 : (i 2).val < 1024 := (i 2).isLt
  have hp : pt19Of i = 8 * (i 0).val + (i 1).val / 512 := by show 8 * ((i 0).val / 1 - 0) + 1 * ((i 1).val / 512 - 0) + 1 * ((i 2).val / 1024 - 0) = _; omega
  have hN : cfg0.N = 32 := N_0
  have hb : pt19Of i < cfg0.N := by omega
  have hl : loc19Of i = ix3 (0 : Fin 1) (⟨(i 1).val % 512, by omega⟩ : Fin 512) (⟨(i 2).val, i2⟩ : Fin 1024) := by
    funext a
    refine Fin.ext ?_
    match a with
    | ⟨0, _⟩ => show (i 0).val % 1 = 0; omega
    | ⟨1, _⟩ => rfl
    | ⟨2, _⟩ => show (i 2).val % 1024 = (i 2).val; omega
  unfold G19
  rw [dif_pos hb, ← outsAt0_sweep m c (pt19Of i) hb, hl]
  refine ((left_at m c P HH (pt19Of i) hb).out _ _ _).trans ?_
  show Spec.OUT (P (pt19Of i / 8)) (512 * (pt19Of i % 8) + (i 1).val % 512) (i 2).val = _
  rw [hp]
  congr 2 <;> omega

end Grid

end Cert.Proof.Block
-- ==== Proof.Args.lean ====
module

public import proofs.«01_k».proof.Proof.Rows
public import proofs.«01_k».proof.Proof.Spec

@[expose] public section

set_option maxRecDepth 16384

noncomputable section

/-! The arguments of both programs, and one sequence's rows and weights among them. -/

namespace Cert.Proof

open Idealize.ShloMosaic Idealize.ShloMosaic.ValueIdx

/-- The arguments, in their order. -/
structure Args where
  a0 : FVec Ideal ⟨3, ![4, 4096, 1024]⟩ .f32
  a1 : FVec Ideal ⟨2, ![1, 1024]⟩ .f32
  a2 : FVec Ideal ⟨3, ![1, 1024, 1536]⟩ .f32
  a3 : FVec Ideal ⟨4, ![1, 4, 128, 128]⟩ .f32
  a4 : FVec Ideal ⟨2, ![1, 512]⟩ .f32
  a5 : FVec Ideal ⟨3, ![1, 4, 512]⟩ .f32
  a6 : FVec Ideal ⟨2, ![1, 512]⟩ .f32
  a7 : FVec Ideal ⟨4, ![1, 8, 64, 64]⟩ .f32
  a8 : FVec Ideal ⟨2, ![1, 512]⟩ .f32
  a9 : FVec Ideal ⟨4, ![1, 8, 64, 64]⟩ .f32
  a10 : FVec Ideal ⟨2, ![1, 512]⟩ .f32
  a11 : FVec Ideal ⟨2, ![1, 512]⟩ .f32
  a12 : FVec Ideal ⟨2, ![1, 512]⟩ .f32
  a13 : FVec Ideal ⟨2, ![1, 512]⟩ .f32
  a14 : FVec Ideal ⟨3, ![1, 1024, 1024]⟩ .f32
  a15 : FVec Ideal ⟨2, ![1, 1024]⟩ .f32
  a16 : FVec Ideal ⟨3, ![1, 1024, 2816]⟩ .f32
  a17 : FVec Ideal ⟨3, ![1, 1024, 2816]⟩ .f32
  a18 : FVec Ideal ⟨3, ![1, 2816, 1024]⟩ .f32
  a19 : FVec Ideal ⟨1, ![1024]⟩ .f32

/-- A number as a coordinate below `n + 1`. -/
def fn (n i : ℕ) : Fin (n + 1) := ⟨i % (n + 1), Nat.mod_lt _ (Nat.succ_pos n)⟩

theorem fn_val {n : ℕ} (i : Fin (n + 1)) : fn n i.val = i := Fin.ext (Nat.mod_eq_of_lt i.isLt)

theorem fn_mk {n i : ℕ} (h : i < n + 1) : fn n i = ⟨i, h⟩ := Fin.ext (Nat.mod_eq_of_lt h)

variable (A : Args)

/-- Sequence `b`'s rows, with the weights. -/
def par (b : ℕ) : Spec.Par where
  x n k := A.a0 (ix3 (fn 3 b) (fn 4095 n) (fn 1023 k))
  n1 k := A.a1 (ix2 0 (fn 1023 k))
  win k c := A.a2 (ix3 0 (fn 1023 k) (fn 1535 c))
  pw g k c := A.a3 (ix4 0 (fn 3 g) (fn 127 k) (fn 127 c))
  ps c := A.a4 (ix2 0 (fn 511 c))
  np c := A.a12 (ix2 0 (fn 511 c))
  cw j c := A.a5 (ix3 0 (fn 3 j) (fn 511 c))
  cb c := A.a6 (ix2 0 (fn 511 c))
  wh o h k c := (if o = 0 then A.a7 else A.a9) (ix4 0 (fn 7 h) (fn 63 k) (fn 63 c))
  bh o c := (if o = 0 then A.a8 else A.a10) (ix2 0 (fn 511 c))
  lam c := A.a11 (ix2 0 (fn 511 c))
  nl c := A.a13 (ix2 0 (fn 511 c))
  wo k c := A.a14 (ix3 0 (fn 1023 k) (fn 1023 c))
  n2 k := A.a15 (ix2 0 (fn 1023 k))
  w1 k c := A.a16 (ix3 0 (fn 1023 k) (fn 2815 c))
  w2 k c := A.a17 (ix3 0 (fn 1023 k) (fn 2815 c))
  w3 k c := A.a18 (ix3 0 (fn 2815 k) (fn 1023 c))
  nf k := A.a19 (ix1 (fn 1023 k))

end Cert.Proof
-- ==== Proof.Holds.lean ====
module

public import proofs.«01_k».proof.Proof.Fold
public import Idealize.ShloMosaic.Lib.Pipeline.ValueKit.Tiles
public import proofs.«01_k».proof.Proof.Args

@[expose] public section

set_option maxRecDepth 16384

noncomputable section

/-! The body's reads of its windows, given what the windows hold. -/

namespace Cert.Proof.Block

open Cert.KernelIdeal Cert.KernelIdeal.Gen Idealize.ShloMosaic Idealize.ShloMosaic.TcCoe Idealize.ShloMosaic.ValueIdx Cert.Proof

/-- A rectangle of a matrix read at a row and a column. -/
theorem ld2 {A B a b : ℕ} {e : EltTy} (X : Vec Ideal ⟨2, ![A, B]⟩ e) (o p : ℕ) (inb) (r : Fin a) (c : Fin b) (r' : Fin A) (c' : Fin B)
    (hr : r'.val = o + r.val) (hc : c'.val = p + c.val) :
    View.ld X (Rect.unit (s := ⟨2, ![A, B]⟩) ![o, p] ![a, b] inb) (ix2 r c) = X (ix2 r' c') :=
  View.ld_unit_apply_of X _ _ _ _ (ix2 r' c') (fun a => match a with | ⟨0, _⟩ => hr | ⟨1, _⟩ => hc)

/-- The same with a leading axis. -/
theorem ld3 {Z A B z a b : ℕ} {e : EltTy} (X : Vec Ideal ⟨3, ![Z, A, B]⟩ e) (n o p : ℕ) (inb) (u : Fin z) (r : Fin a) (c : Fin b)
    (u' : Fin Z) (r' : Fin A) (c' : Fin B) (hu : u'.val = n + u.val) (hr : r'.val = o + r.val) (hc : c'.val = p + c.val) :
    View.ld X (Rect.unit (s := ⟨3, ![Z, A, B]⟩) ![n, o, p] ![z, a, b] inb) (ix3 u r c) = X (ix3 u' r' c') :=
  View.ld_unit_apply_of X _ _ _ _ (ix3 u' r' c') (fun a => match a with | ⟨0, _⟩ => hu | ⟨1, _⟩ => hr | ⟨2, _⟩ => hc)

/-- What the windows hold fixes what the body reads. -/
theorem holds_of (P : Spec.Par) (s : ℕ)
    (x0 : Vec Ideal S1x512x1024 .f32) (x1 : Vec Ideal S1x1024 .f32) (x2 : Vec Ideal S1024x1536 .bf16) (x3 : Vec Ideal S2x256x256 .bf16)
    (x4 : Vec Ideal S1x512 .f32) (x5 : Vec Ideal S4x512 .f32) (x6 : Vec Ideal S1x512 .f32) (x7 : Vec Ideal S2x256x512 .bf16)
    (x8 x9 x10 x11 x12 : Vec Ideal S1x512 .f32) (x13 : Vec Ideal S1024x1024 .bf16) (x14 : Vec Ideal S1x1024 .f32)
    (x15 x16 : Vec Ideal S1024x2816 .bf16) (x17 : Vec Ideal S2816x1024 .bf16) (x18 : Vec Ideal S1x1024 .f32)
    (h0 : ∀ (r : Fin 512) (k : Fin 1024), x0 (ix3 0 r k) = P.x (512 * s + r.val) k.val)
    (h1 : ∀ k : Fin 1024, x1 (ix2 0 k) = P.n1 k.val)
    (h2 : ∀ (k : Fin 1024) (c : Fin 1536), x2 (ix2 k c) = P.win k.val c.val)
    (h3 : ∀ (e : Fin 2) (k c : Fin 256), x3 (ix3 e k c)
      = if k.val / 128 = c.val / 128 then P.pw (2 * e.val + c.val / 128) (k.val % 128) (c.val % 128) else (0 : EReal))
    (h4 : ∀ c : Fin 512, x4 (ix2 0 c) = P.ps c.val)
    (h5 : ∀ (j : Fin 4) (c : Fin 512), x5 (ix2 j c) = P.cw j.val c.val)
    (h6 : ∀ c : Fin 512, x6 (ix2 0 c) = P.cb c.val)
    (h7 : ∀ (e : Fin 2) (k : Fin 256) (c : Fin 512), x7 (ix3 e k c)
      = if k.val / 64 = (c.val % 256) / 64 then P.wh (c.val / 256) (4 * e.val + (c.val % 256) / 64) (k.val % 64) (c.val % 64) else (0 : EReal))
    (h8 : ∀ c : Fin 512, x8 (ix2 0 c) = P.bh 0 c.val)
    (h9 : ∀ c : Fin 512, x9 (ix2 0 c) = P.bh 1 c.val)
    (h10 : ∀ c : Fin 512, x10 (ix2 0 c) = P.lam c.val)
    (h11 : ∀ c : Fin 512, x11 (ix2 0 c) = P.np c.val)
    (h12 : ∀ c : Fin 512, x12 (ix2 0 c) = P.nl c.val)
    (h13 : ∀ k c : Fin 1024, x13 (ix2 k c) = P.wo k.val c.val)
    (h14 : ∀ k : Fin 1024, x14 (ix2 0 k) = P.n2 k.val)
    (h15 : ∀ (k : Fin 1024) (c : Fin 2816), x15 (ix2 k c) = P.w1 k.val c.val)
    (h16 : ∀ (k : Fin 1024) (c : Fin 2816), x16 (ix2 k c) = P.w2 k.val c.val)
    (h17 : ∀ (k : Fin 2816) (c : Fin 1024), x17 (ix2 k c) = P.w3 k.val c.val)
    (h18 : ∀ k : Fin 1024, x18 (ix2 0 k) = P.nf k.val) :
    Holds (insOf x0 x1 x2 x3 x4 x5 x6 x7 x8 x9 x10 x11 x12 x13 x14 x15 x16 x17 x18) P s where
  x u r k := (ld3 x0 0 0 0 _ u r k 0 r k (by omega) (by omega) (by omega)).trans (h0 r k)
  n1 u c := (ld2 x1 0 0 _ u c 0 c (by omega) (by omega)).trans (h1 c)
  ps u c := (ld2 x4 0 0 _ u c 0 c (by omega) (by omega)).trans (h4 c)
  np u c := (ld2 x11 0 0 _ u c 0 c (by omega) (by omega)).trans (h11 c)
  cb u c := (ld2 x6 0 0 _ u c 0 c (by omega) (by omega)).trans (h6 c)
  ba u c := (ld2 x8 0 0 _ u c 0 c (by omega) (by omega)).trans (h8 c)
  bi u c := (ld2 x9 0 0 _ u c 0 c (by omega) (by omega)).trans (h9 c)
  lam u c := (ld2 x10 0 0 _ u c 0 c (by omega) (by omega)).trans (h10 c)
  nl u c := (ld2 x12 0 0 _ u c 0 c (by omega) (by omega)).trans (h12 c)
  n2 u c := (ld2 x14 0 0 _ u c 0 c (by omega) (by omega)).trans (h14 c)
  nf u c := (ld2 x18 0 0 _ u c 0 c (by omega) (by omega)).trans (h18 c)
  wp k c := (ld2 x2 0 0 _ k c k ⟨c.val, by omega⟩ (by omega) (by simp)).trans (h2 _ _)
  wl k c := (ld2 x2 0 512 _ k c k ⟨512 + c.val, by omega⟩ (by omega) rfl).trans (h2 _ _)
  wg k c := (ld2 x2 0 1024 _ k c k ⟨1024 + c.val, by omega⟩ (by omega) rfl).trans (h2 _ _)
  wo k c := (ld2 x13 0 0 _ k c k c (by omega) (by omega)).trans (h13 _ _)
  a0 k c := (ld2 x15 0 0 _ k c k ⟨c.val, by omega⟩ (by omega) (by simp)).trans (h15 _ _)
  a1 k c := (ld2 x15 0 768 _ k c k ⟨768 + c.val, by omega⟩ (by omega) rfl).trans (h15 _ _)
  a2 k c := (ld2 x15 0 1536 _ k c k ⟨1536 + c.val, by omega⟩ (by omega) rfl).trans (h15 _ _)
  a3 k c := (ld2 x15 0 2304 _ k c k ⟨2304 + c.val, by omega⟩ (by omega) rfl).trans (h15 _ _)
  b0 k c := (ld2 x16 0 0 _ k c k ⟨c.val, by omega⟩ (by omega) (by simp)).trans (h16 _ _)
  b1 k c := (ld2 x16 0 768 _ k c k ⟨768 + c.val, by omega⟩ (by omega) rfl).trans (h16 _ _)
  b2 k c := (ld2 x16 0 1536 _ k c k ⟨1536 + c.val, by omega⟩ (by omega) rfl).trans (h16 _ _)
  b3 k c := (ld2 x16 0 2304 _ k c k ⟨2304 + c.val, by omega⟩ (by omega) rfl).trans (h16 _ _)
  d0 k c := (ld2 x17 0 0 _ k c ⟨k.val, by omega⟩ c (by simp) (by omega)).trans (h17 _ _)
  d1 k c := (ld2 x17 768 0 _ k c ⟨768 + k.val, by omega⟩ c rfl (by omega)).trans (h17 _ _)
  d2 k c := (ld2 x17 1536 0 _ k c ⟨1536 + k.val, by omega⟩ c rfl (by omega)).trans (h17 _ _)
  d3 k c := (ld2 x17 2304 0 _ k c ⟨2304 + k.val, by omega⟩ c rfl (by omega)).trans (h17 _ _)
  c0 u c := (ld2 x5 0 0 _ u c 0 c (by omega) (by omega)).trans (h5 0 c)
  c1 u c := (ld2 x5 1 0 _ u c 1 c (by omega) (by omega)).trans (h5 1 c)
  c2 u c := (ld2 x5 2 0 _ u c 2 c (by omega) (by omega)).trans (h5 2 c)
  c3 u c := (ld2 x5 3 0 _ u c 3 c (by omega) (by omega)).trans (h5 3 c)
  pw0 u k c := (ld3 x3 0 0 0 _ u k c 0 k c (by omega) (by omega) (by omega)).trans ((h3 0 k c).trans (by simp))
  g0 u k c := (ld3 x7 0 0 0 _ u k c 0 k c (by omega) (by omega) (by omega)).trans ((h7 0 k c).trans (by simp))
  pw1 u k c := (ld3 x3 1 0 0 _ u k c 1 k c (by omega) (by omega) (by omega)).trans ((h3 1 k c).trans (by simp))
  g1 u k c := (ld3 x7 1 0 0 _ u k c 1 k c (by omega) (by omega) (by omega)).trans ((h7 1 k c).trans (by simp))

end Cert.Proof.Block
-- ==== Proof.Host.lean ====
module

public import proofs.«01_k».proof.Proof.Holds
public import Idealize.ShloMosaic.Lib.StableHlo.RunRead
public import Idealize.ShloMosaic.Lib.IdealHost

@[expose] public section

set_option maxRecDepth 16384

noncomputable section

/-! What the windows hold: the arguments, laid out by the host. -/

namespace Cert.Proof.Host

open Cert.KernelIdeal Cert.KernelIdeal.Gen Idealize.ShloMosaic Idealize.ShloMosaic.TcCoe Idealize.ShloMosaic.ValueIdx Cert.Proof

/-- Square blocks down a diagonal: `n` of the argument's, from the one numbered `o`. -/
def blockDiag (n b M N o : ℕ) (A : FVec Ideal ⟨4, ![1, M, b, b]⟩ .f32)
    (hA : (⟨4, ![1, M, b, b]⟩ : Shape).ShapeCasts ⟨3, ![M, b, b]⟩) (hs : (⟨3, ![M, b, b]⟩ : Shape).Slices ![o, 0, 0] ⟨3, ![n, b, b]⟩)
    (h0 : (⟨0, ![]⟩ : Shape).BroadcastsInDim ⟨2, ![n, n]⟩ ![]) (h1 : (⟨2, ![n, n]⟩ : Shape).BroadcastsInDim ⟨4, ![n, 1, n, 1]⟩ ![0, 2])
    (h2 : (⟨4, ![n, 1, n, 1]⟩ : Shape).BroadcastsInDim ⟨4, ![n, b, n, b]⟩ ![0, 1, 2, 3])
    (h3 : (⟨3, ![n, b, b]⟩ : Shape).BroadcastsInDim ⟨4, ![n, b, 1, b]⟩ ![0, 1, 3])
    (h4 : (⟨4, ![n, b, 1, b]⟩ : Shape).BroadcastsInDim ⟨4, ![n, b, n, b]⟩ ![0, 1, 2, 3])
    (hc : (⟨4, ![n, b, n, b]⟩ : Shape).ShapeCasts ⟨2, ![N, N]⟩) : FVec Ideal ⟨2, ![N, N]⟩ .bf16 :=
  shapeCast ⟨2, ![N, N]⟩
    (mulf
      (broadcastInDim ⟨4, ![n, b, n, b]⟩ ![0, 1, 2, 3] h2
        (broadcastInDim ⟨4, ![n, 1, n, 1]⟩ ![0, 2] h1
          (uitofp .bf16
            (cmpi .eq (addi (iotaInDim ⟨2, ![n, n]⟩ 32 0) (broadcastInDim ⟨2, ![n, n]⟩ ![] h0 (constantI ⟨0, ![]⟩ 32 0#32)))
              (iotaInDim ⟨2, ![n, n]⟩ 32 1)) : FVec Ideal ⟨2, ![n, n]⟩ .bf16)))
      (broadcastInDim ⟨4, ![n, b, n, b]⟩ ![0, 1, 2, 3] h4
        (broadcastInDim ⟨4, ![n, b, 1, b]⟩ ![0, 1, 3] h3
          (extractStridedSlice ⟨3, ![n, b, b]⟩ ![o, 0, 0]
            (truncf .bf16 (shapeCast ⟨3, ![M, b, b]⟩ A hA : FVec Ideal ⟨3, ![M, b, b]⟩ .f32) bitsLt_bf16_f32) hs)))) hc

/-- Two small coordinates compared as words. -/
theorem delta {n i j : ℕ} (hn : n ≤ 4) (hi : i < n) (hj : j < n) :
    (((IntOp.cmpi .eq (IntOp.addi (BitVec.ofNat 32 i) 0#32) (BitVec.ofNat 32 j)).toNat : ℝ) : EReal) = if i = j then 1 else 0 := by
  have hi' : i < 4 := by omega
  have hj' : j < 4 := by omega
  clear hi hj hn
  interval_cases i <;> interval_cases j <;> simp [IntOp.cmpi, IntOp.addi]

theorem blockDiag_apply {n b M N o : ℕ} (hn : n ≤ 4) (hn1 : n ≠ 1) (hb : 0 < b) (hb1 : b ≠ 1) (hN : N = n * b) (hM : o + n ≤ M)
    (A : FVec Ideal ⟨4, ![1, M, b, b]⟩ .f32) (hA hs h0 h1 h2 h3 h4 hc) (k c : Fin N) :
    blockDiag n b M N o A hA hs h0 h1 h2 h3 h4 hc (ix2 k c)
      = if k.val / b = c.val / b then
          A (ix4 0 (⟨o + c.val / b, Nat.lt_of_lt_of_le (Nat.add_lt_add_left (Nat.div_lt_of_lt_mul (by rw [Nat.mul_comm, ← hN]; exact c.isLt)) o) hM⟩ : Fin M)
            (⟨k.val % b, Nat.mod_lt _ hb⟩ : Fin b) (⟨c.val % b, Nat.mod_lt _ hb⟩ : Fin b))
        else (0 : EReal) := by
  have hk : k.val / b < n := Nat.div_lt_of_lt_mul (by rw [Nat.mul_comm, ← hN]; exact k.isLt)
  have hcb : c.val / b < n := Nat.div_lt_of_lt_mul (by rw [Nat.mul_comm, ← hN]; exact c.isLt)
  refine (shapeCast_apply _ hc (ix2 k c)
    (ix4 (⟨k.val / b, hk⟩ : Fin n) (⟨k.val % b, Nat.mod_lt _ hb⟩ : Fin b) (⟨c.val / b, hcb⟩ : Fin n) (⟨c.val % b, Nat.mod_lt _ hb⟩ : Fin b)) ?_).trans ?_
  · rw [Shape.rowMajor_val_four, Shape.rowMajor_val_two]
    show ((k.val / b * b + k.val % b) * n + c.val / b) * b + c.val % b = k.val * N + c.val
    rw [Nat.div_add_mod', Nat.add_mul, Nat.add_assoc, Nat.div_add_mod', Nat.mul_assoc]
    exact congrArg (fun x => k.val * x + c.val) hN.symm
  · have e1 := (broadcastInDim_apply ![0, 1, 2, 3] h2 (broadcastInDim ⟨4, ![n, 1, n, 1]⟩ ![0, 2] h1
          (uitofp .bf16
            (cmpi .eq (addi (iotaInDim ⟨2, ![n, n]⟩ 32 0) (broadcastInDim ⟨2, ![n, n]⟩ ![] h0 (constantI ⟨0, ![]⟩ 32 0#32)))
              (iotaInDim ⟨2, ![n, n]⟩ 32 1)) : FVec Ideal ⟨2, ![n, n]⟩ .bf16))
      (ix4 (⟨k.val / b, hk⟩ : Fin n) (⟨k.val % b, Nat.mod_lt _ hb⟩ : Fin b) (⟨c.val / b, hcb⟩ : Fin n) (⟨c.val % b, Nat.mod_lt _ hb⟩ : Fin b))
      (ix4 (⟨k.val / b, hk⟩ : Fin n) 0 (⟨c.val / b, hcb⟩ : Fin n) 0)
      (fun a => match a with
        | ⟨0, _⟩ => (if_neg hn1).symm | ⟨1, _⟩ => (if_pos rfl).symm | ⟨2, _⟩ => (if_neg hn1).symm | ⟨3, _⟩ => (if_pos rfl).symm)).trans
      ((broadcastInDim_apply ![0, 2] h1 _ _ (ix2 (⟨k.val / b, hk⟩ : Fin n) (⟨c.val / b, hcb⟩ : Fin n))
        (fun a => match a with | ⟨0, _⟩ => (if_neg hn1).symm | ⟨1, _⟩ => (if_neg hn1).symm)).trans (delta hn hk hcb))
    have e2 := (broadcastInDim_apply ![0, 1, 2, 3] h4 (broadcastInDim ⟨4, ![n, b, 1, b]⟩ ![0, 1, 3] h3
          (extractStridedSlice ⟨3, ![n, b, b]⟩ ![o, 0, 0]
            (truncf .bf16 (shapeCast ⟨3, ![M, b, b]⟩ A hA : FVec Ideal ⟨3, ![M, b, b]⟩ .f32) bitsLt_bf16_f32) hs))
      (ix4 (⟨k.val / b, hk⟩ : Fin n) (⟨k.val % b, Nat.mod_lt _ hb⟩ : Fin b) (⟨c.val / b, hcb⟩ : Fin n) (⟨c.val % b, Nat.mod_lt _ hb⟩ : Fin b))
      (ix4 (⟨k.val / b, hk⟩ : Fin n) (⟨k.val % b, Nat.mod_lt _ hb⟩ : Fin b) 0 (⟨c.val % b, Nat.mod_lt _ hb⟩ : Fin b))
      (fun a => match a with
        | ⟨0, _⟩ => (if_neg hn1).symm | ⟨1, _⟩ => (if_neg hb1).symm | ⟨2, _⟩ => (if_pos rfl).symm | ⟨3, _⟩ => (if_neg hb1).symm)).trans
      ((broadcastInDim_apply ![0, 1, 3] h3 _ _ (ix3 (⟨k.val / b, hk⟩ : Fin n) (⟨k.val % b, Nat.mod_lt _ hb⟩ : Fin b) (⟨c.val % b, Nat.mod_lt _ hb⟩ : Fin b))
        (fun a => match a with | ⟨0, _⟩ => (if_neg hn1).symm | ⟨1, _⟩ => (if_neg hb1).symm | ⟨2, _⟩ => (if_neg hb1).symm)).trans
      ((extractStridedSlice_apply ![o, 0, 0] _ hs _
        (ix3 (⟨o + k.val / b, by omega⟩ : Fin M) (⟨k.val % b, Nat.mod_lt _ hb⟩ : Fin b) (⟨c.val % b, Nat.mod_lt _ hb⟩ : Fin b))
        (fun a => match a with | ⟨0, _⟩ => rfl | ⟨1, _⟩ => (Nat.zero_add _).symm | ⟨2, _⟩ => (Nat.zero_add _).symm)).trans
      (shapeCast_1abc_abc_apply A hA _ _ _)))
    refine (congrArg₂ (fun a b : EReal => a * b) e1 e2).trans ?_
    show (if k.val / b = c.val / b then (1 : EReal) else 0) * _ = _
    by_cases h : k.val / b = c.val / b
    · rw [if_pos h, if_pos h, one_mul]
      simp only [h]
    · rw [if_neg h, if_neg h, zero_mul]

variable (m : (ℓ : Loc nD τ sig) → Buf (Elt Ideal) ℓ) (c : Dev nD)

/-- The kernel's arguments, as launched. -/
def args : Args where
  a0 := m (c.tc.loc main_arg0)
  a1 := m (c.tc.loc main_arg1)
  a2 := m (c.tc.loc main_arg2)
  a3 := m (c.tc.loc main_arg3)
  a4 := m (c.tc.loc main_arg4)
  a5 := m (c.tc.loc main_arg5)
  a6 := m (c.tc.loc main_arg6)
  a7 := m (c.tc.loc main_arg7)
  a8 := m (c.tc.loc main_arg8)
  a9 := m (c.tc.loc main_arg9)
  a10 := m (c.tc.loc main_arg10)
  a11 := m (c.tc.loc main_arg11)
  a12 := m (c.tc.loc main_arg12)
  a13 := m (c.tc.loc main_arg13)
  a14 := m (c.tc.loc main_arg14)
  a15 := m (c.tc.loc main_arg15)
  a16 := m (c.tc.loc main_arg16)
  a17 := m (c.tc.loc main_arg17)
  a18 := m (c.tc.loc main_arg18)
  a19 := m (c.tc.loc main_arg19)

/-- A matrix cast off its leading unit axis and narrowed. -/
theorem narrowed {a b : ℕ} (X : FVec Ideal ⟨3, ![1, a, b]⟩ .f32) (h : (⟨3, ![1, a, b]⟩ : Shape).ShapeCasts ⟨2, ![a, b]⟩) (k : Fin a) (c : Fin b) :
    (truncf .bf16 (shapeCast ⟨2, ![a, b]⟩ X h : FVec Ideal ⟨2, ![a, b]⟩ .f32) bitsLt_bf16_f32 : FVec Ideal ⟨2, ![a, b]⟩ .bf16) (ix2 k c)
      = X (ix3 0 k c) := shapeCast_1ab_ab_apply X h k c

theorem v93_eq : V m c main_v93 = (truncf .bf16 (shapeCast S1024x1536 (args m c).a2 shapeCasts_S1x1024x1536_S1024x1536 : FVec Ideal S1024x1536 .f32) bitsLt_bf16_f32 : FVec Ideal S1024x1536 .bf16) := by
  unfold V; after_reads_simp; rfl
theorem v94_eq : V m c main_v94 = shapeCast S4x512 (args m c).a5 shapeCasts_S1x4x512_S4x512 := by unfold V; after_reads_simp; rfl
theorem v96_eq : V m c main_v96 = (truncf .bf16 (shapeCast S1024x1024 (args m c).a14 shapeCasts_S1x1024x1024_S1024x1024 : FVec Ideal S1024x1024 .f32) bitsLt_bf16_f32 : FVec Ideal S1024x1024 .bf16) := by
  unfold V; after_reads_simp; rfl
theorem v98_eq : V m c main_v98 = (truncf .bf16 (shapeCast S1024x2816 (args m c).a16 shapeCasts_S1x1024x2816_S1024x2816 : FVec Ideal S1024x2816 .f32) bitsLt_bf16_f32 : FVec Ideal S1024x2816 .bf16) := by
  unfold V; after_reads_simp; rfl
theorem v100_eq : V m c main_v100 = (truncf .bf16 (shapeCast S1024x2816 (args m c).a17 shapeCasts_S1x1024x2816_S1024x2816 : FVec Ideal S1024x2816 .f32) bitsLt_bf16_f32 : FVec Ideal S1024x2816 .bf16) := by
  unfold V; after_reads_simp; rfl
theorem v102_eq : V m c main_v102 = (truncf .bf16 (shapeCast S2816x1024 (args m c).a18 shapeCasts_S1x2816x1024_S2816x1024 : FVec Ideal S2816x1024 .f32) bitsLt_bf16_f32 : FVec Ideal S2816x1024 .bf16) := by
  unfold V; after_reads_simp; rfl
theorem v103_eq : V m c main_v103 = shapeCast S1x1024 (args m c).a19 shapeCasts_S1024_S1x1024 := by unfold V; after_reads_simp; rfl

/-- Two of the pool's weight blocks down a diagonal. -/
def poolD (o : ℕ) (A : FVec Ideal S1x4x128x128 .f32) (hs : S4x128x128.Slices ![o, 0, 0] S2x128x128) : FVec Ideal S256x256 .bf16 :=
  blockDiag 2 128 4 256 o A shapeCasts_S1x4x128x128_S4x128x128 hs bcast_S_S2x2 bcast_S2x2_S2x1x2x1_0_2
    bcast_S2x1x2x1_S2x128x2x128_0_1_2_3 bcast_S2x128x128_S2x128x1x128_0_1_3 bcast_S2x128x1x128_S2x128x2x128_0_1_2_3 shapeCasts_S2x128x2x128_S256x256

/-- Four of a gate's weight blocks down a diagonal. -/
def gateD (o : ℕ) (A : FVec Ideal S1x8x64x64 .f32) (hs : S8x64x64.Slices ![o, 0, 0] S4x64x64) : FVec Ideal S256x256 .bf16 :=
  blockDiag 4 64 8 256 o A shapeCasts_S1x8x64x64_S8x64x64 hs bcast_S_S4x4 bcast_S4x4_S4x1x4x1_0_2
    bcast_S4x1x4x1_S4x64x4x64_0_1_2_3 bcast_S4x64x64_S4x64x1x64_0_1_3 bcast_S4x64x1x64_S4x64x4x64_0_1_2_3 shapeCasts_S4x64x4x64_S256x256

/-- Two matrices stacked. -/
def stack {a b : ℕ} (X Y : FVec Ideal ⟨2, ![a, b]⟩ .bf16) (h : (⟨2, ![a, b]⟩ : Shape).BroadcastsInDim ⟨3, ![1, a, b]⟩ ![1, 2])
    (hc : Shape.Concatenates [⟨3, ![1, a, b]⟩, ⟨3, ![1, a, b]⟩] ⟨3, ![2, a, b]⟩ 0) : FVec Ideal ⟨3, ![2, a, b]⟩ .bf16 :=
  concatenate ⟨3, ![2, a, b]⟩ 0 [⟨⟨3, ![1, a, b]⟩, broadcastInDim ⟨3, ![1, a, b]⟩ ![1, 2] h X⟩, ⟨⟨3, ![1, a, b]⟩, broadcastInDim ⟨3, ![1, a, b]⟩ ![1, 2] h Y⟩] hc

theorem stack_apply {a b : ℕ} (ha : a ≠ 1) (hb : b ≠ 1) (X Y : FVec Ideal ⟨2, ![a, b]⟩ .bf16) (h hc) (e : Fin 2) (k : Fin a) (c : Fin b) :
    stack X Y h hc (ix3 e k c) = if e.val = 0 then X (ix2 k c) else Y (ix2 k c) := by
  have hx : ∀ Z : FVec Ideal ⟨2, ![a, b]⟩ .bf16, broadcastInDim ⟨3, ![1, a, b]⟩ ![1, 2] h Z (ix3 0 k c) = Z (ix2 k c) := fun Z =>
    broadcastInDim_apply ![1, 2] h Z _ (ix2 k c) (fun x => match x with | ⟨0, _⟩ => (if_neg ha).symm | ⟨1, _⟩ => (if_neg hb).symm)
  by_cases he : e.val = 0
  · rw [if_pos he]
    refine (concatenate_pair_apply_left 0 _ _ hc (ix3 e k c) rfl (ix3 0 k c) ?_).trans (hx X)
    exact fun x => match x with | ⟨0, _⟩ => he.symm | ⟨1, _⟩ => rfl | ⟨2, _⟩ => rfl
  · rw [if_neg he]
    refine (concatenate_pair_apply_right 0 _ _ hc (ix3 e k c) rfl rfl (ix3 0 k c) ?_ ?_).trans (hx Y)
    · exact fun x => match x with | ⟨0, _⟩ => fun hne => absurd rfl hne | ⟨1, _⟩ => fun _ => rfl | ⟨2, _⟩ => fun _ => rfl
    · show 0 + 1 = e.val
      omega

theorem v28_eq : StableHlo.upto hostOps0 (fun b => m (c, b)) 32 (Proc.tc.devRef main_v28)
    = broadcastInDim S1x256x256 ![1, 2] bcast_S256x256_S1x256x256_1_2 (poolD 0 (args m c).a3 slices_S4x128x128_S2x128x128_0_0_0) := by
  after_reads_simp; rfl
theorem v29_eq : StableHlo.upto hostOps0 (fun b => m (c, b)) 32 (Proc.tc.devRef main_v29)
    = broadcastInDim S1x256x256 ![1, 2] bcast_S256x256_S1x256x256_1_2 (poolD 2 (args m c).a3 slices_S4x128x128_S2x128x128_2_0_0) := by
  after_reads_simp; rfl
theorem v47_eq : StableHlo.upto hostOps0 (fun b => m (c, b)) 65 (Proc.tc.devRef main_v47) = gateD 0 (args m c).a7 slices_S8x64x64_S4x64x64_0_0_0 := by
  after_reads_simp; rfl
theorem v60_eq : StableHlo.upto hostOps0 (fun b => m (c, b)) 65 (Proc.tc.devRef main_v60) = gateD 0 (args m c).a9 slices_S8x64x64_S4x64x64_0_0_0 := by
  after_reads_simp; rfl
theorem v74_eq : StableHlo.upto hostOps0 (fun b => m (c, b)) 94 (Proc.tc.devRef main_v74) = gateD 4 (args m c).a7 slices_S8x64x64_S4x64x64_4_0_0 := by
  after_reads_simp; rfl
theorem v87_eq : StableHlo.upto hostOps0 (fun b => m (c, b)) 94 (Proc.tc.devRef main_v87) = gateD 4 (args m c).a9 slices_S8x64x64_S4x64x64_4_0_0 := by
  after_reads_simp; rfl
theorem v30_eq : V m c main_v30 = stack (poolD 0 (args m c).a3 slices_S4x128x128_S2x128x128_0_0_0) (poolD 2 (args m c).a3 slices_S4x128x128_S2x128x128_2_0_0)
    bcast_S256x256_S1x256x256_1_2 concatenates_S1x256x256_S1x256x256_S2x256x256_d0 := by
  unfold V; after_reads_simp
  rw [v28_eq, v29_eq]; rfl
/-- Two squares side by side. -/
def pair (X Y : FVec Ideal S256x256 .bf16) : FVec Ideal S256x512 .bf16 :=
  concatenate S256x512 1 [⟨S256x256, X⟩, ⟨S256x256, Y⟩] concatenates_S256x256_S256x256_S256x512_d1

theorem v89_eq : StableHlo.upto hostOps0 (fun b => m (c, b)) 97 (Proc.tc.devRef main_v89) = broadcastInDim S1x256x512 ![1, 2] bcast_S256x512_S1x256x512_1_2
    (pair (gateD 0 (args m c).a7 slices_S8x64x64_S4x64x64_0_0_0) (gateD 0 (args m c).a9 slices_S8x64x64_S4x64x64_0_0_0)) := by
  after_reads_simp
  rw [v47_eq, v60_eq]; rfl
theorem v90_eq : StableHlo.upto hostOps0 (fun b => m (c, b)) 97 (Proc.tc.devRef main_v90) = broadcastInDim S1x256x512 ![1, 2] bcast_S256x512_S1x256x512_1_2
    (pair (gateD 4 (args m c).a7 slices_S8x64x64_S4x64x64_4_0_0) (gateD 4 (args m c).a9 slices_S8x64x64_S4x64x64_4_0_0)) := by
  after_reads_simp
  rw [v74_eq, v87_eq]; rfl
theorem v91_eq : V m c main_v91 = stack
    (pair (gateD 0 (args m c).a7 slices_S8x64x64_S4x64x64_0_0_0) (gateD 0 (args m c).a9 slices_S8x64x64_S4x64x64_0_0_0))
    (pair (gateD 4 (args m c).a7 slices_S8x64x64_S4x64x64_4_0_0) (gateD 4 (args m c).a9 slices_S8x64x64_S4x64x64_4_0_0))
    bcast_S256x512_S1x256x512_1_2 concatenates_S1x256x512_S1x256x512_S2x256x512_d0 := by
  unfold V; after_reads_simp
  rw [v89_eq, v90_eq]; rfl

theorem pair_left (X Y : FVec Ideal S256x256 .bf16) (k : Fin 256) (c : Fin 512) (h : c.val < 256) :
    pair X Y (ix2 k c) = X (ix2 k ⟨c.val, h⟩) := Rows.beside_left X Y _ k c h

theorem pair_right (X Y : FVec Ideal S256x256 .bf16) (k : Fin 256) (c : Fin 512) (h : 256 ≤ c.val) :
    pair X Y (ix2 k c) = Y (ix2 k ⟨c.val - 256, by omega⟩) :=
  Rows.beside_right X Y _ k c ⟨c.val - 256, by omega⟩ (Nat.add_sub_of_le h).symm

/-- The pool's stacked blocks, at an index. -/
theorem pool_apply (A : FVec Ideal S1x4x128x128 .f32) (e : Fin 2) (k c : Fin 256) :
    stack (poolD 0 A slices_S4x128x128_S2x128x128_0_0_0) (poolD 2 A slices_S4x128x128_S2x128x128_2_0_0)
      bcast_S256x256_S1x256x256_1_2 concatenates_S1x256x256_S1x256x256_S2x256x256_d0 (ix3 e k c)
      = if k.val / 128 = c.val / 128 then A (ix4 0 (fn 3 (2 * e.val + c.val / 128)) (fn 127 (k.val % 128)) (fn 127 (c.val % 128))) else (0 : EReal) := by
  have h : ∀ (o : ℕ) (ho : o + 2 ≤ 4) (hs), poolD o A hs (ix2 k c)
      = if k.val / 128 = c.val / 128 then A (ix4 0 (fn 3 (o + c.val / 128)) (fn 127 (k.val % 128)) (fn 127 (c.val % 128))) else (0 : EReal) :=
    fun o ho hs => (blockDiag_apply (by omega) (by omega) (by omega) (by omega) rfl ho A _ hs _ _ _ _ _ _ k c).trans (by
      rw [fn_mk (n := 3) (by omega), fn_mk (n := 127) (i := k.val % 128) (by omega), fn_mk (n := 127) (i := c.val % 128) (by omega)])
  rw [stack_apply (by omega) (by omega)]
  obtain ⟨e, he⟩ := e
  interval_cases e
  · exact h 0 (by omega) _
  · exact h 2 (by omega) _

/-- The gates' stacked blocks, at an index. -/
theorem gate_apply (A B : FVec Ideal S1x8x64x64 .f32) (e : Fin 2) (k : Fin 256) (c : Fin 512) :
    stack (pair (gateD 0 A slices_S8x64x64_S4x64x64_0_0_0) (gateD 0 B slices_S8x64x64_S4x64x64_0_0_0))
      (pair (gateD 4 A slices_S8x64x64_S4x64x64_4_0_0) (gateD 4 B slices_S8x64x64_S4x64x64_4_0_0))
      bcast_S256x512_S1x256x512_1_2 concatenates_S1x256x512_S1x256x512_S2x256x512_d0 (ix3 e k c)
      = if k.val / 64 = (c.val % 256) / 64 then
          (if c.val / 256 = 0 then A else B) (ix4 0 (fn 7 (4 * e.val + (c.val % 256) / 64)) (fn 63 (k.val % 64)) (fn 63 (c.val % 64)))
        else (0 : EReal) := by
  have h : ∀ (X : FVec Ideal S1x8x64x64 .f32) (o : ℕ) (ho : o + 4 ≤ 8) (hs) (q : Fin 256), gateD o X hs (ix2 k q)
      = if k.val / 64 = q.val / 64 then X (ix4 0 (fn 7 (o + q.val / 64)) (fn 63 (k.val % 64)) (fn 63 (q.val % 64))) else (0 : EReal) :=
    fun X o ho hs q => (blockDiag_apply (by omega) (by omega) (by omega) (by omega) rfl ho X _ hs _ _ _ _ _ _ k q).trans (by
      rw [fn_mk (n := 7) (by omega), fn_mk (n := 63) (i := k.val % 64) (by omega), fn_mk (n := 63) (i := q.val % 64) (by omega)])
  have h2 : ∀ (o : ℕ) (ho : o + 4 ≤ 8) (hs), pair (gateD o A hs) (gateD o B hs) (ix2 k c)
      = if k.val / 64 = (c.val % 256) / 64 then
          (if c.val / 256 = 0 then A else B) (ix4 0 (fn 7 (o + (c.val % 256) / 64)) (fn 63 (k.val % 64)) (fn 63 (c.val % 64)))
        else (0 : EReal) := by
    intro o ho hs
    by_cases hc : c.val < 256
    · rw [pair_left _ _ _ _ hc, h A o ho, if_pos (show c.val / 256 = 0 by omega), Nat.mod_eq_of_lt hc]
    · have e1 : c.val - 256 = c.val % 256 := by omega
      have e2 : c.val % 256 % 64 = c.val % 64 := by omega
      rw [pair_right _ _ _ _ (by omega), h B o ho, if_neg (show ¬ c.val / 256 = 0 by omega)]
      simp only [e1, e2]
  rw [stack_apply (by omega) (by omega)]
  obtain ⟨e, he⟩ := e
  interval_cases e
  · exact h2 0 (by omega) _
  · exact h2 4 (by omega) _

/-- The block of the rows at a point. -/
theorem rows_apply (t : Fin cfg0.N) (r : Fin 512) (k : Fin 1024) :
    iblk m c 0 t (ix3 0 r k) = (args m c).a0 (ix3 (fn 3 (t.val / 8)) (fn 4095 (512 * (t.val % 8) + r.val)) (fn 1023 k.val)) := by
  have ht : t.val < 32 := Nat.lt_of_lt_of_eq t.isLt N_0
  rw [fn_mk (n := 3) (by omega), fn_mk (n := 4095) (by omega), fn_val k]
  refine Eq.trans (congrArg (V m c main_arg0) (funext fun a => Fin.ext ?_)) (congrFun (V_main_arg0 m c) _)
  refine (Pipeline.Window.rect_emb_val (cfg0.win 0) t (ix3 0 r k) a).trans ?_
  have e0 : (grid0.coords t 0).val = t.val / 8 % 4 := Pipeline.Grid.coords_val t 0 (by decide) rfl
  have e1 := Block.block_val t
  match a with
  | ⟨0, _⟩ =>
    show BitVec.toNat (BitVec.ofNat 32 (grid0.coords t 0).val) * 1 + 0 = t.val / 8
    rw [e0, BitVec.toNat_ofNat]
    omega
  | ⟨1, _⟩ =>
    show BitVec.toNat (BitVec.ofNat 32 (grid0.coords t 1).val) * 512 + r.val = 512 * (t.val % 8) + r.val
    rw [e1, BitVec.toNat_ofNat]
    omega
  | ⟨2, _⟩ =>
    show 0 * 1024 + k.val = k.val
    omega

theorem blk1 (t : Fin cfg0.N) : iblk m c 1 t = V m c main_arg1 :=
  funext fun y => congrArg (V m c main_arg1) (funext fun a => Fin.ext (Pipeline.Window.rect_emb_val_of_index_zero (cfg0.win 1) t a (by fin_cases a <;> rfl) y))
theorem blk2 (t : Fin cfg0.N) : iblk m c 2 t = V m c main_v93 :=
  funext fun y => congrArg (V m c main_v93) (funext fun a => Fin.ext (Pipeline.Window.rect_emb_val_of_index_zero (cfg0.win 2) t a (by fin_cases a <;> rfl) y))
theorem blk3 (t : Fin cfg0.N) : iblk m c 3 t = V m c main_v30 :=
  funext fun y => congrArg (V m c main_v30) (funext fun a => Fin.ext (Pipeline.Window.rect_emb_val_of_index_zero (cfg0.win 3) t a (by fin_cases a <;> rfl) y))
theorem blk4 (t : Fin cfg0.N) : iblk m c 4 t = V m c main_arg4 :=
  funext fun y => congrArg (V m c main_arg4) (funext fun a => Fin.ext (Pipeline.Window.rect_emb_val_of_index_zero (cfg0.win 4) t a (by fin_cases a <;> rfl) y))
theorem blk5 (t : Fin cfg0.N) : iblk m c 5 t = V m c main_v94 :=
  funext fun y => congrArg (V m c main_v94) (funext fun a => Fin.ext (Pipeline.Window.rect_emb_val_of_index_zero (cfg0.win 5) t a (by fin_cases a <;> rfl) y))
theorem blk6 (t : Fin cfg0.N) : iblk m c 6 t = V m c main_arg6 :=
  funext fun y => congrArg (V m c main_arg6) (funext fun a => Fin.ext (Pipeline.Window.rect_emb_val_of_index_zero (cfg0.win 6) t a (by fin_cases a <;> rfl) y))
theorem blk7 (t : Fin cfg0.N) : iblk m c 7 t = V m c main_v91 :=
  funext fun y => congrArg (V m c main_v91) (funext fun a => Fin.ext (Pipeline.Window.rect_emb_val_of_index_zero (cfg0.win 7) t a (by fin_cases a <;> rfl) y))
theorem blk8 (t : Fin cfg0.N) : iblk m c 8 t = V m c main_arg8 :=
  funext fun y => congrArg (V m c main_arg8) (funext fun a => Fin.ext (Pipeline.Window.rect_emb_val_of_index_zero (cfg0.win 8) t a (by fin_cases a <;> rfl) y))
theorem blk9 (t : Fin cfg0.N) : iblk m c 9 t = V m c main_arg10 :=
  funext fun y => congrArg (V m c main_arg10) (funext fun a => Fin.ext (Pipeline.Window.rect_emb_val_of_index_zero (cfg0.win 9) t a (by fin_cases a <;> rfl) y))
theorem blk10 (t : Fin cfg0.N) : iblk m c 10 t = V m c main_arg11 :=
  funext fun y => congrArg (V m c main_arg11) (funext fun a => Fin.ext (Pipeline.Window.rect_emb_val_of_index_zero (cfg0.win 10) t a (by fin_cases a <;> rfl) y))
theorem blk11 (t : Fin cfg0.N) : iblk m c 11 t = V m c main_arg12 :=
  funext fun y => congrArg (V m c main_arg12) (funext fun a => Fin.ext (Pipeline.Window.rect_emb_val_of_index_zero (cfg0.win 11) t a (by fin_cases a <;> rfl) y))
theorem blk12 (t : Fin cfg0.N) : iblk m c 12 t = V m c main_arg13 :=
  funext fun y => congrArg (V m c main_arg13) (funext fun a => Fin.ext (Pipeline.Window.rect_emb_val_of_index_zero (cfg0.win 12) t a (by fin_cases a <;> rfl) y))
theorem blk13 (t : Fin cfg0.N) : iblk m c 13 t = V m c main_v96 :=
  funext fun y => congrArg (V m c main_v96) (funext fun a => Fin.ext (Pipeline.Window.rect_emb_val_of_index_zero (cfg0.win 13) t a (by fin_cases a <;> rfl) y))
theorem blk14 (t : Fin cfg0.N) : iblk m c 14 t = V m c main_arg15 :=
  funext fun y => congrArg (V m c main_arg15) (funext fun a => Fin.ext (Pipeline.Window.rect_emb_val_of_index_zero (cfg0.win 14) t a (by fin_cases a <;> rfl) y))
theorem blk15 (t : Fin cfg0.N) : iblk m c 15 t = V m c main_v98 :=
  funext fun y => congrArg (V m c main_v98) (funext fun a => Fin.ext (Pipeline.Window.rect_emb_val_of_index_zero (cfg0.win 15) t a (by fin_cases a <;> rfl) y))
theorem blk16 (t : Fin cfg0.N) : iblk m c 16 t = V m c main_v100 :=
  funext fun y => congrArg (V m c main_v100) (funext fun a => Fin.ext (Pipeline.Window.rect_emb_val_of_index_zero (cfg0.win 16) t a (by fin_cases a <;> rfl) y))
theorem blk17 (t : Fin cfg0.N) : iblk m c 17 t = V m c main_v102 :=
  funext fun y => congrArg (V m c main_v102) (funext fun a => Fin.ext (Pipeline.Window.rect_emb_val_of_index_zero (cfg0.win 17) t a (by fin_cases a <;> rfl) y))
theorem blk18 (t : Fin cfg0.N) : iblk m c 18 t = V m c main_v103 :=
  funext fun y => congrArg (V m c main_v103) (funext fun a => Fin.ext (Pipeline.Window.rect_emb_val_of_index_zero (cfg0.win 18) t a (by fin_cases a <;> rfl) y))

/-- What the body reads at a point is the point's rows and the weights. -/
theorem holds (t : Fin cfg0.N) : Block.Holds (Block.insOf (iblk m c 0 t) (iblk m c 1 t) (iblk m c 2 t) (iblk m c 3 t) (iblk m c 4 t)
    (iblk m c 5 t) (iblk m c 6 t) (iblk m c 7 t) (iblk m c 8 t) (iblk m c 9 t) (iblk m c 10 t) (iblk m c 11 t) (iblk m c 12 t)
    (iblk m c 13 t) (iblk m c 14 t) (iblk m c 15 t) (iblk m c 16 t) (iblk m c 17 t) (iblk m c 18 t)) (par (args m c) (t.val / 8)) (t.val % 8) := by
  refine Block.holds_of _ _ _ _ _ _ _ _ _ _ _ _ _ _ _ _ _ _ _ _ _ ?_ ?_ ?_ ?_ ?_ ?_ ?_ ?_ ?_ ?_ ?_ ?_ ?_ ?_ ?_ ?_ ?_ ?_ ?_
  · exact rows_apply m c t
  · exact fun k => (congrFun (blk1 m c t) _).trans ((congrFun (V_main_arg1 m c) _).trans (congrArg (fun x => (args m c).a1 (ix2 0 x)) (fn_val k).symm))
  · exact fun k q => (congrFun ((blk2 m c t).trans (v93_eq m c)) _).trans ((narrowed (args m c).a2 _ k q).trans (congrArg₂ (fun x y => (args m c).a2 (ix3 0 x y)) (fn_val k).symm (fn_val q).symm))
  · exact fun e k q => (congrFun ((blk3 m c t).trans (v30_eq m c)) _).trans (pool_apply _ e k q)
  · exact fun k => (congrFun (blk4 m c t) _).trans ((congrFun (V_main_arg4 m c) _).trans (congrArg (fun x => (args m c).a4 (ix2 0 x)) (fn_val k).symm))
  · exact fun j q => (congrFun ((blk5 m c t).trans (v94_eq m c)) _).trans ((shapeCast_1ab_ab_apply (args m c).a5 _ j q).trans (congrArg₂ (fun x y => (args m c).a5 (ix3 0 x y)) (fn_val j).symm (fn_val q).symm))
  · exact fun k => (congrFun (blk6 m c t) _).trans ((congrFun (V_main_arg6 m c) _).trans (congrArg (fun x => (args m c).a6 (ix2 0 x)) (fn_val k).symm))
  · exact fun e k q => (congrFun ((blk7 m c t).trans (v91_eq m c)) _).trans (gate_apply _ _ e k q)
  · exact fun k => (congrFun (blk8 m c t) _).trans ((congrFun (V_main_arg8 m c) _).trans (congrArg (fun x => (args m c).a8 (ix2 0 x)) (fn_val k).symm))
  · exact fun k => (congrFun (blk9 m c t) _).trans ((congrFun (V_main_arg10 m c) _).trans (congrArg (fun x => (args m c).a10 (ix2 0 x)) (fn_val k).symm))
  · exact fun k => (congrFun (blk10 m c t) _).trans ((congrFun (V_main_arg11 m c) _).trans (congrArg (fun x => (args m c).a11 (ix2 0 x)) (fn_val k).symm))
  · exact fun k => (congrFun (blk11 m c t) _).trans ((congrFun (V_main_arg12 m c) _).trans (congrArg (fun x => (args m c).a12 (ix2 0 x)) (fn_val k).symm))
  · exact fun k => (congrFun (blk12 m c t) _).trans ((congrFun (V_main_arg13 m c) _).trans (congrArg (fun x => (args m c).a13 (ix2 0 x)) (fn_val k).symm))
  · exact fun k q => (congrFun ((blk13 m c t).trans (v96_eq m c)) _).trans ((narrowed (args m c).a14 _ k q).trans (congrArg₂ (fun x y => (args m c).a14 (ix3 0 x y)) (fn_val k).symm (fn_val q).symm))
  · exact fun k => (congrFun (blk14 m c t) _).trans ((congrFun (V_main_arg15 m c) _).trans (congrArg (fun x => (args m c).a15 (ix2 0 x)) (fn_val k).symm))
  · exact fun k q => (congrFun ((blk15 m c t).trans (v98_eq m c)) _).trans ((narrowed (args m c).a16 _ k q).trans (congrArg₂ (fun x y => (args m c).a16 (ix3 0 x y)) (fn_val k).symm (fn_val q).symm))
  · exact fun k q => (congrFun ((blk16 m c t).trans (v100_eq m c)) _).trans ((narrowed (args m c).a17 _ k q).trans (congrArg₂ (fun x y => (args m c).a17 (ix3 0 x y)) (fn_val k).symm (fn_val q).symm))
  · exact fun k q => (congrFun ((blk17 m c t).trans (v102_eq m c)) _).trans ((narrowed (args m c).a18 _ k q).trans (congrArg₂ (fun x y => (args m c).a18 (ix3 0 x y)) (fn_val k).symm (fn_val q).symm))
  · exact fun k => (congrFun ((blk18 m c t).trans (v103_eq m c)) _).trans ((shapeCast_a_1a_apply (args m c).a19 _ 0 k).trans (congrArg (fun x => (args m c).a19 (ix1 x)) (fn_val k).symm))

end Cert.Proof.Host
-- ==== Proof.RefOps.lean ====
module

public import proofs.«01_k».proof.Proof.Args
public import Idealize.ShloMosaic.Lib.IdealHost
public import Idealize.ShloMosaic.Lib.KernelVsHost
public import Idealize.ShloMosaic.Lib.DynamicIndex
public import Idealize.ShloMosaic.Lib.Pointwise.ShapeOpsCore

@[expose] public section

set_option maxRecDepth 16384

noncomputable section

/-! The host's operations on stacked sequences, read at a sequence, a row and a column. -/

namespace Cert.Proof.RefOps

open Idealize.ShloMosaic hiding ix1 ix2 ix3 ix4
open Idealize.ShloMosaic.ValueIdx Cert.Proof

theorem four : ¬ (4 : ℕ) = 1 := by decide

theorem rows : ¬ (4096 : ℕ) = 1 := by decide

/-- Rows times a matrix. -/
def wide (K N : ℕ) (wf : DotDims.WF ⟨3, ![4, 4096, K]⟩ ⟨2, ![K, N]⟩ ⟨3, ![4, 4096, N]⟩ [2] [0] [0, 1] [1] [] []) :
    DotDims ⟨3, ![4, 4096, K]⟩ ⟨2, ![K, N]⟩ ⟨3, ![4, 4096, N]⟩ where
  lhsContracting := [2]
  rhsContracting := [0]
  lhsNonContracting := [0, 1]
  rhsNonContracting := [1]
  lhsBatch := []
  rhsBatch := []
  wf := wf

theorem wide_apply {K N : ℕ} (wf) (X : FVec Ideal ⟨3, ![4, 4096, K]⟩ .f32) (W : FVec Ideal ⟨2, ![K, N]⟩ .f32) (b : Fin 4) (n : Fin 4096) (c : Fin N) :
    Host.dotGeneral (wide K N wf) none X W (ix3 b n c) = ∑ k : Fin K, (X (ix3 b n k) : EReal) * W (ix2 k c) := by
  have hr : (wide K N wf).contr.rank = 1 := rfl
  have hs : (wide K N wf).contr.size ⟨0, by omega⟩ = K := rfl
  show Ideal.matmul (wide K N wf) X W (fun _ => 0) (ix3 b n c) = _
  refine (zero_add _).trans ?_
  rw [← Equiv.sum_comp (contrEquiv1 (wide K N wf) K hr hs).symm]
  refine Finset.sum_congr rfl fun k _ => ?_
  have hk := contrEquiv1_symm_val (wide K N wf) K hr hs k
  refine congrArg₂ (fun a b : EReal => a * b) (congrArg X (funext fun a => Fin.ext ?_)) (congrArg W (funext fun a => Fin.ext ?_))
  · match a with
    | ⟨0, _⟩ => rfl
    | ⟨1, _⟩ => rfl
    | ⟨2, _⟩ => exact hk
  · match a with
    | ⟨0, _⟩ => exact hk
    | ⟨1, _⟩ => rfl

/-- Each group of columns times its own square matrix. -/
def grouped (G B : ℕ) (wf : DotDims.WF ⟨3, ![G, B, B]⟩ ⟨4, ![4, 4096, G, B]⟩ ⟨4, ![G, B, 4, 4096]⟩ [1] [3] [2] [0, 1] [0] [2]) :
    DotDims ⟨3, ![G, B, B]⟩ ⟨4, ![4, 4096, G, B]⟩ ⟨4, ![G, B, 4, 4096]⟩ where
  lhsContracting := [1]
  rhsContracting := [3]
  lhsNonContracting := [2]
  rhsNonContracting := [0, 1]
  lhsBatch := [0]
  rhsBatch := [2]
  wf := wf

theorem grouped_apply {G B : ℕ} (wf) (W : FVec Ideal ⟨3, ![G, B, B]⟩ .f32) (X : FVec Ideal ⟨4, ![4, 4096, G, B]⟩ .f32)
    (g : Fin G) (c : Fin B) (b : Fin 4) (n : Fin 4096) :
    Host.dotGeneral (grouped G B wf) none W X (ix4 g c b n) = ∑ k : Fin B, (X (ix4 b n g k) : EReal) * W (ix3 g k c) := by
  have hr : (grouped G B wf).contr.rank = 1 := rfl
  have hs : (grouped G B wf).contr.size ⟨0, by omega⟩ = B := rfl
  show Ideal.matmul (grouped G B wf) W X (fun _ => 0) (ix4 g c b n) = _
  refine (zero_add _).trans ?_
  rw [← Equiv.sum_comp (contrEquiv1 (grouped G B wf) B hr hs).symm]
  refine Finset.sum_congr rfl fun k _ => ?_
  have hk := contrEquiv1_symm_val (grouped G B wf) B hr hs k
  refine (mul_comm (W _ : EReal) _).trans ?_
  refine congrArg₂ (fun a b : EReal => a * b) (congrArg X (funext fun a => Fin.ext ?_)) (congrArg W (funext fun a => Fin.ext ?_))
  · match a with
    | ⟨0, _⟩ => rfl
    | ⟨1, _⟩ => rfl
    | ⟨2, _⟩ => rfl
    | ⟨3, _⟩ => exact hk
  · match a with
    | ⟨0, _⟩ => rfl
    | ⟨1, _⟩ => exact hk
    | ⟨2, _⟩ => rfl

/-- The groups set side by side again. -/
theorem ungroup_apply {G B N : ℕ} (hN : N = G * B) (Y : FVec Ideal ⟨4, ![G, B, 4, 4096]⟩ .f32)
    (ht : (⟨4, ![G, B, 4, 4096]⟩ : Shape).Transposes [2, 3, 0, 1] ⟨4, ![4, 4096, G, B]⟩)
    (hc : (⟨4, ![4, 4096, G, B]⟩ : Shape).ShapeCasts ⟨3, ![4, 4096, N]⟩) (b : Fin 4) (n : Fin 4096) (c : Fin N) (g : Fin G) (k : Fin B)
    (hg : g.val = c.val / B) (hk : k.val = c.val % B) :
    shapeCast ⟨3, ![4, 4096, N]⟩ (transpose ⟨4, ![4, 4096, G, B]⟩ [2, 3, 0, 1] Y ht) hc (ix3 b n c) = Y (ix4 g k b n) := by
  refine (shapeCast_apply _ hc _ (ix4 b n g k) ?_).trans (transpose_apply [2, 3, 0, 1] Y ht _ (ix4 g k b n) fun a => ?_)
  · rw [Shape.rowMajor_val_four, Shape.rowMajor_val_three]
    show ((b.val * 4096 + n.val) * G + g.val) * B + k.val = (b.val * 4096 + n.val) * N + c.val
    rw [hg, hk, Nat.add_mul, Nat.add_assoc, Nat.div_add_mod', Nat.mul_assoc]
    exact congrArg (fun x => (b.val * 4096 + n.val) * x + c.val) hN.symm
  · match a with
    | ⟨0, _⟩ => rfl
    | ⟨1, _⟩ => rfl
    | ⟨2, _⟩ => rfl
    | ⟨3, _⟩ => rfl

/-- The columns taken in groups. -/
theorem group_apply {G B N : ℕ} (hN : N = G * B) (X : FVec Ideal ⟨3, ![4, 4096, N]⟩ .f32)
    (hc : (⟨3, ![4, 4096, N]⟩ : Shape).ShapeCasts ⟨4, ![4, 4096, G, B]⟩) (b : Fin 4) (n : Fin 4096) (g : Fin G) (k : Fin B) (c : Fin N)
    (hk : c.val = B * g.val + k.val) :
    shapeCast ⟨4, ![4, 4096, G, B]⟩ X hc (ix4 b n g k) = X (ix3 b n c) := by
  refine shapeCast_apply _ hc _ (ix3 b n c) ?_
  rw [Shape.rowMajor_val_four, Shape.rowMajor_val_three]
  show (b.val * 4096 + n.val) * N + c.val = ((b.val * 4096 + n.val) * G + g.val) * B + k.val
  rw [hk, Nat.add_mul _ g.val B, Nat.add_assoc, Nat.mul_comm B, Nat.mul_assoc]
  exact congrArg (fun x => (b.val * 4096 + n.val) * x + (g.val * B + k.val)) hN

/-- A row of gains set under every row. -/
theorem gains_apply {K : ℕ} (hK : K ≠ 1) (g : FVec Ideal ⟨1, ![K]⟩ .f32) (h1 : (⟨1, ![K]⟩ : Shape).BroadcastsInDim ⟨3, ![1, 1, K]⟩ ![2])
    (h2 : (⟨3, ![1, 1, K]⟩ : Shape).BroadcastsInDim ⟨3, ![4, 4096, K]⟩ ![0, 1, 2]) (b : Fin 4) (n : Fin 4096) (c : Fin K) :
    broadcastInDim ⟨3, ![4, 4096, K]⟩ ![0, 1, 2] h2 (broadcastInDim ⟨3, ![1, 1, K]⟩ ![2] h1 g) (ix3 b n c) = g (ix1 c) :=
  (broadcastInDim_apply ![0, 1, 2] h2 _ _ (ix3 0 0 c)
    (fun a => match a with | ⟨0, _⟩ => (if_pos rfl).symm | ⟨1, _⟩ => (if_pos rfl).symm | ⟨2, _⟩ => (if_neg hK).symm)).trans
  (broadcastInDim_apply ![2] h1 g _ (ix1 c) (fun a => match a with | ⟨0, _⟩ => (if_neg hK).symm))

/-- A row's sum of squares. -/
theorem sumsq_apply {K : ℕ} (X : FVec Ideal ⟨3, ![4, 4096, K]⟩ .f32) (z : FVec Ideal ⟨0, ![]⟩ .f32) (hz : z = constant ⟨0, ![]⟩ .f32 0x00000000#32)
    (hr : (⟨3, ![4, 4096, K]⟩ : Shape).ReducesTo ([2] : List (Fin 3)) ⟨2, ![4, 4096]⟩) (h' : (⟨3, ![4, 4096, K]⟩ : Shape).Reduces ([2] : List (Fin 3)) ⟨2, ![4, 4096]⟩)
    (hu : 0 < (⟨0, ![]⟩ : Shape).numel) (b : Fin 4) (n : Fin 4096) :
    Host.reduceAdd (mulf X X) z hr hu (ix2 b n) = ∑ k : Fin K, (X (ix3 b n k) : EReal) * X (ix3 b n k) := by
  subst hz
  rw [hostReduceAdd_apply]
  refine (Ideal.hostReduceAdd_single hr h' _ _ _).trans ?_
  show Ideal.ofBits .f32 0x00000000#32 + _ = _
  rw [Math.lit_zero, zero_add]
  refine Finset.sum_congr rfl fun k _ => congrArg (fun i => (X i : EReal) * X i) (funext fun a => Fin.ext ?_)
  match a with
  | ⟨0, _⟩ => rfl
  | ⟨1, _⟩ => rfl
  | ⟨2, _⟩ => rfl

/-- Rows divided by their root mean squares, under gains. -/
def normed {K : ℕ} (X : FVec Ideal ⟨3, ![4, 4096, K]⟩ .f32) (g : FVec Ideal ⟨1, ![K]⟩ .f32) (z : FVec Ideal ⟨0, ![]⟩ .f32) (d e : FVec Ideal ⟨3, ![4, 4096, 1]⟩ .f32)
    (hr : (⟨3, ![4, 4096, K]⟩ : Shape).ReducesTo ([2] : List (Fin 3)) ⟨2, ![4, 4096]⟩) (hu : 0 < (⟨0, ![]⟩ : Shape).numel)
    (hA : (⟨2, ![4, 4096]⟩ : Shape).BroadcastsInDim ⟨3, ![4, 4096, 1]⟩ ![0, 1])
    (hB : (⟨3, ![4, 4096, 1]⟩ : Shape).BroadcastsInDim ⟨3, ![4, 4096, K]⟩ ![0, 1, 2])
    (h1 : (⟨1, ![K]⟩ : Shape).BroadcastsInDim ⟨3, ![1, 1, K]⟩ ![2])
    (h2 : (⟨3, ![1, 1, K]⟩ : Shape).BroadcastsInDim ⟨3, ![4, 4096, K]⟩ ![0, 1, 2]) : FVec Ideal ⟨3, ![4, 4096, K]⟩ .f32 :=
  mulf (mulf X (broadcastInDim ⟨3, ![4, 4096, K]⟩ ![0, 1, 2] hB
    (Host.rsqrt (addf (Host.divf (broadcastInDim ⟨3, ![4, 4096, 1]⟩ ![0, 1] hA (Host.reduceAdd (mulf X X) z hr hu)) d) e))))
    (broadcastInDim ⟨3, ![4, 4096, K]⟩ ![0, 1, 2] h2 (broadcastInDim ⟨3, ![1, 1, K]⟩ ![2] h1 g))

theorem normed_apply {K : ℕ} (hK : K ≠ 1) (X : FVec Ideal ⟨3, ![4, 4096, K]⟩ .f32) (g : FVec Ideal ⟨1, ![K]⟩ .f32) (z : FVec Ideal ⟨0, ![]⟩ .f32)
    (d e : FVec Ideal ⟨3, ![4, 4096, 1]⟩ .f32) (hr hu hA hB h1 h2) (h' : (⟨3, ![4, 4096, K]⟩ : Shape).Reduces ([2] : List (Fin 3)) ⟨2, ![4, 4096]⟩)
    (hz : z = constant ⟨0, ![]⟩ .f32 0x00000000#32) (d' : EReal) (hd : ∀ i, d i = d') (he : ∀ i, e i = Spec.eps)
    (v gg : ℕ → EReal) (b : Fin 4) (n : Fin 4096) (hX : ∀ k : Fin K, X (ix3 b n k) = v k.val) (hg : ∀ k : Fin K, g (ix1 k) = gg k.val) (c : Fin K) :
    normed X g z d e hr hu hA hB h1 h2 (ix3 b n c) = Spec.rms K d' v gg c.val := by
  unfold normed Spec.rms
  refine congrArg₂ (fun a b : EReal => a * b) (congrArg₂ (fun a b : EReal => a * b) (hX c) ?_) ((gains_apply hK g h1 h2 b n c).trans (hg c))
  refine (broadcastInDim_apply ![0, 1, 2] hB _ _ (ix3 b n 0)
    (fun a => match a with | ⟨0, _⟩ => (if_neg four).symm | ⟨1, _⟩ => (if_neg rows).symm | ⟨2, _⟩ => (if_pos rfl).symm)).trans ?_
  refine congrArg Ideal.rsqrt (congrArg₂ (fun a b : EReal => a + b) (congrArg₂ Ideal.div ?_ (hd _)) (he _))
  refine (broadcastInDim_apply ![0, 1] hA _ _ (ix2 b n)
    (fun a => match a with | ⟨0, _⟩ => (if_neg four).symm | ⟨1, _⟩ => (if_neg rows).symm)).trans ?_
  exact (sumsq_apply X z hz hr h' hu b n).trans (Finset.sum_congr rfl fun k _ => by rw [hX k])

/-- Rows moved down, zeros above. -/
theorem padRows_apply {w M N K : ℕ} (X : FVec Ideal ⟨3, ![4, M, K]⟩ .f32) (z : FVec Ideal ⟨0, ![]⟩ .f32) (hz : ∀ i, z i = 0)
    (h : (⟨3, ![4, M, K]⟩ : Shape).Pads ![0, w, 0] ![0, 0, 0] ![0, 0, 0] ⟨3, ![4, N, K]⟩) (hu : 0 < (⟨0, ![]⟩ : Shape).numel)
    (hN : N = M + w) (b : Fin 4) (n : Fin N) (c : Fin K) (v : ℕ → EReal) (hv : ∀ i : Fin M, X (ix3 b i c) = v i.val) :
    pad ⟨3, ![4, N, K]⟩ ![0, w, 0] ![0, 0, 0] ![0, 0, 0] X z h hu (ix3 b n c) = if w ≤ n.val then v (n.val - w) else 0 := by
  have hn := n.isLt
  by_cases hw : w ≤ n.val
  · rw [if_pos hw]
    refine (pad_apply_of_inside _ _ _ X z h hu _ (ix3 b (⟨n.val - w, by omega⟩ : Fin M) c) fun a => ?_).trans (hv _)
    match a with
    | ⟨0, _⟩ => show b.val = 0 + b.val * (0 + 1); omega
    | ⟨1, _⟩ => show n.val = w + (n.val - w) * (0 + 1); omega
    | ⟨2, _⟩ => show c.val = 0 + c.val * (0 + 1); omega
  · rw [if_neg hw]
    refine (pad_apply_of_not_inside _ _ _ X z h hu _ 1 fun hin => hw ?_).trans (hz _)
    exact hin.1

theorem foldl_add {n : ℕ} (f : Fin n → EReal) : (List.finRange n).foldl (fun r i => r + f i) 0 = ∑ i, f i := by
  rw [← List.foldl_map (f := f) (g := fun r x : EReal => r + x), ← List.sum_eq_foldl, ← List.ofFn_eq_map, List.sum_ofFn]

/-- The positions of a one-column window. -/
def column (T : ℕ) : Fin (T + 1) ≃ (⟨3, ![1, T + 1, 1]⟩ : Shape).Idx where
  toFun k := ix3 (0 : Fin 1) k (0 : Fin 1)
  invFun p := p 1
  left_inv _ := rfl
  right_inv p := by
    funext a
    match a with
    | ⟨0, _⟩ => exact Subsingleton.elim (α := Fin 1) _ _
    | ⟨1, _⟩ => rfl
    | ⟨2, _⟩ => exact Subsingleton.elim (α := Fin 1) _ _

/-- A running sum down the rows. -/
theorem running_apply {T K : ℕ} (X : FVec Ideal ⟨3, ![4, T + 1, K]⟩ .f32) (z : FVec Ideal ⟨0, ![]⟩ .f32) (hz : ∀ i, z i = 0)
    (h : (⟨3, ![4, T + 1, K]⟩ : Shape).ReduceWindows ![1, T + 1, 1] ![1, 1, 1] ![0, T, 0] ![0, 0, 0] ⟨3, ![4, T + 1, K]⟩)
    (hu : 0 < (⟨0, ![]⟩ : Shape).numel) (b : Fin 4) (n : Fin (T + 1)) (c : Fin K) (v : ℕ → EReal) (hv : ∀ i : Fin (T + 1), X (ix3 b i c) = v i.val) :
    Host.reduceWindowAdd ![1, T + 1, 1] ![1, 1, 1] ![0, T, 0] ![0, 0, 0] X z h hu (ix3 b n c) = ∑ k ∈ Finset.range (n.val + 1), v k := by
  have hn := n.isLt
  obtain rfl : z = fun _ => (0 : EReal) := funext hz
  show Host.reduceWindow (fun x y : EReal => x + y) ![1, T + 1, 1] ![1, 1, 1] ![0, T, 0] ![0, 0, 0] X (fun _ : (⟨0, ![]⟩ : Shape).Idx => (0 : EReal)) h hu (ix3 b n c) = _
  unfold Host.reduceWindow
  refine (foldl_add _).trans ?_
  rw [← Equiv.sum_comp ((column T).trans (⟨3, ![1, T + 1, 1]⟩ : Shape).rowMajor)]
  refine (Finset.sum_congr rfl fun k _ => ?_ : _ = ∑ k : Fin (T + 1), if T ≤ n.val + k.val then v (n.val + k.val - T) else 0).trans ?_
  · have hp : ∀ a, (⟨3, ![1, T + 1, 1]⟩ : Shape).rowMajor.symm ((⟨3, ![1, T + 1, 1]⟩ : Shape).rowMajor (column T k)) a = column T k a :=
      fun a => congrFun (Equiv.symm_apply_apply _ _) a
    have h0 : ((⟨3, ![1, T + 1, 1]⟩ : Shape).rowMajor.symm ((⟨3, ![1, T + 1, 1]⟩ : Shape).rowMajor (column T k)) 0).val = 0 := congrArg Fin.val (hp 0)
    have h1 : ((⟨3, ![1, T + 1, 1]⟩ : Shape).rowMajor.symm ((⟨3, ![1, T + 1, 1]⟩ : Shape).rowMajor (column T k)) 1).val = k.val := congrArg Fin.val (hp 1)
    have h2 : ((⟨3, ![1, T + 1, 1]⟩ : Shape).rowMajor.symm ((⟨3, ![1, T + 1, 1]⟩ : Shape).rowMajor (column T k)) 2).val = 0 := congrArg Fin.val (hp 2)
    have hk := k.isLt
    by_cases hT : T ≤ n.val + k.val
    · rw [if_pos hT]
      refine (dif_pos ?_).trans ((congrArg X ?_).trans (hv ⟨n.val + k.val - T, by omega⟩))
      · intro a
        match a with
        | ⟨0, _⟩ => exact ⟨Nat.zero_le _, by
            show b.val * 1 + ((⟨3, ![1, T + 1, 1]⟩ : Shape).rowMajor.symm ((⟨3, ![1, T + 1, 1]⟩ : Shape).rowMajor (column T k)) 0).val - 0 < 4
            omega⟩
        | ⟨1, _⟩ => exact ⟨by
            show T ≤ n.val * 1 + ((⟨3, ![1, T + 1, 1]⟩ : Shape).rowMajor.symm ((⟨3, ![1, T + 1, 1]⟩ : Shape).rowMajor (column T k)) 1).val
            omega, by
            show n.val * 1 + ((⟨3, ![1, T + 1, 1]⟩ : Shape).rowMajor.symm ((⟨3, ![1, T + 1, 1]⟩ : Shape).rowMajor (column T k)) 1).val - T < T + 1
            omega⟩
        | ⟨2, _⟩ => exact ⟨Nat.zero_le _, by
            show c.val * 1 + ((⟨3, ![1, T + 1, 1]⟩ : Shape).rowMajor.symm ((⟨3, ![1, T + 1, 1]⟩ : Shape).rowMajor (column T k)) 2).val - 0 < K
            omega⟩
      · funext a
        apply Fin.ext
        match a with
        | ⟨0, _⟩ =>
          show b.val * 1 + ((⟨3, ![1, T + 1, 1]⟩ : Shape).rowMajor.symm ((⟨3, ![1, T + 1, 1]⟩ : Shape).rowMajor (column T k)) 0).val - 0 = b.val
          omega
        | ⟨1, _⟩ =>
          show n.val * 1 + ((⟨3, ![1, T + 1, 1]⟩ : Shape).rowMajor.symm ((⟨3, ![1, T + 1, 1]⟩ : Shape).rowMajor (column T k)) 1).val - T = n.val + k.val - T
          omega
        | ⟨2, _⟩ =>
          show c.val * 1 + ((⟨3, ![1, T + 1, 1]⟩ : Shape).rowMajor.symm ((⟨3, ![1, T + 1, 1]⟩ : Shape).rowMajor (column T k)) 2).val - 0 = c.val
          omega
    · rw [if_neg hT]
      refine dif_neg fun hin => hT ?_
      have h3 : T ≤ n.val * 1 + ((⟨3, ![1, T + 1, 1]⟩ : Shape).rowMajor.symm ((⟨3, ![1, T + 1, 1]⟩ : Shape).rowMajor (column T k)) 1).val := (hin 1).1
      omega
  · rw [Fin.sum_univ_eq_sum_range (fun k => if T ≤ n.val + k then v (n.val + k - T) else 0) (T + 1),
      congrArg Finset.range (show T + 1 = (T - n.val) + (n.val + 1) by omega), Finset.sum_range_add, Finset.sum_eq_zero, zero_add]
    · refine Finset.sum_congr rfl fun k _ => ?_
      rw [if_pos (by omega)]
      exact congrArg v (by omega)
    · intro k hk
      have := Finset.mem_range.mp hk
      exact if_neg (by omega)

end Cert.Proof.RefOps
-- ==== Proof.Finite.lean ====
module

public import proofs.«01_k».proof.Proof.Args

@[expose] public section

set_option maxRecDepth 16384

noncomputable section

/-! A normed row is real, so real gains and weights give a real pooled branch; and over real rows the difference of two running sums is the sum over a window. -/

namespace Cert.Proof

open Idealize.ShloMosaic Idealize.ShloMosaic.ValueIdx

/-- The first norm's gains and the pooled columns of the input weight are real. -/
structure Args.Real (A : Args) : Prop where
  g : ∀ i, ∃ r : ℝ, A.a1 i = (r : EReal)
  w : ∀ (k : Fin 1024) (c : ℕ), c < 512 → ∃ r : ℝ, A.a2 (ix3 0 k (fn 1535 c)) = (r : EReal)

namespace Finite

theorem sum_real {ι : Type} (s : Finset ι) (f : ι → EReal) (h : ∀ i ∈ s, ∃ r : ℝ, f i = (r : EReal)) : ∃ r : ℝ, ∑ i ∈ s, f i = (r : EReal) := by
  classical
  induction s using Finset.induction_on with
  | empty => exact ⟨0, rfl⟩
  | insert a s ha ih =>
    obtain ⟨r, hr⟩ := ih fun i hi => h i (Finset.mem_insert_of_mem hi)
    obtain ⟨q, hq⟩ := h a (Finset.mem_insert_self a s)
    exact ⟨q + r, by rw [Finset.sum_insert ha, hr, hq, EReal.coe_add]⟩

theorem add_sub_self {a : EReal} (ha : ∃ r : ℝ, a = (r : EReal)) (s : EReal) : a + s - a = s := by
  obtain ⟨r, rfl⟩ := ha
  induction s with
  | bot => rfl
  | top => rfl
  | coe s => rw [← EReal.coe_add, ← EReal.coe_sub]; congr 1; ring

/-- The sum over a window as a difference of running sums. -/
theorem window (v : ℕ → EReal) (n w : ℕ) (hw : 0 < w) (hv : ∀ k ≤ n, ∃ r : ℝ, v k = (r : EReal)) :
    (∑ k ∈ Finset.range (n + 1), v k) - (if w ≤ n then ∑ k ∈ Finset.range (n - w + 1), v k else 0) = ∑ k ∈ Finset.range w, Spec.lag v k n := by
  by_cases h : w ≤ n
  · rw [if_pos h, show n + 1 = (n - w + 1) + w by omega, Finset.sum_range_add, add_sub_self, ← Finset.sum_range_reflect]
    · refine Finset.sum_congr rfl fun k hk => ?_
      have := Finset.mem_range.mp hk
      unfold Spec.lag
      rw [if_pos (by omega)]
      exact congrArg v (by omega)
    · exact sum_real _ _ fun k hk => hv k (by have := Finset.mem_range.mp hk; omega)
  · rw [if_neg h, Math.sub_zero', show w = (n + 1) + (w - (n + 1)) by omega,
      Finset.sum_range_add (fun k => Spec.lag v k n), Finset.sum_eq_zero (s := Finset.range (w - (n + 1))), add_zero, ← Finset.sum_range_reflect v]
    · refine Finset.sum_congr rfl fun k hk => ?_
      have := Finset.mem_range.mp hk
      unfold Spec.lag
      rw [if_pos (by omega)]
      exact congrArg v (by omega)
    · intro k _
      exact if_neg (by omega)

theorem eps_pos : ∃ e : ℝ, 0 < e ∧ Spec.eps = (e : EReal) := by
  unfold Spec.eps
  refine ⟨_, ?_, show Ideal.ofBits .f32 0x358637BD#32 = ((8796093 * 2 ^ (-43 : Int) : ℝ) : EReal) from ?_⟩
  · positivity
  · simp [Ideal.ofBits, Ideal.ieee, -EReal.coe_mul]

theorem c1024_eq : Spec.c1024 = ((1024 : ℝ) : EReal) := by
  unfold Spec.c1024
  simp [Ideal.ofBits, Ideal.ieee, -EReal.coe_mul]; norm_num

theorem square_nonneg (x : EReal) : 0 ≤ x * x := by
  induction x with
  | bot => exact le_top
  | top => exact le_top
  | coe r => exact_mod_cast mul_self_nonneg r

theorem square_top {x : EReal} (h : ¬ ∃ r : ℝ, x = (r : EReal)) : x * x = ⊤ := by
  induction x with
  | bot => rfl
  | top => rfl
  | coe r => exact absurd ⟨r, rfl⟩ h

/-- A row with an infinite entry is normed to zeros. -/
theorem rms_zero (v g : ℕ → EReal) (c : ℕ) (k : Fin 1024) (hk : ¬ ∃ r : ℝ, v k.val = (r : EReal)) : Spec.rms 1024 Spec.c1024 v g c = 0 := by
  have ht : ∑ k : Fin 1024, v k.val * v k.val = ⊤ := by
    refine top_le_iff.mp ?_
    rw [← square_top hk]
    exact Finset.single_le_sum (f := fun k : Fin 1024 => v k.val * v k.val) (fun _ _ => square_nonneg _) (Finset.mem_univ k)
  obtain ⟨e, _, hee⟩ := eps_pos
  have hd : Ideal.div ⊤ Spec.c1024 + Spec.eps = ⊤ := by
    rw [c1024_eq, hee]
    unfold Ideal.div
    rw [if_neg (by norm_num), ← EReal.coe_inv, EReal.top_mul_coe_of_pos (by norm_num), EReal.top_add_of_ne_bot (EReal.coe_ne_bot e)]
  unfold Spec.rms
  rw [ht, hd]
  show v c * 0 * g c = 0
  rw [mul_zero, zero_mul]

theorem rms_real (v g : ℕ → EReal) (c : Fin 1024) (hg : ∃ r : ℝ, g c.val = (r : EReal)) :
    ∃ r : ℝ, Spec.rms 1024 Spec.c1024 v g c.val = (r : EReal) := by
  by_cases hv : ∀ k : Fin 1024, ∃ r : ℝ, v k.val = (r : EReal)
  swap
  · obtain ⟨k, hk⟩ := not_forall.mp hv
    exact ⟨0, rms_zero v g c.val k hk⟩
  choose r hr using hv
  obtain ⟨q, hq⟩ := hg
  obtain ⟨e, he, hee⟩ := eps_pos
  have hs : ∀ s : Finset (Fin 1024), ∑ k ∈ s, v k.val * v k.val = ((∑ k ∈ s, r k * r k : ℝ) : EReal) := by
    intro s
    classical
    induction s using Finset.induction_on with
    | empty => rfl
    | insert a s ha ih => rw [Finset.sum_insert ha, Finset.sum_insert ha, ih, hr, ← EReal.coe_mul, EReal.coe_add]
  have h0 : (0 : ℝ) ≤ ∑ k : Fin 1024, r k * r k := Finset.sum_nonneg fun k _ => mul_self_nonneg _
  have hd : Ideal.div (∑ k : Fin 1024, v k.val * v k.val) Spec.c1024 + Spec.eps
      = (((∑ k : Fin 1024, r k * r k) * (1024 : ℝ)⁻¹ + e : ℝ) : EReal) := by
    rw [hs, c1024_eq, hee]
    unfold Ideal.div
    rw [if_neg (by norm_num), ← EReal.coe_inv, ← EReal.coe_mul, ← EReal.coe_add]
  have hp : (0 : ℝ) < (∑ k : Fin 1024, r k * r k) * (1024 : ℝ)⁻¹ + e := by positivity
  refine ⟨r c * (Real.sqrt ((∑ k : Fin 1024, r k * r k) * (1024 : ℝ)⁻¹ + e))⁻¹ * q, ?_⟩
  unfold Spec.rms
  rw [hd, hr, hq]
  show (r c : EReal) * (if _ then _ else if _ then _ else _) * (q : EReal) = _
  rw [if_neg (not_lt.mpr hp.le), if_neg hp.ne', ← EReal.coe_mul, ← EReal.coe_mul]

theorem U_real {A : Args} (hA : A.Real) (b n : ℕ) {c : ℕ} (hc : c < 512) : ∃ r : ℝ, Spec.U (par A b) n c = (r : EReal) := by
  unfold Spec.U Spec.dot
  refine sum_real _ _ fun k _ => ?_
  obtain ⟨q, hq⟩ := rms_real ((par A b).x n) (par A b).n1 k (hA.g _)
  obtain ⟨w, hw⟩ := hA.w (fn 1023 k.val) c hc
  refine ⟨q * w, ?_⟩
  rw [hq, EReal.coe_mul]
  exact congrArg (fun x : EReal => (q : EReal) * x) hw

/-- The count of the rows in the window, as the reference makes it. -/
theorem count (n : ℕ) : (1 : EReal) + (((n : ℤ) : ℝ) : EReal) = (((n + 1 : ℕ) : ℝ) : EReal) := by
  rw [← EReal.coe_one, ← EReal.coe_add]
  congr 1
  push_cast
  ring

end Finite

end Cert.Proof
-- ==== Proof.RefVals.lean ====
module

public import proofs.«01_k».proof.Proof.RefOps
public import proofs.«01_k».proof.Proof.Finite
public import proofs.«01_k».proof.Proof.Gen.ReferenceIdeal.Step

@[expose] public section

set_option maxRecDepth 16384

noncomputable section

/-! What the reference prepares before its loop, read at a sequence, a row and a column. -/

namespace Cert.Proof.RefVals

open Idealize.ShloMosaic hiding ix1 ix2 ix3 ix4
open Idealize.ShloMosaic.ValueIdx Cert.Proof Cert.Proof.RefOps
open Cert.ReferenceIdeal.Step

/-- A value of the first twelve arguments. -/
abbrev on {s : Shape} (A : Args) (f : BufTy.Contents (Elt Ideal) ⟨⟨3, ![4, 4096, 1024]⟩, .f32⟩
    → BufTy.Contents (Elt Ideal) ⟨⟨2, ![1, 1024]⟩, .f32⟩
    → BufTy.Contents (Elt Ideal) ⟨⟨3, ![1, 1024, 1536]⟩, .f32⟩
    → BufTy.Contents (Elt Ideal) ⟨⟨4, ![1, 4, 128, 128]⟩, .f32⟩
    → BufTy.Contents (Elt Ideal) ⟨⟨2, ![1, 512]⟩, .f32⟩
    → BufTy.Contents (Elt Ideal) ⟨⟨3, ![1, 4, 512]⟩, .f32⟩
    → BufTy.Contents (Elt Ideal) ⟨⟨2, ![1, 512]⟩, .f32⟩
    → BufTy.Contents (Elt Ideal) ⟨⟨4, ![1, 8, 64, 64]⟩, .f32⟩
    → BufTy.Contents (Elt Ideal) ⟨⟨2, ![1, 512]⟩, .f32⟩
    → BufTy.Contents (Elt Ideal) ⟨⟨4, ![1, 8, 64, 64]⟩, .f32⟩
    → BufTy.Contents (Elt Ideal) ⟨⟨2, ![1, 512]⟩, .f32⟩
    → BufTy.Contents (Elt Ideal) ⟨⟨2, ![1, 512]⟩, .f32⟩
    → BufTy.Contents (Elt Ideal) ⟨s, .f32⟩) : FVec Ideal s .f32 :=
  f A.a0 A.a1 A.a2 A.a3 A.a4 A.a5 A.a6 A.a7 A.a8 A.a9 A.a10 A.a11

variable (A : Args) (b : Fin 4) (n : Fin 4096)

theorem par_x (k : Fin 1024) : (par A b.val).x n.val k.val = A.a0 (ix3 b n k) := by
  show A.a0 (ix3 (fn 3 b) (fn 4095 n) (fn 1023 k)) = _
  rw [fn_val, fn_val, fn_val]

theorem v13_eq : on A A_main_v13 = normed A.a0 (on A A_main_v0) (K_main_cst (F := Ideal)) (K_main_v4 (F := Ideal)) (K_main_v6 (F := Ideal)) (by decide) (by decide) (by decide) (by decide) (by decide) (by decide) := by
  delta on A_main_v13 A_main_v12 A_main_v11 A_main_v10 A_main_v9 A_main_v8 A_main_v7 A_main_v5 A_main_v3 A_main_v2 A_main_v1 normed
  rfl

theorem v13_apply (k : Fin 1024) : on A A_main_v13 (ix3 b n k) = Spec.rms 1024 Spec.c1024 ((par A b).x n) (par A b).n1 k := by
  rw [v13_eq]
  refine normed_apply (by decide) A.a0 (on A A_main_v0) (K_main_cst (F := Ideal)) (K_main_v4 (F := Ideal)) (K_main_v6 (F := Ideal)) _ _ _ _ _ _ (by decide) rfl Spec.c1024 (fun _ => rfl) (fun _ => rfl)
    _ _ b n (fun k => (par_x A b n k).symm) (fun k => ?_) k
  refine (shapeCast_1a_a_apply _ _ _).trans ?_
  show _ = A.a1 (ix2 0 (fn 1023 k))
  rw [fn_val]

theorem U_apply (c : Fin 1536) : on A A_main_v15 (ix3 b n c) = Spec.U (par A b) n c := by
  unfold Spec.U Spec.dot
  refine (wide_apply _ (on A A_main_v13) (on A A_main_v14) b n c).trans (Finset.sum_congr rfl fun k _ => ?_)
  refine congrArg₂ (fun a b : EReal => a * b) (v13_apply A b n k) ?_
  refine (shapeCast_1ab_ab_apply _ _ _ _).trans ?_
  show _ = A.a2 (ix3 0 (fn 1023 k) (fn 1535 c))
  rw [fn_val, fn_val]

/-- Some of the columns. -/
theorem cols_apply {M N K : ℕ} (off : ℕ) (X : FVec Ideal ⟨3, ![4, M, N]⟩ .f32) (h : (⟨3, ![4, M, N]⟩ : Shape).Slices ![0, 0, off] ⟨3, ![4, M, K]⟩)
    (b : Fin 4) (n : Fin M) (c : Fin K) (k : Fin N) (hk : k.val = off + c.val) :
    extractStridedSlice ⟨3, ![4, M, K]⟩ ![0, 0, off] X h (ix3 b n c) = X (ix3 b n k) :=
  extractStridedSlice_apply _ X h _ _ fun a => match a with
    | ⟨0, _⟩ => (Nat.zero_add _).symm | ⟨1, _⟩ => (Nat.zero_add _).symm | ⟨2, _⟩ => hk

/-- Some of the rows. -/
theorem some_rows_apply {M N K : ℕ} (off : ℕ) (X : FVec Ideal ⟨3, ![4, M, K]⟩ .f32) (h : (⟨3, ![4, M, K]⟩ : Shape).Slices ![0, off, 0] ⟨3, ![4, N, K]⟩)
    (b : Fin 4) (n : Fin N) (c : Fin K) (k : Fin M) (hk : k.val = off + n.val) :
    extractStridedSlice ⟨3, ![4, N, K]⟩ ![0, off, 0] X h (ix3 b n c) = X (ix3 b k c) :=
  extractStridedSlice_apply _ X h _ _ fun a => match a with
    | ⟨0, _⟩ => (Nat.zero_add _).symm | ⟨1, _⟩ => hk | ⟨2, _⟩ => (Nat.zero_add _).symm

theorem pool_in_apply (c : Fin 512) : on A A_main_v16 (ix3 b n c) = Spec.U (par A b) n c :=
  (cols_apply 0 _ _ b n c (⟨c.val, by omega⟩ : Fin 1536) (Nat.zero_add _).symm).trans (U_apply A b n _)

theorem conv_in_apply (c : Fin 512) : on A A_main_v17 (ix3 b n c) = Spec.U (par A b) n (512 + c) :=
  (cols_apply 512 _ _ b n c (⟨512 + c.val, by omega⟩ : Fin 1536) rfl).trans (U_apply A b n _)

theorem gate_in_apply (c : Fin 512) : on A A_main_v18 (ix3 b n c) = Spec.U (par A b) n (1024 + c) :=
  (cols_apply 1024 _ _ b n c (⟨1024 + c.val, by omega⟩ : Fin 1536) rfl).trans (U_apply A b n _)

/-! The pooling. -/

/-- A window's mean less the row, as the difference of two running sums over a count. -/
theorem pool_apply {w M : ℕ} (hM : 4096 = M + w) (hw : 0 < w) (X cnt : FVec Ideal ⟨3, ![4, 4096, 128]⟩ .f32) (z z' : FVec Ideal ⟨0, ![]⟩ .f32)
    (hz : ∀ i, z i = 0) (hz' : ∀ i, z' i = 0)
    (h1 : (⟨3, ![4, 4096, 128]⟩ : Shape).ReduceWindows ![1, 4096, 1] ![1, 1, 1] ![0, 4095, 0] ![0, 0, 0] ⟨3, ![4, 4096, 128]⟩)
    (hu : 0 < (⟨0, ![]⟩ : Shape).numel) (h2 : (⟨3, ![4, 4096, 128]⟩ : Shape).Slices ![0, 0, 0] ⟨3, ![4, M, 128]⟩)
    (h3 : (⟨3, ![4, M, 128]⟩ : Shape).Pads ![0, w, 0] ![0, 0, 0] ![0, 0, 0] ⟨3, ![4, 4096, 128]⟩) (b : Fin 4) (n : Fin 4096) (c : Fin 128)
    (v : ℕ → EReal) (hv : ∀ i : Fin 4096, X (ix3 b i c) = v i.val) (hr : ∀ k ≤ n.val, ∃ r : ℝ, v k = (r : EReal)) (q : EReal) (hc : cnt (ix3 b n c) = q) :
    subf (Host.divf (subf (Host.reduceWindowAdd ![1, 4096, 1] ![1, 1, 1] ![0, 4095, 0] ![0, 0, 0] X z h1 hu)
      (pad ⟨3, ![4, 4096, 128]⟩ ![0, w, 0] ![0, 0, 0] ![0, 0, 0] (extractStridedSlice ⟨3, ![4, M, 128]⟩ ![0, 0, 0]
        (Host.reduceWindowAdd ![1, 4096, 1] ![1, 1, 1] ![0, 4095, 0] ![0, 0, 0] X z h1 hu) h2) z' h3 hu)) cnt) X (ix3 b n c)
      = Ideal.div (∑ k ∈ Finset.range w, Spec.lag v k n) q - v n := by
  have hs := fun i => running_apply (T := 4095) X z hz h1 hu b i c v hv
  refine congrArg₂ (fun a b : EReal => a - b) (congrArg₂ Ideal.div ?_ hc) (hv n)
  refine (congrArg₂ (fun a b : EReal => a - b) (hs n) ?_).trans (Finite.window v n w hw hr)
  refine padRows_apply _ z' hz' h3 hu hM b n c (fun i => ∑ k ∈ Finset.range (i + 1), v k) fun i => ?_
  exact (some_rows_apply 0 _ h2 b i c (⟨i.val, by omega⟩ : Fin 4096) (Nat.zero_add _).symm).trans (hs _)

theorem position_apply (i : (⟨3, ![1, 4096, 1]⟩ : Shape).Idx) (hi : (i 1).val = n.val) : K_main_v24 (F := Ideal) i = (((n.val + 1 : ℕ) : ℝ) : EReal) := by
  refine (broadcastInDim_apply ![1] _ _ _ (ix1 n) (fun a => match a with | ⟨0, _⟩ => ?_)).trans ?_
  · exact hi.symm.trans (if_neg rows).symm
  · refine Eq.trans ?_ (Finite.count n.val)
    refine congrArg₂ (fun a b : EReal => a + b) Math.lit_one ?_
    show (((BitVec.ofNat 32 n.val).toInt : ℝ) : EReal) = _
    rw [Idealize.ShloMosaic.toInt_ofNat_of_lt (by omega)]

theorem count_apply (t : FVec Ideal ⟨3, ![1, 4096, 1]⟩ .f32) (w : ℝ) (ht : ∀ i, t i = (w : EReal))
    (h : (⟨3, ![1, 4096, 1]⟩ : Shape).BroadcastsInDim ⟨3, ![4, 4096, 128]⟩ ![0, 1, 2]) (c : Fin 128) :
    broadcastInDim ⟨3, ![4, 4096, 128]⟩ ![0, 1, 2] h (minimumf (K_main_v24 (F := Ideal)) t) (ix3 b n c) = min (((n.val + 1 : ℕ) : ℝ) : EReal) (w : EReal) := by
  refine (broadcastInDim_apply ![0, 1, 2] h _ _ (ix3 0 n 0)
    (fun a => match a with | ⟨0, _⟩ => (if_pos rfl).symm | ⟨1, _⟩ => (if_neg rows).symm | ⟨2, _⟩ => (if_pos rfl).symm)).trans ?_
  exact congrArg₂ (fun a b : EReal => min a b) (position_apply n _ rfl) (ht _)

theorem pad_zero : (Scalar.sitofp .f32 (0#32 : BitVec 32) : Ideal .f32) = (0 : EReal) := by
  show (((0#32 : BitVec 32).toInt : ℝ) : EReal) = 0
  simp

variable {A}

/-- Group `g` of the pooled columns. -/
theorem group_in_apply (g : Fin 4) (c : Fin 128) (off : ℕ) (ho : off = 128 * g.val) (h : (⟨3, ![4, 4096, 512]⟩ : Shape).Slices ![0, 0, off] ⟨3, ![4, 4096, 128]⟩) :
    extractStridedSlice ⟨3, ![4, 4096, 128]⟩ ![0, 0, off] (on A A_main_v16) h (ix3 b n c) = Spec.U (par A b) n (128 * g.val + c.val) := by
  subst ho
  exact (cols_apply _ _ h b n c (⟨128 * g.val + c.val, by omega⟩ : Fin 512) rfl).trans (pool_in_apply A b n _)

theorem D_eq (P : Spec.Par) (n g c w : ℕ) (hc : c < 128) (hw : w = 2 ^ (g + 1)) :
    Ideal.div (∑ k ∈ Finset.range w, Spec.lag (fun m => Spec.U P m (128 * g + c)) k n) (min (((n + 1 : ℕ) : ℝ) : EReal) ((w : ℝ) : EReal)) - Spec.U P n (128 * g + c)
      = Spec.D P n (128 * g + c) := by
  unfold Spec.D
  rw [show (128 * g + c) / 128 = g by omega, hw]

theorem group0_apply (hA : A.Real) (c : Fin 128) : on A A_main_v34 (ix3 b n c) = Spec.D (par A b) n (128 * 0 + c) :=
  (pool_apply (w := 2) (M := 4094) rfl (by decide) (on A A_main_v25) (K_main_v32 (F := Ideal)) (K_main_call0_call0_v0 (F := Ideal)) (K_main_call1_v0 (F := Ideal)) (fun _ => Math.lit_zero) (fun _ => pad_zero) _ _ _ _ b n c (fun m => Spec.U (par A b) m (128 * 0 + c.val))
    (fun i => group_in_apply b i 0 c 0 rfl _) (fun k _ => Finite.U_real hA b k (by omega)) _ (count_apply b n (K_main_v30 (F := Ideal)) ((2 : ℕ) : ℝ) (fun _ => Math.lit_two) _ c)).trans
    (D_eq (par A b) n 0 c 2 c.isLt rfl)

theorem group1_apply (hA : A.Real) (c : Fin 128) : on A A_main_v44 (ix3 b n c) = Spec.D (par A b) n (128 * 1 + c) :=
  (pool_apply (w := 4) (M := 4092) rfl (by decide) (on A A_main_v35) (K_main_v42 (F := Ideal)) (K_main_call2_call0_v0 (F := Ideal)) (K_main_call3_v0 (F := Ideal)) (fun _ => Math.lit_zero) (fun _ => pad_zero) _ _ _ _ b n c (fun m => Spec.U (par A b) m (128 * 1 + c.val))
    (fun i => group_in_apply b i 1 c 128 rfl _) (fun k _ => Finite.U_real hA b k (by omega)) _ (count_apply b n (K_main_v40 (F := Ideal)) ((4 : ℕ) : ℝ) (fun _ => Math.lit_four) _ c)).trans
    (D_eq (par A b) n 1 c 4 c.isLt rfl)

theorem group2_apply (hA : A.Real) (c : Fin 128) : on A A_main_v54 (ix3 b n c) = Spec.D (par A b) n (128 * 2 + c) :=
  (pool_apply (w := 8) (M := 4088) rfl (by decide) (on A A_main_v45) (K_main_v52 (F := Ideal)) (K_main_call4_call0_v0 (F := Ideal)) (K_main_call5_v0 (F := Ideal)) (fun _ => Math.lit_zero) (fun _ => pad_zero) _ _ _ _ b n c (fun m => Spec.U (par A b) m (128 * 2 + c.val))
    (fun i => group_in_apply b i 2 c 256 rfl _) (fun k _ => Finite.U_real hA b k (by omega)) _ (count_apply b n (K_main_v50 (F := Ideal)) ((8 : ℕ) : ℝ) (fun _ => Math.lit_eight) _ c)).trans
    (D_eq (par A b) n 2 c 8 c.isLt rfl)

theorem group3_apply (hA : A.Real) (c : Fin 128) : on A A_main_v64 (ix3 b n c) = Spec.D (par A b) n (128 * 3 + c) :=
  (pool_apply (w := 16) (M := 4080) rfl (by decide) (on A A_main_v55) (K_main_v62 (F := Ideal)) (K_main_call6_call0_v0 (F := Ideal)) (K_main_call7_v0 (F := Ideal)) (fun _ => Math.lit_zero) (fun _ => pad_zero) _ _ _ _ b n c (fun m => Spec.U (par A b) m (128 * 3 + c.val))
    (fun i => group_in_apply b i 3 c 384 rfl _) (fun k _ => Finite.U_real hA b k (by omega)) _ (count_apply b n (K_main_v60 (F := Ideal)) ((16 : ℕ) : ℝ) (fun _ => Math.lit_sixteen) _ c)).trans
    (D_eq (par A b) n 3 c 16 c.isLt rfl)

end Cert.Proof.RefVals
-- ==== Proof.RefPrep.lean ====
module

public import proofs.«01_k».proof.Proof.RefVals

@[expose] public section

set_option maxRecDepth 16384

noncomputable section

/-! The four arrays the reference's loop reads: the pooled branch, the decay, the gated input and the output gate. -/

namespace Cert.Proof.RefVals

open Idealize.ShloMosaic hiding ix1 ix2 ix3 ix4
open Idealize.ShloMosaic.ValueIdx Cert.Proof Cert.Proof.RefOps
open Cert.ReferenceIdeal.Step

variable {A : Args} (b : Fin 4) (n : Fin 4096)

/-- A group set as a slab of one. -/
theorem slab_apply (X : FVec Ideal ⟨3, ![4, 4096, 128]⟩ .f32) (h : (⟨3, ![4, 4096, 128]⟩ : Shape).BroadcastsInDim ⟨4, ![4, 4096, 1, 128]⟩ ![0, 1, 3])
    (k : Fin 128) : broadcastInDim ⟨4, ![4, 4096, 1, 128]⟩ ![0, 1, 3] h X (ix4 b n 0 k) = X (ix3 b n k) :=
  broadcastInDim_apply ![0, 1, 3] h X _ _
    (fun a => match a with | ⟨0, _⟩ => (if_neg four).symm | ⟨1, _⟩ => (if_neg rows).symm | ⟨2, _⟩ => (if_neg (show ¬ (128 : ℕ) = 1 by decide)).symm)

theorem slabs_apply (f : Fin 4 → FVec Ideal ⟨4, ![4, 4096, 1, 128]⟩ .f32)
    (h : Shape.Concatenates [⟨4, ![4, 4096, 1, 128]⟩, ⟨4, ![4, 4096, 1, 128]⟩, ⟨4, ![4, 4096, 1, 128]⟩, ⟨4, ![4, 4096, 1, 128]⟩] ⟨4, ![4, 4096, 4, 128]⟩ 2)
    (g : Fin 4) (k : Fin 128) :
    concatenate ⟨4, ![4, 4096, 4, 128]⟩ 2 [⟨⟨4, ![4, 4096, 1, 128]⟩, f 0⟩, ⟨⟨4, ![4, 4096, 1, 128]⟩, f 1⟩, ⟨⟨4, ![4, 4096, 1, 128]⟩, f 2⟩, ⟨⟨4, ![4, 4096, 1, 128]⟩, f 3⟩] h (ix4 b n g k)
      = f g (ix4 b n 0 k) := by
  refine concatenate_ofFn_unit_apply (s₁ := ⟨4, ![4, 4096, 1, 128]⟩) (t := ⟨4, ![4, 4096, 4, 128]⟩) 2 f h rfl rfl (ix4 b n g k) g rfl (ix4 b n 0 k) fun a ha => ?_
  match a with
  | ⟨0, _⟩ => rfl
  | ⟨1, _⟩ => rfl
  | ⟨2, _⟩ => exact absurd rfl ha
  | ⟨3, _⟩ => rfl

theorem groups_apply (hA : A.Real) (g : Fin 4) (k : Fin 128) : on A A_main_v69 (ix4 b n g k) = Spec.D (par A b) n (128 * g + k) := by
  refine (slabs_apply b n ![on A A_main_v65, on A A_main_v66, on A A_main_v67, on A A_main_v68] _ g k).trans ?_
  match g with
  | ⟨0, _⟩ => exact (slab_apply b n (on A A_main_v34) (by decide) k).trans (group0_apply b n hA k)
  | ⟨1, _⟩ => exact (slab_apply b n (on A A_main_v44) (by decide) k).trans (group1_apply b n hA k)
  | ⟨2, _⟩ => exact (slab_apply b n (on A A_main_v54) (by decide) k).trans (group2_apply b n hA k)
  | ⟨3, _⟩ => exact (slab_apply b n (on A A_main_v64) (by decide) k).trans (group3_apply b n hA k)

/-- A weight's row under every row. -/
theorem row_gains (w : FVec Ideal ⟨2, ![1, 512]⟩ .f32) (h : (⟨2, ![1, 512]⟩ : Shape).ShapeCasts ⟨1, ![512]⟩)
    (h1 : (⟨1, ![512]⟩ : Shape).BroadcastsInDim ⟨3, ![1, 1, 512]⟩ ![2]) (h2 : (⟨3, ![1, 1, 512]⟩ : Shape).BroadcastsInDim ⟨3, ![4, 4096, 512]⟩ ![0, 1, 2])
    (c : Fin 512) : broadcastInDim ⟨3, ![4, 4096, 512]⟩ ![0, 1, 2] h2 (broadcastInDim ⟨3, ![1, 1, 512]⟩ ![2] h1 (shapeCast ⟨1, ![512]⟩ w h)) (ix3 b n c)
      = w (ix2 0 (fn 511 c)) := by
  refine (gains_apply (by decide) _ h1 h2 b n c).trans ((shapeCast_1a_a_apply _ _ _).trans ?_)
  rw [fn_val]

/-- The pooled branch. -/
theorem YP_apply (hA : A.Real) (c : Fin 512) : on A A_main_v75 (ix3 b n c) = Spec.YP (par A b) n c := by
  unfold Spec.YP
  refine congrArg₂ (fun a b : EReal => a * b) ?_ (row_gains b n A.a4 _ _ _ c)
  refine (ungroup_apply (G := 4) (B := 128) rfl (on A A_main_v70) _ _ b n c (⟨c.val / 128, by omega⟩ : Fin 4) (⟨c.val % 128, by omega⟩ : Fin 128) rfl rfl).trans ?_
  refine (grouped_apply _ (on A A_main_v19) (on A A_main_v69) _ _ b n).trans (Finset.sum_congr rfl fun k _ => ?_)
  refine congrArg₂ (fun a b : EReal => a * b) (groups_apply b n hA _ k) ((shapeCast_1abc_abc_apply _ _ _ _ _).trans ?_)
  show _ = A.a3 (ix4 0 (fn 3 (c.val / 128)) (fn 127 k) (fn 127 (c.val % 128)))
  rw [fn_val, fn_mk (by omega : c.val / 128 < 3 + 1), fn_mk (by omega : c.val % 128 < 127 + 1)]

/-! The convolution. -/

theorem tap_apply (j : ℕ) (hj : j < 4) (w : FVec Ideal ⟨2, ![4, 512]⟩ .f32) (hs : (⟨2, ![4, 512]⟩ : Shape).Slices ![j, 0] ⟨2, ![1, 512]⟩)
    (h : (⟨2, ![1, 512]⟩ : Shape).ShapeCasts ⟨1, ![512]⟩)
    (h1 : (⟨1, ![512]⟩ : Shape).BroadcastsInDim ⟨3, ![1, 1, 512]⟩ ![2]) (h2 : (⟨3, ![1, 1, 512]⟩ : Shape).BroadcastsInDim ⟨3, ![4, 4096, 512]⟩ ![0, 1, 2])
    (hw : w = on A A_main_v76) (c : Fin 512) :
    broadcastInDim ⟨3, ![4, 4096, 512]⟩ ![0, 1, 2] h2 (broadcastInDim ⟨3, ![1, 1, 512]⟩ ![2] h1 (shapeCast ⟨1, ![512]⟩ (extractStridedSlice ⟨2, ![1, 512]⟩ ![j, 0] w hs) h)) (ix3 b n c)
      = (par A b).cw j c := by
  subst hw
  refine (row_gains b n _ h h1 h2 c).trans ?_
  refine (extractStridedSlice_apply _ _ hs _ (ix2 (⟨j, hj⟩ : Fin 4) c) (fun a => ?_)).trans ((shapeCast_1ab_ab_apply _ _ _ _).trans ?_)
  · match a with
    | ⟨0, _⟩ => exact (Nat.add_zero j).symm
    | ⟨1, _⟩ => show c.val = 0 + (fn 511 c).val; rw [fn_val, Nat.zero_add]
  · show _ = A.a5 (ix3 0 (fn 3 j) (fn 511 c))
    rw [fn_val, fn_mk (by omega : j < 3 + 1)]

theorem shifted_apply (j : ℕ) (hj : j < 4) (h : (⟨3, ![4, 4099, 512]⟩ : Shape).Slices ![0, j, 0] ⟨3, ![4, 4096, 512]⟩) (c : Fin 512) :
    extractStridedSlice ⟨3, ![4, 4096, 512]⟩ ![0, j, 0] (on A A_main_v78) h (ix3 b n c) = Spec.lag (fun m => Spec.U (par A b) m (512 + c)) (3 - j) n := by
  refine (some_rows_apply j _ h b n c (⟨j + n.val, by omega⟩ : Fin 4099) rfl).trans ?_
  refine (padRows_apply (w := 3) (M := 4096) (on A A_main_v17) (K_main_call8_v0 (F := Ideal)) (fun _ => pad_zero) _ _ rfl b _ c
    (fun m => Spec.U (par A b) m (512 + c)) (fun i => conv_in_apply A b i c)).trans ?_
  unfold Spec.lag
  by_cases h3 : 3 - j ≤ n.val
  · rw [if_pos h3, if_pos (show 3 ≤ j + n.val by omega)]
    exact congrArg (fun m => Spec.U (par A b) m (512 + c)) (show j + n.val - 3 = n.val - (3 - j) by omega)
  · rw [if_neg h3, if_neg (show ¬ 3 ≤ j + n.val by omega)]

theorem XC_apply (c : Fin 512) : on A A_main_v108 (ix3 b n c) = Spec.XC (par A b) n c := by
  unfold Spec.XC
  refine congrArg₂ (fun a b : EReal => a + b) (congrArg₂ (fun a b : EReal => a + b) (congrArg₂ (fun a b : EReal => a + b) (congrArg₂ (fun a b : EReal => a + b)
    (congrArg₂ (fun a b : EReal => a * b) (shifted_apply b n 0 (by decide) _ c) (tap_apply b n 0 (by decide) _ _ _ _ _ rfl c))
    (congrArg₂ (fun a b : EReal => a * b) (shifted_apply b n 1 (by decide) _ c) (tap_apply b n 1 (by decide) _ _ _ _ _ rfl c)))
    (congrArg₂ (fun a b : EReal => a * b) (shifted_apply b n 2 (by decide) _ c) (tap_apply b n 2 (by decide) _ _ _ _ _ rfl c)))
    (congrArg₂ (fun a b : EReal => a * b) ((shifted_apply b n 3 (by decide) _ c).trans (if_pos (Nat.zero_le _))) (tap_apply b n 3 (by decide) _ _ _ _ _ rfl c)))
    (row_gains b n A.a6 _ _ _ c)

/-! The gates. -/

theorem gate_apply (o : ℕ) (W : FVec Ideal ⟨4, ![1, 8, 64, 64]⟩ .f32) (v : FVec Ideal ⟨2, ![1, 512]⟩ .f32) (hW : W = if o = 0 then A.a7 else A.a9)
    (hv : v = if o = 0 then A.a8 else A.a10) (wf hs ht hc h h1 h2) (one one' : FVec Ideal ⟨3, ![4, 4096, 512]⟩ .f32) (ho : ∀ i, one i = (1 : EReal))
    (ho' : ∀ i, one' i = (1 : EReal)) (c : Fin 512) :
    Host.divf one (addf one' (Host.exp (Host.negf (addf (shapeCast ⟨3, ![4, 4096, 512]⟩ (transpose ⟨4, ![4, 4096, 8, 64]⟩ [2, 3, 0, 1]
      (Host.dotGeneral (grouped 8 64 wf) none (shapeCast ⟨3, ![8, 64, 64]⟩ W hs) (on A A_main_v114)) ht) hc)
      (broadcastInDim ⟨3, ![4, 4096, 512]⟩ ![0, 1, 2] h2 (broadcastInDim ⟨3, ![1, 1, 512]⟩ ![2] h1 (shapeCast ⟨1, ![512]⟩ v h))))))) (ix3 b n c)
      = Spec.gate (par A b) o n c := by
  unfold Spec.gate Math.sigm
  refine congrArg₂ Ideal.div (ho _) (congrArg₂ (fun a b : EReal => a + b) (ho' _) (congrArg (fun x : EReal => Ideal.exp (-x)) ?_))
  refine congrArg₂ (fun a b : EReal => a + b) ?_ ((row_gains b n v h h1 h2 c).trans (congrFun hv _))
  refine (ungroup_apply (G := 8) (B := 64) rfl _ ht hc b n c (⟨c.val / 64, by omega⟩ : Fin 8) (⟨c.val % 64, by omega⟩ : Fin 64) rfl rfl).trans ?_
  refine (grouped_apply wf _ (on A A_main_v114) _ _ b n).trans (Finset.sum_congr rfl fun k _ => ?_)
  refine congrArg₂ (fun a b : EReal => a * b) ?_ ((shapeCast_1abc_abc_apply _ _ _ _ _).trans ?_)
  · exact (group_apply (G := 8) (B := 64) rfl (on A A_main_v108) _ b n _ k (⟨64 * (c.val / 64) + k.val, by omega⟩ : Fin 512) rfl).trans (XC_apply b n _)
  · show _ = (if o = 0 then A.a7 else A.a9) (ix4 0 (fn 7 (c.val / 64)) (fn 63 k) (fn 63 (c.val % 64)))
    rw [hW, fn_val, fn_mk (by omega : c.val / 64 < 7 + 1), fn_mk (by omega : c.val % 64 < 63 + 1)]

theorem gate0_apply (c : Fin 512) : on A A_main_v126 (ix3 b n c) = Spec.gate (par A b) 0 n c :=
  gate_apply b n 0 A.a7 A.a8 rfl rfl _ _ _ _ _ _ _ (K_main_v125 (F := Ideal)) (K_main_v123 (F := Ideal)) (fun _ => Math.lit_one) (fun _ => Math.lit_one) c

theorem gate1_apply (c : Fin 512) : on A A_main_v138 (ix3 b n c) = Spec.gate (par A b) 1 n c :=
  gate_apply b n 1 A.a9 A.a10 rfl rfl _ _ _ _ _ _ _ (K_main_v137 (F := Ideal)) (K_main_v135 (F := Ideal)) (fun _ => Math.lit_one) (fun _ => Math.lit_one) c

theorem softplus_apply (c : Fin 512) : on A A_main_v142 (ix1 c) = Math.softplus ((par A b).lam c) := by
  have hl : on A A_main_v141 (ix1 c) = -((par A b).lam c) := by
    refine congrArg (fun x : EReal => -x) ((shapeCast_1a_a_apply _ _ _).trans ?_)
    show _ = A.a11 (ix2 0 (fn 511 c))
    rw [fn_val]
  have hd : on A A_main_call9_v3 (ix1 c) = -((par A b).lam c) :=
    (congrArg₂ (fun a b : EReal => a - b) hl Math.lit_zero).trans (Math.sub_zero' _)
  have hq : on A A_main_call9_v11 (ix1 c) = Math.softplus ((par A b).lam c) := by
    unfold Math.softplus
    refine congrArg₂ (fun a b : EReal => a + b) (congrArg₂ (fun a b : EReal => max a b) hl Math.lit_zero) ?_
    exact congrArg (fun x : EReal => Ideal.log1p (Ideal.exp (-(max x (-x))))) hd
  refine Eq.trans ?_ hq
  show (if Ideal.cmp .une (on A A_main_call9_v3 (ix1 c)) (on A A_main_call9_v3 (ix1 c)) = 1#1 then _ else _) = _
  rw [if_neg]
  · simp [Ideal.cmp]

theorem LA_apply (c : Fin 512) : on A A_main_v145 (ix3 b n c) = Spec.LA (par A b) n c := by
  unfold Spec.LA
  refine congrArg₂ (fun a b : EReal => a * b) (congrArg₂ (fun a b : EReal => a * b) Math.lit_neg_eight (gate0_apply b n c)) ?_
  exact (gains_apply (by decide) (on A A_main_v142) _ _ b n c).trans (softplus_apply b c)

theorem A_apply (c : Fin 512) : on A A_main_v146 (ix3 b n c) = Spec.A (par A b) n c :=
  congrArg Ideal.exp (LA_apply b n c)

theorem B_apply (c : Fin 512) : on A A_main_v155 (ix3 b n c) = Spec.B (par A b) n c := by
  unfold Spec.B
  refine congrArg₂ (fun a b : EReal => a * b) (congrArg Ideal.sqrt (congrArg₂ (fun a b : EReal => max a b) ?_ Math.lit_zero))
    (congrArg₂ (fun a b : EReal => a * b) (gate1_apply b n c) (XC_apply b n c))
  exact congrArg (fun x : EReal => -(Ideal.exp x - 1)) (congrArg₂ (fun a b : EReal => a * b) Math.lit_two (LA_apply b n c))

theorem gelu_apply (c : Fin 512) : on A A_main_v168 (ix3 b n c) = Spec.gelu (Spec.U (par A b) n (1024 + c)) := by
  rw [← gate_in_apply A b n c]
  unfold Spec.gelu
  refine congrArg (fun x : EReal => (on A A_main_v18 (ix3 b n c) : EReal) * x) ?_
  exact congrArg₂ (fun a b : EReal => a * b) Math.lit_half (congrArg₂ (fun a b : EReal => a + b) Math.lit_one rfl)

/-- Rows first. -/
theorem turned_apply {M K : ℕ} (X : FVec Ideal ⟨3, ![4, M, K]⟩ .f32) (h : (⟨3, ![4, M, K]⟩ : Shape).Transposes [1, 0, 2] ⟨3, ![M, 4, K]⟩) (b : Fin 4) (n : Fin M) (c : Fin K) :
    transpose ⟨3, ![M, 4, K]⟩ [1, 0, 2] X h (ix3 n b c) = X (ix3 b n c) :=
  transpose_apply [1, 0, 2] X h _ _ fun a => match a with | ⟨0, _⟩ => rfl | ⟨1, _⟩ => rfl | ⟨2, _⟩ => rfl

end Cert.Proof.RefVals
-- ==== Proof.RefLoop.lean ====
module

public import proofs.«01_k».proof.Proof.RefPrep

@[expose] public section

set_option maxRecDepth 16384

noncomputable section

/-! The reference's loop: after `n` trips it holds the recurrence's state and the first `n` rows of the two branches. -/

namespace Cert.Proof.RefVals

open Idealize.ShloMosaic hiding ix1 ix2 ix3 ix4
open Idealize.ShloMosaic.ValueIdx Cert.Proof Cert.Proof.RefOps
open Cert.ReferenceIdeal.Step

/-- The states of the loop. -/
def it (A : Args) : ℕ → State Ideal
  | 0 => Cert.ReferenceIdeal.Step.init A.a0 A.a1 A.a2 A.a3 A.a4 A.a5 A.a6 A.a7 A.a8 A.a9 A.a10 A.a11
  | n + 1 => step n (it A n)

/-- One row of an array of rows. -/
theorem row_apply (X : FVec Ideal ⟨3, ![4096, 4, 512]⟩ .f32) (start : Fin 3 → Int) (h : (⟨3, ![4096, 4, 512]⟩ : Shape).Slices (fun _ => 0) ⟨3, ![1, 4, 512]⟩)
    (hc : (⟨3, ![1, 4, 512]⟩ : Shape).ShapeCasts ⟨2, ![4, 512]⟩) (j : Fin 4096) (h0 : start 0 = (j.val : Int)) (h1 : start 1 = 0) (h2 : start 2 = 0)
    (b : Fin 4) (c : Fin 512) :
    shapeCast ⟨2, ![4, 512]⟩ (Host.dynamicSlice ⟨3, ![1, 4, 512]⟩ X start h) hc (ix2 b c) = X (ix3 j b c) := by
  have hj := j.isLt
  have ho : (⟨3, ![4096, 4, 512]⟩ : Shape).Slices ![j.val, 0, 0] ⟨3, ![1, 4, 512]⟩ := ⟨rfl, fun a => by
    match a with
    | ⟨0, _⟩ => show j.val + 1 ≤ 4096; omega
    | ⟨1, _⟩ => show 0 + 4 ≤ 4; omega
    | ⟨2, _⟩ => show 0 + 512 ≤ 512; omega⟩
  refine (shapeCast_1ab_ab_apply _ _ _ _).trans ?_
  rw [Host.dynamicSlice_eq_extractStridedSlice _ X start ![j.val, 0, 0] h ho (fun a => match a with | ⟨0, _⟩ => h0 | ⟨1, _⟩ => h1 | ⟨2, _⟩ => h2)]
  exact extractStridedSlice_apply _ X ho _ _ fun a => match a with
    | ⟨0, _⟩ => rfl | ⟨1, _⟩ => (Nat.zero_add _).symm | ⟨2, _⟩ => (Nat.zero_add _).symm

/-- One row of an array of rows replaced. -/
theorem replaced_apply (X : FVec Ideal ⟨3, ![4096, 4, 1024]⟩ .f32) (Y : FVec Ideal ⟨3, ![1, 4, 1024]⟩ .f32) (start : Fin 3 → Int)
    (h : (⟨3, ![4096, 4, 1024]⟩ : Shape).Slices (fun _ => 0) ⟨3, ![1, 4, 1024]⟩)
    (j : ℕ) (hj : j < 4096) (h0 : start 0 = (j : Int)) (h1 : start 1 = 0) (h2 : start 2 = 0) (r : Fin 4096) (b : Fin 4) (c : Fin 1024) :
    Host.dynamicUpdateSlice X Y start h (ix3 r b c) = if r.val = j then Y (ix3 0 b c) else X (ix3 r b c) := by
  have k0 : Host.clampedStart (⟨3, ![4096, 4, 1024]⟩ : Shape) ⟨3, ![1, 4, 1024]⟩ h.1 start 0 = j :=
    Host.clampedStart_of_le h.1 start 0 j h0 (show j + 1 ≤ 4096 by omega)
  have k1 : Host.clampedStart (⟨3, ![4096, 4, 1024]⟩ : Shape) ⟨3, ![1, 4, 1024]⟩ h.1 start 1 = 0 :=
    Host.clampedStart_of_le h.1 start 1 0 h1 (show 0 + 4 ≤ 4 by omega)
  have k2 : Host.clampedStart (⟨3, ![4096, 4, 1024]⟩ : Shape) ⟨3, ![1, 4, 1024]⟩ h.1 start 2 = 0 :=
    Host.clampedStart_of_le h.1 start 2 0 h2 (show 0 + 1024 ≤ 1024 by omega)
  have hb := b.isLt
  have hc := c.isLt
  rw [Host.dynamicUpdateSlice_apply]
  by_cases hr : r.val = j
  · rw [if_pos hr]
    refine (dif_pos fun a => ?_).trans (congrArg Y ?_)
    · match a with
      | ⟨0, _⟩ =>
        show Host.clampedStart _ _ h.1 start 0 ≤ r.val ∧ r.val < Host.clampedStart _ _ h.1 start 0 + 1
        omega
      | ⟨1, _⟩ =>
        show Host.clampedStart _ _ h.1 start 1 ≤ b.val ∧ b.val < Host.clampedStart _ _ h.1 start 1 + 4
        omega
      | ⟨2, _⟩ =>
        show Host.clampedStart _ _ h.1 start 2 ≤ c.val ∧ c.val < Host.clampedStart _ _ h.1 start 2 + 1024
        omega
    · funext a
      apply Fin.ext
      rw [Shape.Idx.norm_def]
      match a with
      | ⟨0, _⟩ => show r.val - Host.clampedStart _ _ h.1 start 0 = 0; omega
      | ⟨1, _⟩ => show b.val - Host.clampedStart _ _ h.1 start 1 = b.val; omega
      | ⟨2, _⟩ => show c.val - Host.clampedStart _ _ h.1 start 2 = c.val; omega
  · rw [if_neg hr]
    refine dif_neg fun hin => hr ?_
    have := hin 0
    have e : Host.clampedStart _ _ h.1 start 0 ≤ r.val ∧ r.val < Host.clampedStart _ _ h.1 start 0 + 1 := this
    omega

variable (A : Args)

/-- What the loop only reads stays. -/
theorem it_fixed (n : ℕ) : (it A n).main_v177_0 = on A A_main_v169 ∧ (it A n).main_v177_1 = on A A_main_v170
    ∧ (it A n).main_v177_2 = on A A_main_v171 ∧ (it A n).main_v177_3 = on A A_main_v172 := by
  induction n with
  | zero => exact ⟨rfl, rfl, rfl, rfl⟩
  | succ n ih => exact ih

variable {A}

theorem number (n : ℕ) (hn : n < 4096) : (BitVec.ofNat 32 n).toInt = (n : Int) := Idealize.ShloMosaic.toInt_ofNat_of_lt (by omega)

variable (b : Fin 4)

theorem decay_row (n : Fin 4096) (c : Fin 512) : b3 (F := Ideal) n.val (it A n) (ix2 b c) = Spec.A (par A b) n c := by
  refine (row_apply _ _ _ _ n (number n n.isLt) rfl rfl b c).trans ?_
  rw [(it_fixed A n).1]
  exact (turned_apply (on A A_main_v146) _ b n c).trans (A_apply b n c)

theorem input_row (n : Fin 4096) (c : Fin 512) : b7 (F := Ideal) n.val (it A n) (ix2 b c) = Spec.B (par A b) n c := by
  refine (row_apply _ _ _ _ n (number n n.isLt) rfl rfl b c).trans ?_
  rw [(it_fixed A n).2.1]
  exact (turned_apply (on A A_main_v155) _ b n c).trans (B_apply b n c)

theorem out_gate_row (n : Fin 4096) (c : Fin 512) : b11 (F := Ideal) n.val (it A n) (ix2 b c) = Spec.gelu (Spec.U (par A b) n (1024 + c)) := by
  refine (row_apply _ _ _ _ n (number n n.isLt) rfl rfl b c).trans ?_
  rw [(it_fixed A n).2.2.1]
  exact (turned_apply (on A A_main_v168) _ b n c).trans (gelu_apply b n c)

theorem pool_row (hA : A.Real) (n : Fin 4096) (c : Fin 512) : b15 (F := Ideal) n.val (it A n) (ix2 b c) = Spec.YP (par A b) n c := by
  refine (row_apply _ _ _ _ n (number n n.isLt) rfl rfl b c).trans ?_
  rw [(it_fixed A n).2.2.2]
  exact (turned_apply (on A A_main_v75) _ b n c).trans (YP_apply b n hA c)

/-- The recurrence's state before row `n`. -/
theorem state_apply (c : Fin 512) : ∀ n : ℕ, n ≤ 4096 → (it A n).main_v177_5 (ix2 b c) = Spec.H (par A b) c n
  | 0, _ => Math.lit_zero
  | n + 1, hn => by
    refine congrArg₂ (fun a b : EReal => a + b) (congrArg₂ (fun a b : EReal => a * b) (decay_row b ⟨n, hn⟩ c) (state_apply c n (by omega))) (input_row b ⟨n, hn⟩ c)

/-- The two branches' row, side by side. -/
def both (P : Spec.Par) (n c : ℕ) : EReal := if c < 512 then Spec.YP P n c else Spec.YL P n (c - 512)

theorem pair_apply (hA : A.Real) (n : Fin 4096) (c : Fin 1024) : b20 (F := Ideal) n.val (it A n) (ix3 0 b c) = both (par A b) n c := by
  unfold both
  refine (broadcastInDim_apply ![1, 2] _ (b19 (F := Ideal) n.val (it A n)) _ (ix2 b c)
    (fun a => match a with | ⟨0, _⟩ => (if_neg four).symm | ⟨1, _⟩ => (if_neg (show ¬ (1024 : ℕ) = 1 by decide)).symm)).trans ?_
  by_cases hc : c.val < 512
  · rw [if_pos hc]
    exact (Rows.beside_left (b15 (F := Ideal) n.val (it A n)) (b18 (F := Ideal) n.val (it A n)) (by decide) b c hc).trans (pool_row b hA n ⟨c.val, hc⟩)
  · rw [if_neg hc]
    refine (Rows.beside_right (b15 (F := Ideal) n.val (it A n)) (b18 (F := Ideal) n.val (it A n)) (by decide) b c (⟨c.val - 512, by omega⟩ : Fin 512)
      (show c.val = 512 + (c.val - 512) by omega)).trans ?_
    exact congrArg₂ (fun a b : EReal => a * b) (state_apply b (⟨c.val - 512, by omega⟩ : Fin 512) (n.val + 1) n.isLt) (out_gate_row b n _)

/-- The rows already made. -/
theorem made_apply (hA : A.Real) (c : Fin 1024) : ∀ n : ℕ, n ≤ 4096 → ∀ r : Fin 4096, r.val < n → (it A n).main_v177_6 (ix3 r b c) = both (par A b) r c
  | 0, _, r, hr => absurd hr (Nat.not_lt_zero _)
  | n + 1, hn, r, hr => by
    refine (replaced_apply (it A n).main_v177_6 (b20 (F := Ideal) n (it A n)) _ (by decide) n hn (number n hn) rfl rfl r b c).trans ?_
    by_cases h : r.val = n
    · rw [if_pos h]
      subst h
      exact pair_apply b hA r c
    · rw [if_neg h]
      exact made_apply hA c n (by omega) r (by omega)

end Cert.Proof.RefVals
-- ==== Proof.RefEnd.lean ====
module

public import proofs.«01_k».proof.Proof.RefLoop

@[expose] public section

set_option maxRecDepth 16384

noncomputable section

/-! What follows the reference's loop: the branches joined, the block's feed-forward layer and the last norm. -/

namespace Cert.Proof.RefVals

open Idealize.ShloMosaic hiding ix1 ix2 ix3 ix4
open Idealize.ShloMosaic.ValueIdx Cert.Proof Cert.Proof.RefOps
open Cert.ReferenceIdeal

/-- A norm over rows of 512 with its constants. -/
def narrow (X : FVec Ideal S4x4096x512 .f32) (g : FVec Ideal S512 .f32) : FVec Ideal S4x4096x512 .f32 :=
  normed X g (constant S_ .f32 0x00000000#32) (broadcastInDim S4x4096x1 ![] (by decide) (constant S_ .f32 0x44000000#32))
    (broadcastInDim S4x4096x1 ![] (by decide) (constant S_ .f32 0x358637BD#32)) (by decide) (by decide) (by decide) (by decide) (by decide) (by decide)

/-- A norm over rows of 1024 with its constants. -/
def broad (X : FVec Ideal S4x4096x1024 .f32) (g : FVec Ideal S1024 .f32) : FVec Ideal S4x4096x1024 .f32 :=
  normed X g (constant S_ .f32 0x00000000#32) (broadcastInDim S4x4096x1 ![] (by decide) (constant S_ .f32 0x44800000#32))
    (broadcastInDim S4x4096x1 ![] (by decide) (constant S_ .f32 0x358637BD#32)) (by decide) (by decide) (by decide) (by decide) (by decide) (by decide)

theorem narrow_apply (X : FVec Ideal S4x4096x512 .f32) (g : FVec Ideal S512 .f32) (v gg : ℕ → EReal) (b : Fin 4) (n : Fin 4096)
    (hX : ∀ k : Fin 512, X (ix3 b n k) = v k.val) (hg : ∀ k : Fin 512, g (ix1 k) = gg k.val) (c : Fin 512) :
    narrow X g (ix3 b n c) = Spec.rms 512 Spec.c512 v gg c :=
  normed_apply (by decide) X g _ _ _ _ _ _ _ _ _ (by decide) rfl Spec.c512 (fun _ => rfl) (fun _ => rfl) v gg b n hX hg c

theorem broad_apply (X : FVec Ideal S4x4096x1024 .f32) (g : FVec Ideal S1024 .f32) (v gg : ℕ → EReal) (b : Fin 4) (n : Fin 4096)
    (hX : ∀ k : Fin 1024, X (ix3 b n k) = v k.val) (hg : ∀ k : Fin 1024, g (ix1 k) = gg k.val) (c : Fin 1024) :
    broad X g (ix3 b n c) = Spec.rms 1024 Spec.c1024 v gg c :=
  normed_apply (by decide) X g _ _ _ _ _ _ _ _ _ (by decide) rfl Spec.c1024 (fun _ => rfl) (fun _ => rfl) v gg b n hX hg c

/-- The rows the loop made, a sequence at a time. -/
def back (Y : FVec Ideal S4096x4x1024 .f32) : FVec Ideal S4x4096x1024 .f32 := transpose S4x4096x1024 [1, 0, 2] Y (by decide)

theorem back_apply (Y : FVec Ideal S4096x4x1024 .f32) (b : Fin 4) (n : Fin 4096) (c : Fin 1024) : back Y (ix3 b n c) = Y (ix3 n b c) :=
  transpose_apply [1, 0, 2] Y _ _ _ fun a => match a with | ⟨0, _⟩ => rfl | ⟨1, _⟩ => rfl | ⟨2, _⟩ => rfl

variable (A : Args) (Y : FVec Ideal S4096x4x1024 .f32)

def leftHalf : FVec Ideal S4x4096x512 .f32 :=
  narrow (extractStridedSlice S4x4096x512 ![0, 0, 0] (back Y) (by decide)) (shapeCast S512 A.a12 (by decide))

def rightHalf : FVec Ideal S4x4096x512 .f32 :=
  narrow (extractStridedSlice S4x4096x512 ![0, 0, 512] (back Y) (by decide)) (shapeCast S512 A.a13 (by decide))

theorem halves : Shape.Concatenates [S4x4096x512, S4x4096x512] S4x4096x1024 2 := by decide

def joined : FVec Ideal S4x4096x1024 .f32 :=
  concatenate S4x4096x1024 2 [⟨S4x4096x512, leftHalf A Y⟩, ⟨S4x4096x512, rightHalf A Y⟩] halves

def middle : FVec Ideal S4x4096x1024 .f32 :=
  addf A.a0 (Host.dotGeneral (wide 1024 1024 (by decide)) none (joined A Y) (shapeCast S1024x1024 A.a14 (by decide)))

def second : FVec Ideal S4x4096x1024 .f32 := broad (middle A Y) (shapeCast S1024 A.a15 (by decide))

/-- A product with one of the two wide weights. -/
def lifted (w : FVec Ideal S1x1024x2816 .f32) : FVec Ideal S4x4096x2816 .f32 :=
  Host.dotGeneral (wide 1024 2816 (by decide)) none (second A Y) (shapeCast S1024x2816 w (by decide))

def ones : FVec Ideal S4x4096x2816 .f32 := broadcastInDim S4x4096x2816 ![] (by decide) (constant S_ .f32 0x3F800000#32)

def gated : FVec Ideal S4x4096x2816 .f32 :=
  mulf (mulf (lifted A Y A.a16) (Host.divf ones (addf ones (Host.exp (negf (lifted A Y A.a16)))))) (lifted A Y A.a17)

def last : FVec Ideal S4x4096x1024 .f32 :=
  broad (addf (middle A Y) (Host.dotGeneral (wide 2816 1024 (by decide)) none (gated A Y) (shapeCast S2816x1024 A.a18 (by decide)))) A.a19

set_option maxHeartbeats 4000000 in
theorem last_eq (s : Step.State Ideal) :
    Step.R_main_v248 s A.a0 A.a12 A.a13 A.a14 A.a15 A.a16 A.a17 A.a18 A.a19 = last A s.main_v177_6 := by
  delta Step.R_main_v248
  rfl

variable {A} {Y} {b : Fin 4} (hY : ∀ (n : Fin 4096) (c : Fin 1024), Y (ix3 n b c) = both (par A b) n c) (n : Fin 4096)
include hY

theorem joined_apply (c : Fin 1024) : joined A Y (ix3 b n c) = Spec.MX (par A b) n c := by
  unfold Spec.MX
  by_cases hc : c.val < 512
  · rw [if_pos hc]
    refine (concatenate_pair_apply_left (2 : Fin 3) (leftHalf A Y) (rightHalf A Y) halves (ix3 b n c) rfl (ix3 b n (⟨c.val, hc⟩ : Fin 512)) (fun a => ?_)).trans
      (narrow_apply _ _ (Spec.YP (par A b) n) (par A b).np b n (fun k => ?_) (fun k => ?_) _)
    · match a with
      | ⟨0, _⟩ => rfl
      | ⟨1, _⟩ => rfl
      | ⟨2, _⟩ => rfl
    · refine (cols_apply 0 _ _ b n k (⟨k.val, by omega⟩ : Fin 1024) (Nat.zero_add _).symm).trans ((back_apply Y b n _).trans ((hY n _).trans ?_))
      exact if_pos k.isLt
    · refine (shapeCast_1a_a_apply _ _ _).trans ?_
      show _ = A.a12 (ix2 0 (fn 511 k))
      rw [fn_val]
  · rw [if_neg hc]
    refine (concatenate_pair_apply_right (2 : Fin 3) (leftHalf A Y) (rightHalf A Y) halves (ix3 b n c) rfl rfl (ix3 b n (⟨c.val - 512, by omega⟩ : Fin 512))
      (fun a ha => ?_) ?_).trans (narrow_apply _ _ (Spec.YL (par A b) n) (par A b).nl b n (fun k => ?_) (fun k => ?_) _)
    · match a with
      | ⟨0, _⟩ => rfl
      | ⟨1, _⟩ => rfl
      | ⟨2, _⟩ => exact absurd rfl ha
    · show c.val - 512 + 512 = c.val
      omega
    · refine (cols_apply 512 _ _ b n k (⟨512 + k.val, by omega⟩ : Fin 1024) rfl).trans ((back_apply Y b n _).trans ((hY n _).trans ?_))
      refine (if_neg (by show ¬ 512 + k.val < 512; omega)).trans ?_
      exact congrArg (Spec.YL (par A b) n) (show 512 + k.val - 512 = k.val by omega)
    · refine (shapeCast_1a_a_apply _ _ _).trans ?_
      show _ = A.a13 (ix2 0 (fn 511 k))
      rw [fn_val]

theorem middle_apply (c : Fin 1024) : middle A Y (ix3 b n c) = Spec.H1 (par A b) n c := by
  unfold Spec.H1 Spec.dot
  refine congrArg₂ (fun a b : EReal => a + b) (par_x A b n c).symm ?_
  refine (wide_apply _ (joined A Y) _ b n c).trans (Finset.sum_congr rfl fun k _ => ?_)
  refine congrArg₂ (fun a b : EReal => a * b) (joined_apply hY n k) ((shapeCast_1ab_ab_apply _ _ _ _).trans ?_)
  show _ = A.a14 (ix3 0 (fn 1023 k) (fn 1023 c))
  rw [fn_val, fn_val]

theorem second_apply (c : Fin 1024) : second A Y (ix3 b n c) = Spec.N2 (par A b) n c := by
  refine broad_apply _ _ (Spec.H1 (par A b) n) (par A b).n2 b n (middle_apply hY n) (fun k => ?_) c
  refine (shapeCast_1a_a_apply _ _ _).trans ?_
  show _ = A.a15 (ix2 0 (fn 1023 k))
  rw [fn_val]

theorem lifted_apply (w : FVec Ideal S1x1024x2816 .f32) (c : Fin 2816) :
    lifted A Y w (ix3 b n c) = Spec.dot 1024 (Spec.N2 (par A b) n) (fun k c => w (ix3 0 (fn 1023 k) (fn 2815 c))) c := by
  unfold Spec.dot
  refine (wide_apply _ (second A Y) _ b n c).trans (Finset.sum_congr rfl fun k _ => ?_)
  refine congrArg₂ (fun a b : EReal => a * b) (second_apply hY n k) ((shapeCast_1ab_ab_apply _ _ _ _).trans ?_)
  show _ = w (ix3 0 (fn 1023 k) (fn 2815 c))
  rw [fn_val, fn_val]

theorem gated_apply (c : Fin 2816) : gated A Y (ix3 b n c) = Spec.FF (par A b) n c := by
  have h1 := lifted_apply hY n A.a16 c
  refine congrArg₂ (fun a b : EReal => a * b) (congrArg₂ (fun a b : EReal => a * b) h1 ?_) (lifted_apply hY n A.a17 c)
  refine congrArg₂ Ideal.div Math.lit_one (congrArg₂ (fun a b : EReal => a + b) Math.lit_one (congrArg (fun z : EReal => Ideal.exp (-z)) h1))

theorem last_apply (c : Fin 1024) : last A Y (ix3 b n c) = Spec.OUT (par A b) n c := by
  refine broad_apply _ _ (Spec.H2 (par A b) n) (par A b).nf b n (fun k => ?_) (fun k => ?_) c
  · unfold Spec.H2 Spec.dot
    refine congrArg₂ (fun a b : EReal => a + b) (middle_apply hY n k) ?_
    refine (wide_apply _ (gated A Y) _ b n k).trans (Finset.sum_congr rfl fun j _ => ?_)
    refine congrArg₂ (fun a b : EReal => a * b) (gated_apply hY n j) ((shapeCast_1ab_ab_apply _ _ _ _).trans ?_)
    show _ = A.a18 (ix3 0 (fn 2815 j) (fn 1023 k))
    rw [fn_val, fn_val]
  · show _ = A.a19 (ix1 (fn 1023 k))
    rw [fn_val]

omit hY in
/-- The reference's result, row by row. -/
theorem reference_apply (hA : A.Real) (i : S4x4096x1024.Idx) :
    Step.R_main_v248 (it A 4096) A.a0 A.a12 A.a13 A.a14 A.a15 A.a16 A.a17 A.a18 A.a19 i = Spec.OUT (par A (i 0).val) (i 1).val (i 2).val := by
  rw [last_eq A (it A 4096)]
  have e : i = ix3 (i 0 : Fin 4) (i 1 : Fin 4096) (i 2 : Fin 1024) := by
    funext a
    match a with
    | ⟨0, _⟩ => rfl
    | ⟨1, _⟩ => rfl
    | ⟨2, _⟩ => rfl
  exact (congrArg (last A _) e).trans (last_apply (b := (i 0 : Fin 4)) (fun r c => made_apply (i 0 : Fin 4) hA c 4096 le_rfl r r.isLt) (i 1 : Fin 4096) (i 2 : Fin 1024))

end Cert.Proof.RefVals
-- ==== Proof.RefRun.lean ====
module

public import proofs.«01_k».proof.Proof.Gen.ReferenceIdeal.Run
public import proofs.«01_k».proof.Proof.Gen.ReferenceIdeal.Step

@[expose] public section

noncomputable section

/-! The reference stated over the step of its loop: a valuation that holds a state goes, in one trip, to one that holds
   the next, and the results are read from the state after the last trip. -/

namespace Cert.Proof.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_5 : V0 (Proc.devRef .tc main_v177_5) = s.main_v177_5
  f_6 : V0 (Proc.devRef .tc main_v177_6) = s.main_v177_6
  f_0 : V0 (Proc.devRef .tc main_v177_0) = s.main_v177_0
  f_1 : V0 (Proc.devRef .tc main_v177_1) = s.main_v177_1
  f_2 : V0 (Proc.devRef .tc main_v177_2) = s.main_v177_2
  f_3 : V0 (Proc.devRef .tc main_v177_3) = s.main_v177_3
  n_4 : V0 (Proc.devRef .tc main_v177_4) = constantI S_ 32 (BitVec.ofNat 32 j)

variable {V0 s j}

set_option maxRecDepth 8192 in
theorem al_0 (h : Holds V0 s j) : (constantI S_ 32 0#32 : (Proc.devRef .tc main_while0b_call10_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call10_c_0 : DevRef τ sig).ty.Contents (Elt F)) = Cert.ReferenceIdeal.Step.b1 j s := by
  unfold Cert.ReferenceIdeal.Step.b1
  rfl
set_option maxRecDepth 8192 in
theorem al_2 (h : Holds V0 s j) : (Host.dynamicSlice S1x4x512 (V0 (Proc.devRef .tc main_v177_0)) (fun k => (((![V0 (Proc.devRef .tc main_v177_4), constantI S_ 32 0#32, constantI S_ 32 0#32] : Fin 3 → (⟨S_, .i32⟩ : BufTy).Contents (Elt F))) k (Shape.Idx.first h_S_)).toInt) sliceFits_S4096x4x512_S1x4x512 : (Proc.devRef .tc main_while0b_call10_v0 : DevRef τ sig).ty.Contents (Elt F)) = Cert.ReferenceIdeal.Step.b2 j s := by
  unfold Cert.ReferenceIdeal.Step.b2
  rw [← al_0 h, ← al_1 h, h.f_0, h.n_4]
  try rfl
set_option maxRecDepth 8192 in
theorem al_3 (h : Holds V0 s j) : (shapeCast S4x512 (Host.dynamicSlice S1x4x512 (V0 (Proc.devRef .tc main_v177_0)) (fun k => (((![V0 (Proc.devRef .tc main_v177_4), constantI S_ 32 0#32, constantI S_ 32 0#32] : Fin 3 → (⟨S_, .i32⟩ : BufTy).Contents (Elt F))) k (Shape.Idx.first h_S_)).toInt) sliceFits_S4096x4x512_S1x4x512) shapeCasts_S1x4x512_S4x512 : (Proc.devRef .tc main_while0b_v249 : DevRef τ sig).ty.Contents (Elt F)) = Cert.ReferenceIdeal.Step.b3 j s := by
  unfold Cert.ReferenceIdeal.Step.b3
  rw [← al_2 h]
  try rfl
set_option maxRecDepth 8192 in
theorem al_4 (h : Holds V0 s j) : (constantI S_ 32 0#32 : (Proc.devRef .tc main_while0b_call11_c : DevRef τ sig).ty.Contents (Elt F)) = Cert.ReferenceIdeal.Step.b4 j s := by
  unfold Cert.ReferenceIdeal.Step.b4
  rfl
set_option maxRecDepth 8192 in
theorem al_5 (h : Holds V0 s j) : (constantI S_ 32 0#32 : (Proc.devRef .tc main_while0b_call11_c_0 : DevRef τ sig).ty.Contents (Elt F)) = Cert.ReferenceIdeal.Step.b5 j s := by
  unfold Cert.ReferenceIdeal.Step.b5
  rfl
set_option maxRecDepth 8192 in
theorem al_6 (h : Holds V0 s j) : (Host.dynamicSlice S1x4x512 (V0 (Proc.devRef .tc main_v177_1)) (fun k => (((![V0 (Proc.devRef .tc main_v177_4), constantI S_ 32 0#32, constantI S_ 32 0#32] : Fin 3 → (⟨S_, .i32⟩ : BufTy).Contents (Elt F))) k (Shape.Idx.first h_S_)).toInt) sliceFits_S4096x4x512_S1x4x512 : (Proc.devRef .tc main_while0b_call11_v0 : DevRef τ sig).ty.Contents (Elt F)) = Cert.ReferenceIdeal.Step.b6 j s := by
  unfold Cert.ReferenceIdeal.Step.b6
  rw [← al_4 h, ← al_5 h, h.f_1, h.n_4]
  try rfl
set_option maxRecDepth 8192 in
theorem al_7 (h : Holds V0 s j) : (shapeCast S4x512 (Host.dynamicSlice S1x4x512 (V0 (Proc.devRef .tc main_v177_1)) (fun k => (((![V0 (Proc.devRef .tc main_v177_4), constantI S_ 32 0#32, constantI S_ 32 0#32] : Fin 3 → (⟨S_, .i32⟩ : BufTy).Contents (Elt F))) k (Shape.Idx.first h_S_)).toInt) sliceFits_S4096x4x512_S1x4x512) shapeCasts_S1x4x512_S4x512 : (Proc.devRef .tc main_while0b_v250 : DevRef τ sig).ty.Contents (Elt F)) = Cert.ReferenceIdeal.Step.b7 j s := by
  unfold Cert.ReferenceIdeal.Step.b7
  rw [← al_6 h]
  try rfl
set_option maxRecDepth 8192 in
theorem al_8 (h : Holds V0 s j) : (constantI S_ 32 0#32 : (Proc.devRef .tc main_while0b_call12_c : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call12_c_0 : DevRef τ sig).ty.Contents (Elt F)) = Cert.ReferenceIdeal.Step.b9 j s := by
  unfold Cert.ReferenceIdeal.Step.b9
  rfl
set_option maxRecDepth 8192 in
theorem al_10 (h : Holds V0 s j) : (Host.dynamicSlice S1x4x512 (V0 (Proc.devRef .tc main_v177_2)) (fun k => (((![V0 (Proc.devRef .tc main_v177_4), constantI S_ 32 0#32, constantI S_ 32 0#32] : Fin 3 → (⟨S_, .i32⟩ : BufTy).Contents (Elt F))) k (Shape.Idx.first h_S_)).toInt) sliceFits_S4096x4x512_S1x4x512 : (Proc.devRef .tc main_while0b_call12_v0 : DevRef τ sig).ty.Contents (Elt F)) = Cert.ReferenceIdeal.Step.b10 j s := by
  unfold Cert.ReferenceIdeal.Step.b10
  rw [← al_8 h, ← al_9 h, h.f_2, h.n_4]
  try rfl
set_option maxRecDepth 8192 in
theorem al_11 (h : Holds V0 s j) : (shapeCast S4x512 (Host.dynamicSlice S1x4x512 (V0 (Proc.devRef .tc main_v177_2)) (fun k => (((![V0 (Proc.devRef .tc main_v177_4), constantI S_ 32 0#32, constantI S_ 32 0#32] : Fin 3 → (⟨S_, .i32⟩ : BufTy).Contents (Elt F))) k (Shape.Idx.first h_S_)).toInt) sliceFits_S4096x4x512_S1x4x512) shapeCasts_S1x4x512_S4x512 : (Proc.devRef .tc main_while0b_v251 : DevRef τ sig).ty.Contents (Elt F)) = Cert.ReferenceIdeal.Step.b11 j s := by
  unfold Cert.ReferenceIdeal.Step.b11
  rw [← al_10 h]
  try rfl
set_option maxRecDepth 8192 in
theorem al_12 (h : Holds V0 s j) : (constantI S_ 32 0#32 : (Proc.devRef .tc main_while0b_call13_c : DevRef τ sig).ty.Contents (Elt F)) = Cert.ReferenceIdeal.Step.b12 j s := by
  unfold Cert.ReferenceIdeal.Step.b12
  rfl
set_option maxRecDepth 8192 in
theorem al_13 (h : Holds V0 s j) : (constantI S_ 32 0#32 : (Proc.devRef .tc main_while0b_call13_c_0 : DevRef τ sig).ty.Contents (Elt F)) = Cert.ReferenceIdeal.Step.b13 j s := by
  unfold Cert.ReferenceIdeal.Step.b13
  rfl
set_option maxRecDepth 8192 in
theorem al_14 (h : Holds V0 s j) : (Host.dynamicSlice S1x4x512 (V0 (Proc.devRef .tc main_v177_3)) (fun k => (((![V0 (Proc.devRef .tc main_v177_4), constantI S_ 32 0#32, constantI S_ 32 0#32] : Fin 3 → (⟨S_, .i32⟩ : BufTy).Contents (Elt F))) k (Shape.Idx.first h_S_)).toInt) sliceFits_S4096x4x512_S1x4x512 : (Proc.devRef .tc main_while0b_call13_v0 : DevRef τ sig).ty.Contents (Elt F)) = Cert.ReferenceIdeal.Step.b14 j s := by
  unfold Cert.ReferenceIdeal.Step.b14
  rw [← al_12 h, ← al_13 h, h.f_3, h.n_4]
  try rfl
set_option maxRecDepth 8192 in
theorem al_15 (h : Holds V0 s j) : (shapeCast S4x512 (Host.dynamicSlice S1x4x512 (V0 (Proc.devRef .tc main_v177_3)) (fun k => (((![V0 (Proc.devRef .tc main_v177_4), constantI S_ 32 0#32, constantI S_ 32 0#32] : Fin 3 → (⟨S_, .i32⟩ : BufTy).Contents (Elt F))) k (Shape.Idx.first h_S_)).toInt) sliceFits_S4096x4x512_S1x4x512) shapeCasts_S1x4x512_S4x512 : (Proc.devRef .tc main_while0b_v252 : DevRef τ sig).ty.Contents (Elt F)) = Cert.ReferenceIdeal.Step.b15 j s := by
  unfold Cert.ReferenceIdeal.Step.b15
  rw [← al_14 h]
  try rfl
set_option maxRecDepth 8192 in
theorem al_16 (h : Holds V0 s j) : (mulf (shapeCast S4x512 (Host.dynamicSlice S1x4x512 (V0 (Proc.devRef .tc main_v177_0)) (fun k => (((![V0 (Proc.devRef .tc main_v177_4), constantI S_ 32 0#32, constantI S_ 32 0#32] : Fin 3 → (⟨S_, .i32⟩ : BufTy).Contents (Elt F))) k (Shape.Idx.first h_S_)).toInt) sliceFits_S4096x4x512_S1x4x512) shapeCasts_S1x4x512_S4x512) (V0 (Proc.devRef .tc main_v177_5)) : (Proc.devRef .tc main_while0b_v253 : DevRef τ sig).ty.Contents (Elt F)) = Cert.ReferenceIdeal.Step.b16 j s := by
  unfold Cert.ReferenceIdeal.Step.b16
  rw [← al_3 h, h.f_5]
  try rfl
set_option maxRecDepth 8192 in
theorem al_17 (h : Holds V0 s j) : (res_main_while0b_v254 V0 : (Proc.devRef .tc main_while0b_v254 : DevRef τ sig).ty.Contents (Elt F)) = Cert.ReferenceIdeal.Step.b17 j s := by
  unfold res_main_while0b_v254 Cert.ReferenceIdeal.Step.b17
  rw [← al_16 h, ← al_7 h]
  try rfl
set_option maxRecDepth 8192 in
theorem al_18 (h : Holds V0 s j) : (mulf (res_main_while0b_v254 V0) (shapeCast S4x512 (Host.dynamicSlice S1x4x512 (V0 (Proc.devRef .tc main_v177_2)) (fun k => (((![V0 (Proc.devRef .tc main_v177_4), constantI S_ 32 0#32, constantI S_ 32 0#32] : Fin 3 → (⟨S_, .i32⟩ : BufTy).Contents (Elt F))) k (Shape.Idx.first h_S_)).toInt) sliceFits_S4096x4x512_S1x4x512) shapeCasts_S1x4x512_S4x512) : (Proc.devRef .tc main_while0b_v255 : DevRef τ sig).ty.Contents (Elt F)) = Cert.ReferenceIdeal.Step.b18 j s := by
  unfold Cert.ReferenceIdeal.Step.b18
  rw [← al_17 h, ← al_11 h]
  try rfl
set_option maxRecDepth 8192 in
theorem al_19 (h : Holds V0 s j) : (concatenate S4x1024 1 [⟨S4x512, (shapeCast S4x512 (Host.dynamicSlice S1x4x512 (V0 (Proc.devRef .tc main_v177_3)) (fun k => (((![V0 (Proc.devRef .tc main_v177_4), constantI S_ 32 0#32, constantI S_ 32 0#32] : Fin 3 → (⟨S_, .i32⟩ : BufTy).Contents (Elt F))) k (Shape.Idx.first h_S_)).toInt) sliceFits_S4096x4x512_S1x4x512) shapeCasts_S1x4x512_S4x512)⟩, ⟨S4x512, (mulf (res_main_while0b_v254 V0) (shapeCast S4x512 (Host.dynamicSlice S1x4x512 (V0 (Proc.devRef .tc main_v177_2)) (fun k => (((![V0 (Proc.devRef .tc main_v177_4), constantI S_ 32 0#32, constantI S_ 32 0#32] : Fin 3 → (⟨S_, .i32⟩ : BufTy).Contents (Elt F))) k (Shape.Idx.first h_S_)).toInt) sliceFits_S4096x4x512_S1x4x512) shapeCasts_S1x4x512_S4x512))⟩] concatenates_S4x512_S4x512_S4x1024_d1 : (Proc.devRef .tc main_while0b_v256 : DevRef τ sig).ty.Contents (Elt F)) = Cert.ReferenceIdeal.Step.b19 j s := by
  unfold Cert.ReferenceIdeal.Step.b19
  rw [← al_15 h, ← al_18 h]
  try rfl
set_option maxRecDepth 8192 in
theorem al_20 (h : Holds V0 s j) : (broadcastInDim S1x4x1024 ![1, 2] bcast_S4x1024_S1x4x1024_1_2 (concatenate S4x1024 1 [⟨S4x512, (shapeCast S4x512 (Host.dynamicSlice S1x4x512 (V0 (Proc.devRef .tc main_v177_3)) (fun k => (((![V0 (Proc.devRef .tc main_v177_4), constantI S_ 32 0#32, constantI S_ 32 0#32] : Fin 3 → (⟨S_, .i32⟩ : BufTy).Contents (Elt F))) k (Shape.Idx.first h_S_)).toInt) sliceFits_S4096x4x512_S1x4x512) shapeCasts_S1x4x512_S4x512)⟩, ⟨S4x512, (mulf (res_main_while0b_v254 V0) (shapeCast S4x512 (Host.dynamicSlice S1x4x512 (V0 (Proc.devRef .tc main_v177_2)) (fun k => (((![V0 (Proc.devRef .tc main_v177_4), constantI S_ 32 0#32, constantI S_ 32 0#32] : Fin 3 → (⟨S_, .i32⟩ : BufTy).Contents (Elt F))) k (Shape.Idx.first h_S_)).toInt) sliceFits_S4096x4x512_S1x4x512) shapeCasts_S1x4x512_S4x512))⟩] concatenates_S4x512_S4x512_S4x1024_d1) : (Proc.devRef .tc main_while0b_call14_v0 : DevRef τ sig).ty.Contents (Elt F)) = Cert.ReferenceIdeal.Step.b20 j s := by
  unfold Cert.ReferenceIdeal.Step.b20
  rw [← al_19 h]
  try rfl
set_option maxRecDepth 8192 in
theorem al_21 (h : Holds V0 s j) : (constantI S_ 32 0#32 : (Proc.devRef .tc main_while0b_call14_c : DevRef τ sig).ty.Contents (Elt F)) = Cert.ReferenceIdeal.Step.b21 j s := by
  unfold Cert.ReferenceIdeal.Step.b21
  rfl
set_option maxRecDepth 8192 in
theorem al_22 (h : Holds V0 s j) : (constantI S_ 32 0#32 : (Proc.devRef .tc main_while0b_call14_c_0 : DevRef τ sig).ty.Contents (Elt F)) = Cert.ReferenceIdeal.Step.b22 j s := by
  unfold Cert.ReferenceIdeal.Step.b22
  rfl
set_option maxRecDepth 8192 in
theorem al_23 (h : Holds V0 s j) : (Host.dynamicUpdateSlice (V0 (Proc.devRef .tc main_v177_6)) (broadcastInDim S1x4x1024 ![1, 2] bcast_S4x1024_S1x4x1024_1_2 (concatenate S4x1024 1 [⟨S4x512, (shapeCast S4x512 (Host.dynamicSlice S1x4x512 (V0 (Proc.devRef .tc main_v177_3)) (fun k => (((![V0 (Proc.devRef .tc main_v177_4), constantI S_ 32 0#32, constantI S_ 32 0#32] : Fin 3 → (⟨S_, .i32⟩ : BufTy).Contents (Elt F))) k (Shape.Idx.first h_S_)).toInt) sliceFits_S4096x4x512_S1x4x512) shapeCasts_S1x4x512_S4x512)⟩, ⟨S4x512, (mulf (res_main_while0b_v254 V0) (shapeCast S4x512 (Host.dynamicSlice S1x4x512 (V0 (Proc.devRef .tc main_v177_2)) (fun k => (((![V0 (Proc.devRef .tc main_v177_4), constantI S_ 32 0#32, constantI S_ 32 0#32] : Fin 3 → (⟨S_, .i32⟩ : BufTy).Contents (Elt F))) k (Shape.Idx.first h_S_)).toInt) sliceFits_S4096x4x512_S1x4x512) shapeCasts_S1x4x512_S4x512))⟩] concatenates_S4x512_S4x512_S4x1024_d1)) (fun k => (((![V0 (Proc.devRef .tc main_v177_4), constantI S_ 32 0#32, constantI S_ 32 0#32] : Fin 3 → (⟨S_, .i32⟩ : BufTy).Contents (Elt F))) k (Shape.Idx.first h_S_)).toInt) updateFits_S4096x4x1024_S1x4x1024 : (Proc.devRef .tc main_while0b_v257 : DevRef τ sig).ty.Contents (Elt F)) = Cert.ReferenceIdeal.Step.b23 j s := by
  unfold Cert.ReferenceIdeal.Step.b23
  rw [← al_20 h, ← al_21 h, ← al_22 h, h.f_6, h.n_4]
  try rfl

/-! One trip's step of the carried values is `step`, field by field; a counter steps to the next number. -/

theorem step_5 (h : Holds V0 s j) : step_main_v177_5 V0 = (step j s).main_v177_5 := by
  unfold step_main_v177_5 Cert.ReferenceIdeal.Step.step
  show id (res_main_while0b_v254 V0) = _
  rw [al_17 h]
  try rfl
theorem step_6 (h : Holds V0 s j) : step_main_v177_6 V0 = (step j s).main_v177_6 := by
  unfold step_main_v177_6 Cert.ReferenceIdeal.Step.step
  show id (Host.dynamicUpdateSlice (V0 (Proc.devRef .tc main_v177_6)) (broadcastInDim S1x4x1024 ![1, 2] bcast_S4x1024_S1x4x1024_1_2 (concatenate S4x1024 1 [⟨S4x512, (shapeCast S4x512 (Host.dynamicSlice S1x4x512 (V0 (Proc.devRef .tc main_v177_3)) (fun k => (((![V0 (Proc.devRef .tc main_v177_4), constantI S_ 32 0#32, constantI S_ 32 0#32] : Fin 3 → (⟨S_, .i32⟩ : BufTy).Contents (Elt F))) k (Shape.Idx.first h_S_)).toInt) sliceFits_S4096x4x512_S1x4x512) shapeCasts_S1x4x512_S4x512)⟩, ⟨S4x512, (mulf (res_main_while0b_v254 V0) (shapeCast S4x512 (Host.dynamicSlice S1x4x512 (V0 (Proc.devRef .tc main_v177_2)) (fun k => (((![V0 (Proc.devRef .tc main_v177_4), constantI S_ 32 0#32, constantI S_ 32 0#32] : Fin 3 → (⟨S_, .i32⟩ : BufTy).Contents (Elt F))) k (Shape.Idx.first h_S_)).toInt) sliceFits_S4096x4x512_S1x4x512) shapeCasts_S1x4x512_S4x512))⟩] concatenates_S4x512_S4x512_S4x1024_d1)) (fun k => (((![V0 (Proc.devRef .tc main_v177_4), constantI S_ 32 0#32, constantI S_ 32 0#32] : Fin 3 → (⟨S_, .i32⟩ : BufTy).Contents (Elt F))) k (Shape.Idx.first h_S_)).toInt) updateFits_S4096x4x1024_S1x4x1024) = _
  exact al_23 h
theorem step_4 (h : Holds V0 s j) : step_main_v177_4 V0 = constantI S_ 32 (BitVec.ofNat 32 (j + 1)) := by
  unfold step_main_v177_4
  rw [h.n_4]
  funext i
  show BitVec.ofNat 32 j + 1#32 = BitVec.ofNat 32 (j + 1)
  simp only [BitVec.ofNat_add]

set_option maxRecDepth 8192 in
theorem out_main_v248_holds (h : Holds V0 s j) {x_main_arg0 : (⟨S4x4096x1024, .f32⟩ : BufTy).Contents (Elt F)} (h_main_arg0 : V0 (Proc.devRef .tc main_arg0) = x_main_arg0) {x_main_arg12 : (⟨S1x512, .f32⟩ : BufTy).Contents (Elt F)} (h_main_arg12 : V0 (Proc.devRef .tc main_arg12) = x_main_arg12) {x_main_arg13 : (⟨S1x512, .f32⟩ : BufTy).Contents (Elt F)} (h_main_arg13 : V0 (Proc.devRef .tc main_arg13) = x_main_arg13) {x_main_arg14 : (⟨S1x1024x1024, .f32⟩ : BufTy).Contents (Elt F)} (h_main_arg14 : V0 (Proc.devRef .tc main_arg14) = x_main_arg14) {x_main_arg15 : (⟨S1x1024, .f32⟩ : BufTy).Contents (Elt F)} (h_main_arg15 : V0 (Proc.devRef .tc main_arg15) = x_main_arg15) {x_main_arg16 : (⟨S1x1024x2816, .f32⟩ : BufTy).Contents (Elt F)} (h_main_arg16 : V0 (Proc.devRef .tc main_arg16) = x_main_arg16) {x_main_arg17 : (⟨S1x1024x2816, .f32⟩ : BufTy).Contents (Elt F)} (h_main_arg17 : V0 (Proc.devRef .tc main_arg17) = x_main_arg17) {x_main_arg18 : (⟨S1x2816x1024, .f32⟩ : BufTy).Contents (Elt F)} (h_main_arg18 : V0 (Proc.devRef .tc main_arg18) = x_main_arg18) {x_main_arg19 : (⟨S1024, .f32⟩ : BufTy).Contents (Elt F)} (h_main_arg19 : V0 (Proc.devRef .tc main_arg19) = x_main_arg19) : out_main_v248 V0 = Cert.ReferenceIdeal.Step.R_main_v248 s x_main_arg0 x_main_arg12 x_main_arg13 x_main_arg14 x_main_arg15 x_main_arg16 x_main_arg17 x_main_arg18 x_main_arg19 := by
  unfold out_main_v248 Cert.ReferenceIdeal.Step.R_main_v248
  rw [h.f_6, h_main_arg0, h_main_arg12, h_main_arg13, h_main_arg14, h_main_arg15, h_main_arg16, h_main_arg17, h_main_arg18, h_main_arg19]
  try rfl

/-- One trip keeps the valuation holding: `step` of the state, the same set-up values, the next number. -/
theorem holds_step (h : Holds V0 s j) : Holds (STEP V0) (step j s) (j + 1) where
  f_5 := (STEP_main_v177_5 V0).trans (step_5 h)
  f_6 := (STEP_main_v177_6 V0).trans (step_6 h)
  n_4 := (STEP_main_v177_4 V0).trans (step_4 h)
  f_0 := (STEP_main_v177_0 V0).trans h.f_0
  f_1 := (STEP_main_v177_1 V0).trans h.f_1
  f_2 := (STEP_main_v177_2 V0).trans h.f_2
  f_3 := (STEP_main_v177_3 V0).trans h.f_3

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))

variable (m : (ℓ : Loc nD τ sig) → Buf (Elt F) ℓ) (c : Dev nD)

set_option maxRecDepth 65536 in
set_option maxHeartbeats 1400000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 4096 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v248) = Cert.ReferenceIdeal.Step.R_main_v248 (it c 4096) (m ((c.tc : Thread nD τ).loc main_arg0)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun _ h c =>
    have hk := holds_iter m c (it c) (h0 c) (hs c) 4096
    ⟨(h c).1.trans (out_main_v248_holds hk (iter_main_arg0 m c 4096) (iter_main_arg12 m c 4096) (iter_main_arg13 m c 4096) (iter_main_arg14 m c 4096) (iter_main_arg15 m c 4096) (iter_main_arg16 m c 4096) (iter_main_arg17 m c 4096) (iter_main_arg18 m c 4096) (iter_main_arg19 m c 4096)), (h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2.1, (h c).2.2.2.2.2.2.2.2.2.2.2.2.2.2.2.2.1, (h c).2.2.2.2.2.2.2.2.2.2.2.2.2.2.2.2.2.1, (h c).2.2.2.2.2.2.2.2.2.2.2.2.2.2.2.2.2.2.1, (h c).2.2.2.2.2.2.2.2.2.2.2.2.2.2.2.2.2.2.2.1, (h c).2.2.2.2.2.2.2.2.2.2.2.2.2.2.2.2.2.2.2.2⟩) (Value.run m ρ)

end Cert.Proof.RefRun

end
-- ==== Proof.Given.lean ====
module

public import proofs.«01_k».proof.Proof.Finite
public import proofs.«01_k».proof.Proof.Gen.Pre_finite
public import Idealize.ShloMosaic.Lib.ReduceAll

@[expose] public section

set_option maxRecDepth 16384

noncomputable section

/-! What the precondition says: the first norm's gains and the pooled columns of the input weight are real. -/

namespace Cert.Proof.Given

open Idealize.ShloMosaic
open Idealize.ShloMosaic.ValueIdx Cert.Pre_finite

theorem real_of {x : EReal} (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x with
  | bot => simp [Ideal.cmp] at h
  | coe r => exact ⟨r, rfl⟩
  | top => simp [Ideal.cmp] at h

instance : Subsingleton S_.Idx := ⟨fun _ _ => funext fun a => a.elim0⟩

theorem real (A : Args)
    (h : Cert.Pre_finite.fn (F := Ideal) A.a0 A.a1 A.a2 A.a3 A.a4 A.a5 A.a6 A.a7 A.a8 A.a9 A.a10 A.a11 A.a12 A.a13 A.a14 A.a15 A.a16 A.a17 A.a18 A.a19
      = fun _ => 1#1) : A.Real := by
  have h0 := congrFun h (Shape.Idx.first Cert.Pre_finite.Gen.h_S_)
  obtain ⟨hg, hw⟩ := IntOp.andi_eq_one.1 h0
  refine ⟨fun i => real_of (Host.reduce_andi_all _ _ _ _ _ hg i), fun k c hc => ?_⟩
  obtain ⟨r, hr⟩ := real_of (Host.reduce_andi_all _ _ _ _ _ hw (ix3 (0 : Fin 1) k (⟨c, hc⟩ : Fin 512)))
  refine ⟨r, (Eq.symm ?_).trans hr⟩
  refine extractStridedSlice_apply _ _ Cert.Pre_finite.Gen.slices_S1x1024x1536_S1x1024x512_0_0_0 _ _ fun a => ?_
  match a with
  | ⟨0, _⟩ => rfl
  | ⟨1, _⟩ => exact (Nat.zero_add _).symm
  | ⟨2, _⟩ =>
    show (fn 1535 c).val = 0 + c
    rw [fn_mk (by omega : c < 1535 + 1), Nat.zero_add]

end Cert.Proof.Given
-- ==== Proof.Algebra.lean ====
module

public import proofs.«01_k».proof.Defs
public import proofs.«01_k».proof.Proof.Gen.ReferenceIdeal
public import proofs.«01_k».proof.Proof.Fold
public import proofs.«01_k».proof.Proof.Host
public import proofs.«01_k».proof.Proof.RefEnd
public import proofs.«01_k».proof.Proof.RefRun
public import proofs.«01_k».proof.Proof.Given

@[expose] public section

set_option maxRecDepth 16384

noncomputable section

/-! The kernel and the reference leave the same result. -/

namespace Cert.Proof

open Idealize.ShloMosaic Idealize.SL.Sem

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre he
  refine ⟨fun c => Cert.KernelIdeal.Value.G19 m c, Cert.KernelIdeal.Value.run m g, ?_⟩
  refine (θ_run (Cert.ReferenceIdeal.defs (F := Ideal)) _ _).mono (fun r h c => ⟨(h c).1.trans ?_, (h c).2⟩)
    (RefRun.run_iter m' g' (fun c => RefVals.it (Host.args m c)) (fun c => ?_) fun _ _ => rfl)
  · obtain ⟨e0, e1, e2, e3, e4, e5, e6, e7, e8, e9, e10, e11, -⟩ := he c
    delta RefRun.initState
    rw [e0, e1, e2, e3, e4, e5, e6, e7, e8, e9, e10, e11]
    rfl
  · obtain ⟨e0, -, -, -, -, -, -, -, -, -, -, -, e12, e13, e14, e15, e16, e17, e18, e19⟩ := he c
    rw [e0, e12, e13, e14, e15, e16, e17, e18, e19]
    funext i
    exact (RefVals.reference_apply (Given.real (Host.args m c) (hpre c)) i).trans
      (Block.result_apply m c (fun b => par (Host.args m c) b) (Host.holds m c) i).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.Pre_finite
public import proofs.«01_k».proof.Proof.RefFrame
public import proofs.«01_k».proof.Proof.Algebra
public import Idealize.ShloMosaic.Adequacy
public import Idealize.ShloMosaic.Init

@[expose] public section

noncomputable section

namespace Cert.Proof

open Idealize.ShloMosaic Idealize.SL.Sem Cert.Kernel

/-- The kernel's frames are the generated ones; the idealization rewrote nothing. A frame without a precondition serves under one. -/
theorem claim : Cert.Claim := ⟨Cert.Kernel.Gen.facts, Cert.KernelIdeal.Gen.facts, Cert.ReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, trivial, algebraic⟩

end Cert.Proof

end
